-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_finite_window [hPre_finite_window : Cert.Pre_finite_window.Facts] (m : (ℓ : Loc Cert.WinIdeal.nD Cert.WinIdeal.τ Cert.WinIdeal.sig) → Buf (Elt Ideal) ℓ) : Prop :=
  ∀ c : Dev Cert.WinIdeal.nD,
    (Cert.Pre_finite_window.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2))).1 = (fun _ => 1#1)
    ∧ (Cert.Pre_finite_window.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2))).2 = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_finite_window [hPre_finite_window : Cert.Pre_finite_window.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_finite_window.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2))).1 = (fun _ => 1#1)
    ∧ (Cert.Pre_finite_window.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2))).2 = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4)
      ∧ r.2.mem ((c.tc : Thread Cert.Glu.nD Cert.Glu.τ).loc Cert.Glu.main_arg5) = m ((c.tc : Thread Cert.Glu.nD Cert.Glu.τ).loc Cert.Glu.main_arg5))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
      ∧ r.2.mem ((c.tc : Thread Cert.GluIdeal.nD Cert.GluIdeal.τ).loc Cert.GluIdeal.main_arg5) = m ((c.tc : Thread Cert.GluIdeal.nD Cert.GluIdeal.τ).loc Cert.GluIdeal.main_arg5))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4)
      ∧ r.2.mem ((c.tc : Thread Cert.GluRefIdeal.nD Cert.GluRefIdeal.τ).loc Cert.GluRefIdeal.main_arg5) = m ((c.tc : Thread Cert.GluRefIdeal.nD Cert.GluRefIdeal.τ).loc Cert.GluRefIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinIdeal_pre_finite_window [hWinIdeal : Cert.WinIdeal.Facts] [hPre_finite_window : Cert.Pre_finite_window.Facts] : Prop :=
  ∀ (m : (ℓ : Loc Cert.WinIdeal.nD Cert.WinIdeal.τ Cert.WinIdeal.sig) → Buf (Elt Ideal) ℓ) (g : Dev Cert.WinIdeal.nD → PrngReg), Pre_WinIdeal_finite_window m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_WinRefIdeal_pre_finite_window [hWinRefIdeal : Cert.WinRefIdeal.Facts] [hPre_finite_window : Cert.Pre_finite_window.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_finite_window m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)) →
    ∃ (v0 : (c : Dev Cert.ConvIdeal.nD) → Buf (Elt Ideal) ((c.tc : Thread Cert.ConvIdeal.nD Cert.ConvIdeal.τ).loc Cert.ConvIdeal.main_v8)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v8) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v274) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)
      ∧ m' ((c.tc : Thread Cert.GluRefIdeal.nD Cert.GluRefIdeal.τ).loc Cert.GluRefIdeal.main_arg5) = m ((c.tc : Thread Cert.GluIdeal.nD Cert.GluIdeal.τ).loc Cert.GluIdeal.main_arg5)) →
    ∃ (v0 : (c : Dev Cert.GluIdeal.nD) → Buf (Elt Ideal) ((c.tc : Thread Cert.GluIdeal.nD Cert.GluIdeal.τ).loc Cert.GluIdeal.main_v5)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v5) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
          ∧ r.2.mem ((c.tc : Thread Cert.GluIdeal.nD Cert.GluIdeal.τ).loc Cert.GluIdeal.main_arg5) = m ((c.tc : Thread Cert.GluIdeal.nD Cert.GluIdeal.τ).loc Cert.GluIdeal.main_arg5))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v47) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4)
          ∧ r.2.mem ((c.tc : Thread Cert.GluRefIdeal.nD Cert.GluRefIdeal.τ).loc Cert.GluRefIdeal.main_arg5) = m' ((c.tc : Thread Cert.GluRefIdeal.nD Cert.GluRefIdeal.τ).loc Cert.GluRefIdeal.main_arg5))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v3)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v162) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_Win_WinIdeal : Prop :=
  IdealRules.named_const.Statement Cert.WinIdeal.κ "scale" .f32 0x3E38AA3B#32 (((8 * (Real.log 2))⁻¹ : ℝ) : EReal)
  ∧ IdealRules.named_const.Statement Cert.WinIdeal.κ "mask" .f32 0xF149F2CA#32 ⊥

def algebraic_WinIdeal_WinRefIdeal_pre_finite_window [hWinIdeal : Cert.WinIdeal.Facts] [hWinRefIdeal : Cert.WinRefIdeal.Facts] [hPre_finite_window : Cert.Pre_finite_window.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal_finite_window m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)) →
    ∃ (v0 : (c : Dev Cert.WinIdeal.nD) → Buf (Elt Ideal) ((c.tc : Thread Cert.WinIdeal.nD Cert.WinIdeal.τ).loc Cert.WinIdeal.main_v7)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v7) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v35) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2))

def Claim : Prop :=
  ∃ (hFfn : Cert.Ffn.Facts) (hFfnIdeal : Cert.FfnIdeal.Facts) (hFfnRefIdeal : Cert.FfnRefIdeal.Facts) (hConv : Cert.Conv.Facts) (hConvIdeal : Cert.ConvIdeal.Facts) (hConvRefIdeal : Cert.ConvRefIdeal.Facts) (hGlu : Cert.Glu.Facts) (hGluIdeal : Cert.GluIdeal.Facts) (hGluRefIdeal : Cert.GluRefIdeal.Facts) (hPool : Cert.Pool.Facts) (hPoolIdeal : Cert.PoolIdeal.Facts) (hPoolRefIdeal : Cert.PoolRefIdeal.Facts) (hWin : Cert.Win.Facts) (hWinIdeal : Cert.WinIdeal.Facts) (hWinRefIdeal : Cert.WinRefIdeal.Facts) (hPre_finite_window : Cert.Pre_finite_window.Facts),
    quiescent_Ffn (hFfn := hFfn)
    ∧ quiescent_FfnIdeal (hFfnIdeal := hFfnIdeal)
    ∧ quiescent_FfnRefIdeal (hFfnRefIdeal := hFfnRefIdeal)
    ∧ quiescent_Conv (hConv := hConv)
    ∧ quiescent_ConvIdeal (hConvIdeal := hConvIdeal)
    ∧ quiescent_ConvRefIdeal (hConvRefIdeal := hConvRefIdeal)
    ∧ quiescent_Glu (hGlu := hGlu)
    ∧ quiescent_GluIdeal (hGluIdeal := hGluIdeal)
    ∧ quiescent_GluRefIdeal (hGluRefIdeal := hGluRefIdeal)
    ∧ quiescent_Pool (hPool := hPool)
    ∧ quiescent_PoolIdeal (hPoolIdeal := hPoolIdeal)
    ∧ quiescent_PoolRefIdeal (hPoolRefIdeal := hPoolRefIdeal)
    ∧ quiescent_Win (hWin := hWin)
    ∧ quiescent_WinIdeal (hWinIdeal := hWinIdeal)
    ∧ quiescent_WinIdeal_pre_finite_window (hWinIdeal := hWinIdeal) (hPre_finite_window := hPre_finite_window)
    ∧ quiescent_WinRefIdeal (hWinRefIdeal := hWinRefIdeal)
    ∧ quiescent_WinRefIdeal_pre_finite_window (hWinRefIdeal := hWinRefIdeal) (hPre_finite_window := hPre_finite_window)
    ∧ preserves_Ffn_FfnIdeal
    ∧ algebraic_FfnIdeal_FfnRefIdeal (hFfnIdeal := hFfnIdeal) (hFfnRefIdeal := hFfnRefIdeal)
    ∧ preserves_Conv_ConvIdeal
    ∧ algebraic_ConvIdeal_ConvRefIdeal (hConvIdeal := hConvIdeal) (hConvRefIdeal := hConvRefIdeal)
    ∧ preserves_Glu_GluIdeal
    ∧ algebraic_GluIdeal_GluRefIdeal (hGluIdeal := hGluIdeal) (hGluRefIdeal := hGluRefIdeal)
    ∧ preserves_Pool_PoolIdeal
    ∧ algebraic_PoolIdeal_PoolRefIdeal (hPoolIdeal := hPoolIdeal) (hPoolRefIdeal := hPoolRefIdeal)
    ∧ preserves_Win_WinIdeal
    ∧ algebraic_WinIdeal_WinRefIdeal_pre_finite_window (hWinIdeal := hWinIdeal) (hWinRefIdeal := hWinRefIdeal) (hPre_finite_window := hPre_finite_window)
-- ==== Pre_finite_window.lean ====
abbrev S8x4096x1024 : Shape := ⟨3, ![8, 4096, 1024]⟩
abbrev S8x4x4096x64 : Shape := ⟨4, ![8, 4, 4096, 64]⟩
abbrev S_ : Shape := ⟨0, ![]⟩

class Facts : Prop where
  bcast_S_S8x4096x1024 : S_.BroadcastsInDim S8x4096x1024 (![] : Fin 0 → Fin S8x4096x1024.rank)
  bcast_S_S8x4x4096x64 : S_.BroadcastsInDim S8x4x4096x64 (![] : Fin 0 → Fin S8x4x4096x64.rank)

variable [Facts]

def fn {F : FTy → Type} [FloatOps F] (main_arg0 : FVec F S8x4096x1024 .f32) (main_arg1 : FVec F S8x4x4096x64 .f32) (main_arg2 : FVec F S8x4x4096x64 .f32) : IVec S8x4096x1024 1 × IVec S8x4x4096x64 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x4x4096x64 .f32 := Host.absf main_arg1
  let main_cst_0 : FVec F S_ .f32 := constant S_ .f32 0x7F800000#32
  let main_v4 : FVec F S8x4x4096x64 .f32 := broadcastInDim S8x4x4096x64 ![] bcast_S_S8x4x4096x64 main_cst_0
  let main_v5 : IVec S8x4x4096x64 1 := cmpf .olt main_v3 main_v4
  (main_v2, main_v5)
-- ==== Ffn.lean ====
abbrev S8x4096x1024 : Shape := ⟨3, ![8, 4096, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S1024x2816 : Shape := ⟨2, ![1024, 2816]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S8x4096x1024 : Shape := ⟨3, ![8, 4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S8x4096x5632, .f32⟩
  | .hbm, ⟨21, _⟩ => ⟨S8x4096x2816, .f32⟩
  | .hbm, ⟨22, _⟩ => ⟨S8x4096x2816, .f32⟩
  | .hbm, ⟨23, _⟩ => ⟨S8x4096x2816, .f32⟩
  | .hbm, ⟨24, _⟩ => ⟨S8x4096x2816, .f32⟩
  | .hbm, ⟨25, _⟩ => ⟨S_, .f32⟩
  | .hbm, ⟨26, _⟩ => ⟨S8x4096x2816, .f32⟩
  | .hbm, ⟨27, _⟩ => ⟨S8x4096x2816, .f32⟩
  | .hbm, ⟨28, _⟩ => ⟨S_, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S8x4096x1024, .f32⟩
  | .hbm, ⟨34, _⟩ => ⟨S8x4096x1024, .f32⟩
  | .hbm, ⟨35, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Conv.lean ====
abbrev S8x4096x1024 : Shape := ⟨3, ![8, 4096, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S1x1024 : Shape := ⟨2, ![1, 1024]⟩
abbrev S1x2048 : Shape := ⟨2, ![1, 2048]⟩
abbrev S1x512x1024 : Shape := ⟨3, ![1, 512, 1024]⟩
abbrev S544x1024 : Shape := ⟨2, ![544, 1024]⟩
abbrev S512x1024 : Shape := ⟨2, ![512, 1024]⟩
abbrev S32x1024 : Shape := ⟨2, ![32, 1024]⟩
abbrev S512 : Shape := ⟨1, ![512]⟩
abbrev S512x1 : Shape := ⟨2, ![512, 1]⟩
abbrev S96x128 : Shape := ⟨2, ![96, 128]⟩
abbrev S64x128 : Shape := ⟨2, ![64, 128]⟩
abbrev S1x128 : Shape := ⟨2, ![1, 128]⟩

abbrev nBuf : Space → Nat
  | .hbm => 18
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S31x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x2048, .bf16⟩
  | .hbm, ⟨10, _⟩ => ⟨S1x1024, .f32⟩
  | .hbm, ⟨11, _⟩ => ⟨S1x2048, .f32⟩
  | .hbm, ⟨12, _⟩ => ⟨S1x2048, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1024x1024, .bf16⟩
  | .hbm, ⟨17, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S31x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1x512x1024, .f32⟩
  | .local _ .vmem, ⟨13, _⟩ => ⟨S1x512x1024, .f32⟩
  | .local _ .vmem, ⟨14, _⟩ => ⟨S544x1024, .f32⟩
  | .local _ .vmem, ⟨15, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_20 : BitVec 32 := 0#32
  let c8_i32 : BitVec 32 := 8#32
  let v42 : BitVec 32 := Scalar.addi c0_i32_20 c8_i32
  let c1_i32 : BitVec 32 := 1#32
  ⟨c0_i32_20, v42, c1_i32⟩
def k0_mult1 (k0_t1 : Fin k0_t1_loop.trips) : BitVec 32 :=
  let c0_i32_20 : BitVec 32 := 0#32
  let c1_i32 : BitVec 32 := 1#32
  let arg16 : BitVec 32 := Scf.iv c0_i32_20 c1_i32 k0_t1
  let c64_i32 : BitVec 32 := 64#32
  let v78 : BitVec 32 := Scalar.muli arg16 c64_i32
  v78
def k0_off1 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c64_i32 : BitVec 32 := 64#32
  let v78 : BitVec 32 := Scalar.muli arg16 c64_i32
  let v79 : BitVec 32 := v78
  let v80 : Index := Scalar.indexCast v79
  let c0_39 : Index := 0#32
  ![v80.toNat, 0]
def k0_off2 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c64_i32 : BitVec 32 := 64#32
  let v78 : BitVec 32 := Scalar.muli arg16 c64_i32
  let v79 : BitVec 32 := v78
  let v249 : Index := Scalar.indexCast v79
  let c0_75 : Index := 0#32
  ![v249.toNat, 0]
def k0_off3 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c64_i32 : BitVec 32 := 64#32
  let v78 : BitVec 32 := Scalar.muli arg16 c64_i32
  let v79 : BitVec 32 := v78
  let v253 : Index := Scalar.indexCast v79
  let c128 : Index := 128#32
  ![v253.toNat, 128]
def k0_off4 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c64_i32 : BitVec 32 := 64#32
  let v78 : BitVec 32 := Scalar.muli arg16 c64_i32
  let v79 : BitVec 32 := v78
  let v422 : Index := Scalar.indexCast v79
  let c128_148 : Index := 128#32
  ![v422.toNat, 128]
def k0_off5 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c64_i32 : BitVec 32 := 64#32
  let v78 : BitVec 32 := Scalar.muli arg16 c64_i32
  let v79 : BitVec 32 := v78
  let v426 : Index := Scalar.indexCast v79
  let c256 : Index := 256#32
  ![v426.toNat, 256]
def k0_off6 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c64_i32 : BitVec 32 := 64#32
  let v78 : BitVec 32 := Scalar.muli arg16 c64_i32
  let v79 : BitVec 32 := v78
  let v595 : Index := Scalar.indexCast v79
  let c256_221 : Index := 256#32
  ![v595.toNat, 256]
def k0_off7 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c64_i32 : BitVec 32 := 64#32
  let v78 : BitVec 32 := Scalar.muli arg16 c64_i32
  let v79 : BitVec 32 := v78
  let v599 : Index := Scalar.indexCast v79
  let c384 : Index := 384#32
  ![v599.toNat, 384]
def k0_off8 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c64_i32 : BitVec 32 := 64#32
  let v78 : BitVec 32 := Scalar.muli arg16 c64_i32
  let v79 : BitVec 32 := v78
  let v768 : Index := Scalar.indexCast v79
  let c384_294 : Index := 384#32
  ![v768.toNat, 384]
def k0_off9 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c64_i32 : BitVec 32 := 64#32
  let v78 : BitVec 32 := Scalar.muli arg16 c64_i32
  let v79 : BitVec 32 := v78
  let v772 : Index := Scalar.indexCast v79
  let c512 : Index := 512#32
  ![v772.toNat, 512]
def k0_off10 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c64_i32 : BitVec 32 := 64#32
  let v78 : BitVec 32 := Scalar.muli arg16 c64_i32
  let v79 : BitVec 32 := v78
  let v941 : Index := Scalar.indexCast v79
  let c512_367 : Index := 512#32
  ![v941.toNat, 512]
def k0_off11 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c64_i32 : BitVec 32 := 64#32
  let v78 : BitVec 32 := Scalar.muli arg16 c64_i32
  let v79 : BitVec 32 := v78
  let v945 : Index := Scalar.indexCast v79
  let c640 : Index := 640#32
  ![v945.toNat, 640]
def k0_off12 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c64_i32 : BitVec 32 := 64#32
  let v78 : BitVec 32 := Scalar.muli arg16 c64_i32
  let v79 : BitVec 32 := v78
  let v1114 : Index := Scalar.indexCast v79
  let c640_440 : Index := 640#32
  ![v1114.toNat, 640]
def k0_off13 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c64_i32 : BitVec 32 := 64#32
  let v78 : BitVec 32 := Scalar.muli arg16 c64_i32
  let v79 : BitVec 32 := v78
  let v1118 : Index := Scalar.indexCast v79
  let c768 : Index := 768#32
  ![v1118.toNat, 768]
def k0_off14 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c64_i32 : BitVec 32 := 64#32
  let v78 : BitVec 32 := Scalar.muli arg16 c64_i32
  let v79 : BitVec 32 := v78
  let v1287 : Index := Scalar.indexCast v79
  let c768_513 : Index := 768#32
  ![v1287.toNat, 768]
def k0_off15 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c64_i32 : BitVec 32 := 64#32
  let v78 : BitVec 32 := Scalar.muli arg16 c64_i32
  let v79 : BitVec 32 := v78
  let v1291 : Index := Scalar.indexCast v79
  let c896 : Index := 896#32
  ![v1291.toNat, 896]
def k0_off16 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c64_i32 : BitVec 32 := 64#32
  let v78 : BitVec 32 := Scalar.muli arg16 c64_i32
  let v79 : BitVec 32 := v78
  let v1460 : Index := Scalar.indexCast v79
  let c896_586 : Index := 896#32
  ![v1460.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S31x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ConvRefIdeal.lean ====
abbrev S8x4096x1024 : Shape := ⟨3, ![8, 4096, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2048 : Shape := ⟨3, ![8, 4096, 2048]⟩
abbrev S1x1x2048 : Shape := ⟨3, ![1, 1, 2048]⟩
abbrev S8x4126x1024 : Shape := ⟨3, ![8, 4126, 1024]⟩
abbrev S1x1024 : Shape := ⟨2, ![1, 1024]⟩

abbrev nBuf : Space → Nat
  | .hbm => 305
  | .vmem => 0
  | .smem => 0
  | _ => 0

abbrev hbmTy0_0 (i : Nat) : BufTy := match i % 128 with
  | 0 => ⟨S8x4096x1024, .f32⟩
  | 1 => ⟨S1024, .f32⟩
  | 2 => ⟨S1024x2048, .f32⟩
  | 3 => ⟨S2048, .f32⟩
  | 4 => ⟨S31x1024, .f32⟩
  | 5 => ⟨S1024, .f32⟩
  | 6 => ⟨S1024, .f32⟩
  | 7 => ⟨S1024, .f32⟩
  | 8 => ⟨S1024x1024, .f32⟩
  | 9 => ⟨S8x4096x1024, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x1024, .f32⟩
  | 21 => ⟨S8x4096x1024, .f32⟩
  | 22 => ⟨S1x1x1024, .f32⟩
  | 23 => ⟨S8x4096x1024, .f32⟩
  | 24 => ⟨S8x4096x1024, .f32⟩
  | 25 => ⟨S8x4096x2048, .f32⟩
  | 26 => ⟨S1x1x2048, .f32⟩
  | 27 => ⟨S8x4096x2048, .f32⟩
  | 28 => ⟨S8x4096x2048, .f32⟩
  | 29 => ⟨S8x4096x1024, .f32⟩
  | 30 => ⟨S8x4096x1024, .f32⟩
  | 31 => ⟨S8x4096x1024, .f32⟩
  | 32 => ⟨S8x4096x1024, .f32⟩
  | 33 => ⟨S_, .f32⟩
  | 34 => ⟨S8x4096x1024, .f32⟩
  | 35 => ⟨S8x4096x1024, .f32⟩
  | 36 => ⟨S_, .f32⟩
  | 37 => ⟨S8x4096x1024, .f32⟩
  | 38 => ⟨S8x4096x1024, .f32⟩
  | 39 => ⟨S8x4096x1024, .f32⟩
  | 40 => ⟨S_, .i32⟩
  | 41 => ⟨S_, .f32⟩
  | 42 => ⟨S8x4126x1024, .f32⟩
  | 43 => ⟨S8x4096x1024, .f32⟩
  | 44 => ⟨S1x1024, .f32⟩
  | 45 => ⟨S1024, .f32⟩
  | 46 => ⟨S1x1x1024, .f32⟩
  | 47 => ⟨S8x4096x1024, .f32⟩
  | 48 => ⟨S8x4096x1024, .f32⟩
  | 49 => ⟨S_, .f32⟩
  | 50 => ⟨S8x4096x1024, .f32⟩
  | 51 => ⟨S8x4096x1024, .f32⟩
  | 52 => ⟨S8x4096x1024, .f32⟩
  | 53 => ⟨S1x1024, .f32⟩
  | 54 => ⟨S1024, .f32⟩
  | 55 => ⟨S1x1x1024, .f32⟩
  | 56 => ⟨S8x4096x1024, .f32⟩
  | 57 => ⟨S8x4096x1024, .f32⟩
  | 58 => ⟨S8x4096x1024, .f32⟩
  | 59 => ⟨S8x4096x1024, .f32⟩
  | 60 => ⟨S1x1024, .f32⟩
  | 61 => ⟨S1024, .f32⟩
  | 62 => ⟨S1x1x1024, .f32⟩
  | 63 => ⟨S8x4096x1024, .f32⟩
  | 64 => ⟨S8x4096x1024, .f32⟩
  | 65 => ⟨S8x4096x1024, .f32⟩
  | 66 => ⟨S8x4096x1024, .f32⟩
  | 67 => ⟨S1x1024, .f32⟩
  | 68 => ⟨S1024, .f32⟩
  | 69 => ⟨S1x1x1024, .f32⟩
  | 70 => ⟨S8x4096x1024, .f32⟩
  | 71 => ⟨S8x4096x1024, .f32⟩
  | 72 => ⟨S8x4096x1024, .f32⟩
  | 73 => ⟨S8x4096x1024, .f32⟩
  | 74 => ⟨S1x1024, .f32⟩
  | 75 => ⟨S1024, .f32⟩
  | 76 => ⟨S1x1x1024, .f32⟩
  | 77 => ⟨S8x4096x1024, .f32⟩
  | 78 => ⟨S8x4096x1024, .f32⟩
  | 79 => ⟨S8x4096x1024, .f32⟩
  | 80 => ⟨S8x4096x1024, .f32⟩
  | 81 => ⟨S1x1024, .f32⟩
  | 82 => ⟨S1024, .f32⟩
  | 83 => ⟨S1x1x1024, .f32⟩
  | 84 => ⟨S8x4096x1024, .f32⟩
  | 85 => ⟨S8x4096x1024, .f32⟩
  | 86 => ⟨S8x4096x1024, .f32⟩
  | 87 => ⟨S8x4096x1024, .f32⟩
  | 88 => ⟨S1x1024, .f32⟩
  | 89 => ⟨S1024, .f32⟩
  | 90 => ⟨S1x1x1024, .f32⟩
  | 91 => ⟨S8x4096x1024, .f32⟩
  | 92 => ⟨S8x4096x1024, .f32⟩
  | 93 => ⟨S8x4096x1024, .f32⟩
  | 94 => ⟨S8x4096x1024, .f32⟩
  | 95 => ⟨S1x1024, .f32⟩
  | 96 => ⟨S1024, .f32⟩
  | 97 => ⟨S1x1x1024, .f32⟩
  | 98 => ⟨S8x4096x1024, .f32⟩
  | 99 => ⟨S8x4096x1024, .f32⟩
  | 100 => ⟨S8x4096x1024, .f32⟩
  | 101 => ⟨S8x4096x1024, .f32⟩
  | 102 => ⟨S1x1024, .f32⟩
  | 103 => ⟨S1024, .f32⟩
  | 104 => ⟨S1x1x1024, .f32⟩
  | 105 => ⟨S8x4096x1024, .f32⟩
  | 106 => ⟨S8x4096x1024, .f32⟩
  | 107 => ⟨S8x4096x1024, .f32⟩
  | 108 => ⟨S8x4096x1024, .f32⟩
  | 109 => ⟨S1x1024, .f32⟩
  | 110 => ⟨S1024, .f32⟩
  | 111 => ⟨S1x1x1024, .f32⟩
  | 112 => ⟨S8x4096x1024, .f32⟩
  | 113 => ⟨S8x4096x1024, .f32⟩
  | 114 => ⟨S8x4096x1024, .f32⟩
  | 115 => ⟨S8x4096x1024, .f32⟩
  | 116 => ⟨S1x1024, .f32⟩
  | 117 => ⟨S1024, .f32⟩
  | 118 => ⟨S1x1x1024, .f32⟩
  | 119 => ⟨S8x4096x1024, .f32⟩
  | 120 => ⟨S8x4096x1024, .f32⟩
  | 121 => ⟨S8x4096x1024, .f32⟩
  | 122 => ⟨S8x4096x1024, .f32⟩
  | 123 => ⟨S1x1024, .f32⟩
  | 124 => ⟨S1024, .f32⟩
  | 125 => ⟨S1x1x1024, .f32⟩
  | 126 => ⟨S8x4096x1024, .f32⟩
  | 127 => ⟨S8x4096x1024, .f32⟩
  | _ => ⟨S8x4096x1024, .f32⟩

abbrev hbmTy0_1 (i : Nat) : BufTy := match i % 128 with
  | 0 => ⟨S8x4096x1024, .f32⟩
  | 1 => ⟨S8x4096x1024, .f32⟩
  | 2 => ⟨S1x1024, .f32⟩
  | 3 => ⟨S1024, .f32⟩
  | 4 => ⟨S1x1x1024, .f32⟩
  | 5 => ⟨S8x4096x1024, .f32⟩
  | 6 => ⟨S8x4096x1024, .f32⟩
  | 7 => ⟨S8x4096x1024, .f32⟩
  | 8 => ⟨S8x4096x1024, .f32⟩
  | 9 => ⟨S1x1024, .f32⟩
  | 10 => ⟨S1024, .f32⟩
  | 11 => ⟨S1x1x1024, .f32⟩
  | 12 => ⟨S8x4096x1024, .f32⟩
  | 13 => ⟨S8x4096x1024, .f32⟩
  | 14 => ⟨S8x4096x1024, .f32⟩
  | 15 => ⟨S8x4096x1024, .f32⟩
  | 16 => ⟨S1x1024, .f32⟩
  | 17 => ⟨S1024, .f32⟩
  | 18 => ⟨S1x1x1024, .f32⟩
  | 19 => ⟨S8x4096x1024, .f32⟩
  | 20 => ⟨S8x4096x1024, .f32⟩
  | 21 => ⟨S8x4096x1024, .f32⟩
  | 22 => ⟨S8x4096x1024, .f32⟩
  | 23 => ⟨S1x1024, .f32⟩
  | 24 => ⟨S1024, .f32⟩
  | 25 => ⟨S1x1x1024, .f32⟩
  | 26 => ⟨S8x4096x1024, .f32⟩
  | 27 => ⟨S8x4096x1024, .f32⟩
  | 28 => ⟨S8x4096x1024, .f32⟩
  | 29 => ⟨S8x4096x1024, .f32⟩
  | 30 => ⟨S1x1024, .f32⟩
  | 31 => ⟨S1024, .f32⟩
  | 32 => ⟨S1x1x1024, .f32⟩
  | 33 => ⟨S8x4096x1024, .f32⟩
  | 34 => ⟨S8x4096x1024, .f32⟩
  | 35 => ⟨S8x4096x1024, .f32⟩
  | 36 => ⟨S8x4096x1024, .f32⟩
  | 37 => ⟨S1x1024, .f32⟩
  | 38 => ⟨S1024, .f32⟩
  | 39 => ⟨S1x1x1024, .f32⟩
  | 40 => ⟨S8x4096x1024, .f32⟩
  | 41 => ⟨S8x4096x1024, .f32⟩
  | 42 => ⟨S8x4096x1024, .f32⟩
  | 43 => ⟨S8x4096x1024, .f32⟩
  | 44 => ⟨S1x1024, .f32⟩
  | 45 => ⟨S1024, .f32⟩
  | 46 => ⟨S1x1x1024, .f32⟩
  | 47 => ⟨S8x4096x1024, .f32⟩
  | 48 => ⟨S8x4096x1024, .f32⟩
  | 49 => ⟨S8x4096x1024, .f32⟩
  | 50 => ⟨S8x4096x1024, .f32⟩
  | 51 => ⟨S1x1024, .f32⟩
  | 52 => ⟨S1024, .f32⟩
  | 53 => ⟨S1x1x1024, .f32⟩
  | 54 => ⟨S8x4096x1024, .f32⟩
  | 55 => ⟨S8x4096x1024, .f32⟩
  | 56 => ⟨S8x4096x1024, .f32⟩
  | 57 => ⟨S8x4096x1024, .f32⟩
  | 58 => ⟨S1x1024, .f32⟩
  | 59 => ⟨S1024, .f32⟩
  | 60 => ⟨S1x1x1024, .f32⟩
  | 61 => ⟨S8x4096x1024, .f32⟩
  | 62 => ⟨S8x4096x1024, .f32⟩
  | 63 => ⟨S8x4096x1024, .f32⟩
  | 64 => ⟨S8x4096x1024, .f32⟩
  | 65 => ⟨S1x1024, .f32⟩
  | 66 => ⟨S1024, .f32⟩
  | 67 => ⟨S1x1x1024, .f32⟩
  | 68 => ⟨S8x4096x1024, .f32⟩
  | 69 => ⟨S8x4096x1024, .f32⟩
  | 70 => ⟨S8x4096x1024, .f32⟩
  | 71 => ⟨S8x4096x1024, .f32⟩
  | 72 => ⟨S1x1024, .f32⟩
  | 73 => ⟨S1024, .f32⟩
  | 74 => ⟨S1x1x1024, .f32⟩
  | 75 => ⟨S8x4096x1024, .f32⟩
  | 76 => ⟨S8x4096x1024, .f32⟩
  | 77 => ⟨S8x4096x1024, .f32⟩
  | 78 => ⟨S8x4096x1024, .f32⟩
  | 79 => ⟨S1x1024, .f32⟩
  | 80 => ⟨S1024, .f32⟩
  | 81 => ⟨S1x1x1024, .f32⟩
  | 82 => ⟨S8x4096x1024, .f32⟩
  | 83 => ⟨S8x4096x1024, .f32⟩
  | 84 => ⟨S8x4096x1024, .f32⟩
  | 85 => ⟨S8x4096x1024, .f32⟩
  | 86 => ⟨S1x1024, .f32⟩
  | 87 => ⟨S1024, .f32⟩
  | 88 => ⟨S1x1x1024, .f32⟩
  | 89 => ⟨S8x4096x1024, .f32⟩
  | 90 => ⟨S8x4096x1024, .f32⟩
  | 91 => ⟨S8x4096x1024, .f32⟩
  | 92 => ⟨S8x4096x1024, .f32⟩
  | 93 => ⟨S1x1024, .f32⟩
  | 94 => ⟨S1024, .f32⟩
  | 95 => ⟨S1x1x1024, .f32⟩
  | 96 => ⟨S8x4096x1024, .f32⟩
  | 97 => ⟨S8x4096x1024, .f32⟩
  | 98 => ⟨S8x4096x1024, .f32⟩
  | 99 => ⟨S8x4096x1024, .f32⟩
  | 100 => ⟨S1x1024, .f32⟩
  | 101 => ⟨S1024, .f32⟩
  | 102 => ⟨S1x1x1024, .f32⟩
  | 103 => ⟨S8x4096x1024, .f32⟩
  | 104 => ⟨S8x4096x1024, .f32⟩
  | 105 => ⟨S8x4096x1024, .f32⟩
  | 106 => ⟨S8x4096x1024, .f32⟩
  | 107 => ⟨S1x1024, .f32⟩
  | 108 => ⟨S1024, .f32⟩
  | 109 => ⟨S1x1x1024, .f32⟩
  | 110 => ⟨S8x4096x1024, .f32⟩
  | 111 => ⟨S8x4096x1024, .f32⟩
  | 112 => ⟨S8x4096x1024, .f32⟩
  | 113 => ⟨S8x4096x1024, .f32⟩
  | 114 => ⟨S1x1024, .f32⟩
  | 115 => ⟨S1024, .f32⟩
  | 116 => ⟨S1x1x1024, .f32⟩
  | 117 => ⟨S8x4096x1024, .f32⟩
  | 118 => ⟨S8x4096x1024, .f32⟩
  | 119 => ⟨S8x4096x1024, .f32⟩
  | 120 => ⟨S8x4096x1024, .f32⟩
  | 121 => ⟨S1x1024, .f32⟩
  | 122 => ⟨S1024, .f32⟩
  | 123 => ⟨S1x1x1024, .f32⟩
  | 124 => ⟨S8x4096x1024, .f32⟩
  | 125 => ⟨S8x4096x1024, .f32⟩
  | 126 => ⟨S8x4096x1024, .f32⟩
  | 127 => ⟨S8x4096x1024, .f32⟩
  | _ => ⟨S8x4096x1024, .f32⟩

abbrev hbmTy0_2 (i : Nat) : BufTy := match i % 128 with
  | 0 => ⟨S1x1024, .f32⟩
  | 1 => ⟨S1024, .f32⟩
  | 2 => ⟨S1x1x1024, .f32⟩
  | 3 => ⟨S8x4096x1024, .f32⟩
  | 4 => ⟨S8x4096x1024, .f32⟩
  | 5 => ⟨S8x4096x1024, .f32⟩
  | 6 => ⟨S1x1x1024, .f32⟩
  | 7 => ⟨S8x4096x1024, .f32⟩
  | 8 => ⟨S8x4096x1024, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S8x4096x1024, .f32⟩
  | 16 => ⟨S8x4096x1024, .f32⟩
  | 17 => ⟨S8x4096x1024, .f32⟩
  | 18 => ⟨S_, .f32⟩
  | 19 => ⟨S8x4096, .f32⟩
  | 20 => ⟨S8x4096x1, .f32⟩
  | 21 => ⟨S_, .f32⟩
  | 22 => ⟨S8x4096x1, .f32⟩
  | 23 => ⟨S8x4096x1, .f32⟩
  | 24 => ⟨S8x4096x1024, .f32⟩
  | 25 => ⟨S8x4096x1024, .f32⟩
  | 26 => ⟨S_, .f32⟩
  | 27 => ⟨S8x4096x1, .f32⟩
  | 28 => ⟨S8x4096x1, .f32⟩
  | 29 => ⟨S8x4096x1, .f32⟩
  | 30 => ⟨S8x4096x1024, .f32⟩
  | 31 => ⟨S8x4096x1024, .f32⟩
  | 32 => ⟨S1x1x1024, .f32⟩
  | 33 => ⟨S8x4096x1024, .f32⟩
  | 34 => ⟨S8x4096x1024, .f32⟩
  | 35 => ⟨S1x1x1024, .f32⟩
  | 36 => ⟨S8x4096x1024, .f32⟩
  | 37 => ⟨S8x4096x1024, .f32⟩
  | 38 => ⟨S8x4096x1024, .f32⟩
  | 39 => ⟨S8x4096x1024, .f32⟩
  | 40 => ⟨S_, .f32⟩
  | 41 => ⟨S8x4096x1024, .f32⟩
  | 42 => ⟨S8x4096x1024, .f32⟩
  | 43 => ⟨S_, .f32⟩
  | 44 => ⟨S8x4096x1024, .f32⟩
  | 45 => ⟨S8x4096x1024, .f32⟩
  | 46 => ⟨S8x4096x1024, .f32⟩
  | 47 => ⟨S8x4096x1024, .f32⟩
  | 48 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_cst_5 : Ref sig .tc := ⟨.hbm, 265, rfl⟩
abbrev main_v248 : Ref sig .tc := ⟨.hbm, 266, rfl⟩
abbrev main_v249 : Ref sig .tc := ⟨.hbm, 267, rfl⟩
abbrev main_cst_6 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_cst_7 : Ref sig .tc := ⟨.hbm, 274, rfl⟩
abbrev main_v255 : Ref sig .tc := ⟨.hbm, 275, rfl⟩
abbrev main_v256 : Ref sig .tc := ⟨.hbm, 276, rfl⟩
abbrev main_cst_8 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_cst_9 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_call1_v0 : Ref sig .tc := ⟨.hbm, 294, rfl⟩
abbrev main_call1_v1 : Ref sig .tc := ⟨.hbm, 295, rfl⟩
abbrev main_call1_cst : Ref sig .tc := ⟨.hbm, 296, rfl⟩
abbrev main_call1_v2 : Ref sig .tc := ⟨.hbm, 297, rfl⟩
abbrev main_call1_v3 : Ref sig .tc := ⟨.hbm, 298, rfl⟩
abbrev main_call1_cst_0 : Ref sig .tc := ⟨.hbm, 299, rfl⟩
abbrev main_call1_v4 : Ref sig .tc := ⟨.hbm, 300, rfl⟩
abbrev main_call1_v5 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩

abbrev nD : Nat := 1
abbrev τ : Topo := Topo.v7x

variable {F : FTy → Type} [FloatOps F]
-- ==== Glu.lean ====
abbrev S8x4096x1024 : Shape := ⟨3, ![8, 4096, 1024]⟩
abbrev S1024 : Shape := ⟨1, ![1024]⟩
abbrev S1024x2048 : Shape := ⟨2, ![1024, 2048]⟩
abbrev S2048 : Shape := ⟨1, ![2048]⟩
abbrev S32768x1024 : Shape := ⟨2, ![32768, 1024]⟩
abbrev S1x1024 : Shape := ⟨2, ![1, 1024]⟩
abbrev S1x2048 : Shape := ⟨2, ![1, 2048]⟩
abbrev S512x1024 : Shape := ⟨2, ![512, 1024]⟩
abbrev S8x64x1024 : Shape := ⟨3, ![8, 64, 1024]⟩
abbrev S8x512x128 : Shape := ⟨3, ![8, 512, 128]⟩
abbrev S1x64x128 : Shape := ⟨3, ![1, 64, 128]⟩
abbrev S64x128 : Shape := ⟨2, ![64, 128]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩
abbrev S512x2048 : Shape := ⟨2, ![512, 2048]⟩

abbrev nBuf : Space → Nat
  | .hbm => 12
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S32768x1024, .f32⟩
  | .hbm, ⟨7, _⟩ => ⟨S1x1024, .f32⟩
  | .hbm, ⟨8, _⟩ => ⟨S1x1024, .f32⟩
  | .hbm, ⟨9, _⟩ => ⟨S1024x2048, .bf16⟩
  | .hbm, ⟨10, _⟩ => ⟨S1x2048, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S8x64x1024, .f32⟩
  | .local _ .vmem, ⟨3, _⟩ => ⟨S8x64x1024, .f32⟩
  | .local _ .vmem, ⟨4, _⟩ => ⟨S1x1024, .f32⟩
  | .local _ .vmem, ⟨5, _⟩ => ⟨S1x1024, .f32⟩
  | .local _ .vmem, ⟨6, _⟩ => ⟨S1024x2048, .bf16⟩
  | .local _ .vmem, ⟨7, _⟩ => ⟨S1x2048, .f32⟩
  | .local _ .vmem, ⟨8, _⟩ => ⟨S512x1024, .f32⟩
  | .local _ .vmem, ⟨9, _⟩ => ⟨S512x1024, .f32⟩
  | .local _ .vmem, ⟨10, _⟩ => ⟨S8x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GluRefIdeal.lean ====
abbrev S8x4096x1024 : Shape := ⟨3, ![8, 4096, 1024]⟩
abbrev S1024 : Shape := ⟨1, ![1024]⟩
abbrev S1024x2048 : Shape := ⟨2, ![1024, 2048]⟩
abbrev S2048 : Shape := ⟨1, ![2048]⟩
abbrev S8x4096x8x128 : Shape := ⟨4, ![8, 4096, 8, 128]⟩
abbrev S4096x8x8x128 : Shape := ⟨4, ![4096, 8, 8, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2048 : Shape := ⟨3, ![8, 4096, 2048]⟩
abbrev S1x1x2048 : Shape := ⟨3, ![1, 1, 2048]⟩
abbrev S32768x1024 : Shape := ⟨2, ![32768, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S8x4096x8x128, .f32⟩
  | .hbm, ⟨7, _⟩ => ⟨S4096x8x8x128, .f32⟩
  | .hbm, ⟨8, _⟩ => ⟨S8x4096x1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x4096x1024, .f32⟩
  | .hbm, ⟨41, _⟩ => ⟨S8x4096x1024, .f32⟩
  | .hbm, ⟨42, _⟩ => ⟨S_, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x2048, .f32⟩
  | .hbm, ⟨47, _⟩ => ⟨S1x1x2048, .f32⟩
  | .hbm, ⟨48, _⟩ => ⟨S8x4096x2048, .f32⟩
  | .hbm, ⟨49, _⟩ => ⟨S8x4096x2048, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S_, .f32⟩
  | .hbm, ⟨55, _⟩ => ⟨S8x4096x1024, .f32⟩
  | .hbm, ⟨56, _⟩ => ⟨S8x4096x1024, .f32⟩
  | .hbm, ⟨57, _⟩ => ⟨S_, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Pool.lean ====
abbrev S8x4096x1024 : Shape := ⟨3, ![8, 4096, 1024]⟩
abbrev S1024 : Shape := ⟨1, ![1024]⟩
abbrev S4x256x256 : Shape := ⟨3, ![4, 256, 256]⟩
abbrev S1x1024 : Shape := ⟨2, ![1, 1024]⟩
abbrev S1x512x1024 : Shape := ⟨3, ![1, 512, 1024]⟩
abbrev S528x1024 : Shape := ⟨2, ![528, 1024]⟩
abbrev S16x1024 : Shape := ⟨2, ![16, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S1x512x256 : Shape := ⟨3, ![1, 512, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S1x1024, .f32⟩
  | .hbm, ⟨5, _⟩ => ⟨S4x256x256, .bf16⟩
  | .hbm, ⟨6, _⟩ => ⟨S1x1024, .f32⟩
  | .hbm, ⟨7, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S4x256x256, .bf16⟩
  | .local _ .vmem, ⟨4, _⟩ => ⟨S1x1024, .f32⟩
  | .local _ .vmem, ⟨5, _⟩ => ⟨S1x512x1024, .f32⟩
  | .local _ .vmem, ⟨6, _⟩ => ⟨S1x512x1024, .f32⟩
  | .local _ .vmem, ⟨7, _⟩ => ⟨S528x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolRefIdeal.lean ====
abbrev S8x4096x1024 : Shape := ⟨3, ![8, 4096, 1024]⟩
abbrev S1024 : Shape := ⟨1, ![1024]⟩
abbrev S4x256x256 : Shape := ⟨3, ![4, 256, 256]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S4096 : Shape := ⟨1, ![4096]⟩
abbrev S1x4096x1 : Shape := ⟨3, ![1, 4096, 1]⟩
abbrev S8x4096x256 : Shape := ⟨3, ![8, 4096, 256]⟩
abbrev S8x4097x256 : Shape := ⟨3, ![8, 4097, 256]⟩
abbrev S1x256x256 : Shape := ⟨3, ![1, 256, 256]⟩
abbrev S256x256 : Shape := ⟨2, ![256, 256]⟩
abbrev S8x4099x256 : Shape := ⟨3, ![8, 4099, 256]⟩
abbrev S8x4103x256 : Shape := ⟨3, ![8, 4103, 256]⟩
abbrev S8x4111x256 : Shape := ⟨3, ![8, 4111, 256]⟩

abbrev nBuf : Space → Nat
  | .hbm => 198
  | .vmem => 0
  | .smem => 0
  | _ => 0

abbrev hbmTy0_0 (i : Nat) : BufTy := match i % 128 with
  | 0 => ⟨S8x4096x1024, .f32⟩
  | 1 => ⟨S1024, .f32⟩
  | 2 => ⟨S4x256x256, .f32⟩
  | 3 => ⟨S1024, .f32⟩
  | 4 => ⟨S8x4096x1024, .f32⟩
  | 5 => ⟨S_, .f32⟩
  | 6 => ⟨S8x4096, .f32⟩
  | 7 => ⟨S8x4096x1, .f32⟩
  | 8 => ⟨S_, .f32⟩
  | 9 => ⟨S8x4096x1, .f32⟩
  | 10 => ⟨S8x4096x1, .f32⟩
  | 11 => ⟨S_, .f32⟩
  | 12 => ⟨S8x4096x1, .f32⟩
  | 13 => ⟨S8x4096x1, .f32⟩
  | 14 => ⟨S8x4096x1, .f32⟩
  | 15 => ⟨S8x4096x1024, .f32⟩
  | 16 => ⟨S8x4096x1024, .f32⟩
  | 17 => ⟨S1x1x1024, .f32⟩
  | 18 => ⟨S8x4096x1024, .f32⟩
  | 19 => ⟨S8x4096x1024, .f32⟩
  | 20 => ⟨S4096, .i32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S_, .i32⟩
  | 31 => ⟨S4096, .i32⟩
  | 32 => ⟨S4096, .i32⟩
  | 33 => ⟨S4096, .i32⟩
  | 34 => ⟨S4096, .f32⟩
  | 35 => ⟨S1x4096x1, .f32⟩
  | 36 => ⟨S8x4096x256, .f32⟩
  | 37 => ⟨S_, .i32⟩
  | 38 => ⟨S_, .f32⟩
  | 39 => ⟨S8x4097x256, .f32⟩
  | 40 => ⟨S8x4096x256, .f32⟩
  | 41 => ⟨S_, .f32⟩
  | 42 => ⟨S8x4096x256, .f32⟩
  | 43 => ⟨S8x4096x256, .f32⟩
  | 44 => ⟨S8x4096x256, .f32⟩
  | 45 => ⟨S8x4096x256, .f32⟩
  | 46 => ⟨S8x4096x256, .f32⟩
  | 47 => ⟨S8x4096x256, .f32⟩
  | 48 => ⟨S8x4096x256, .f32⟩
  | 49 => ⟨S8x4096x256, .f32⟩
  | 50 => ⟨S1x256x256, .f32⟩
  | 51 => ⟨S256x256, .f32⟩
  | 52 => ⟨S8x4096x256, .f32⟩
  | 53 => ⟨S_, .i32⟩
  | 54 => ⟨S4096, .i32⟩
  | 55 => ⟨S4096, .i32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S_, .i32⟩
  | 63 => ⟨S4096, .i32⟩
  | 64 => ⟨S4096, .i32⟩
  | 65 => ⟨S4096, .i32⟩
  | 66 => ⟨S4096, .f32⟩
  | 67 => ⟨S1x4096x1, .f32⟩
  | 68 => ⟨S8x4096x256, .f32⟩
  | 69 => ⟨S_, .i32⟩
  | 70 => ⟨S_, .f32⟩
  | 71 => ⟨S8x4099x256, .f32⟩
  | 72 => ⟨S8x4096x256, .f32⟩
  | 73 => ⟨S_, .f32⟩
  | 74 => ⟨S8x4096x256, .f32⟩
  | 75 => ⟨S8x4096x256, .f32⟩
  | 76 => ⟨S8x4096x256, .f32⟩
  | 77 => ⟨S8x4096x256, .f32⟩
  | 78 => ⟨S8x4096x256, .f32⟩
  | 79 => ⟨S8x4096x256, .f32⟩
  | 80 => ⟨S8x4096x256, .f32⟩
  | 81 => ⟨S8x4096x256, .f32⟩
  | 82 => ⟨S8x4096x256, .f32⟩
  | 83 => ⟨S8x4096x256, .f32⟩
  | 84 => ⟨S8x4096x256, .f32⟩
  | 85 => ⟨S8x4096x256, .f32⟩
  | 86 => ⟨S1x256x256, .f32⟩
  | 87 => ⟨S256x256, .f32⟩
  | 88 => ⟨S8x4096x256, .f32⟩
  | 89 => ⟨S_, .i32⟩
  | 90 => ⟨S4096, .i32⟩
  | 91 => ⟨S4096, .i32⟩
  | 92 => ⟨S_, .i32⟩
  | 93 => ⟨S4096, .i32⟩
  | 94 => ⟨S4096, .i32⟩
  | 95 => ⟨S_, .i32⟩
  | 96 => ⟨S4096, .i32⟩
  | 97 => ⟨S4096, .i32⟩
  | 98 => ⟨S_, .i32⟩
  | 99 => ⟨S4096, .i32⟩
  | 100 => ⟨S4096, .i32⟩
  | 101 => ⟨S4096, .i32⟩
  | 102 => ⟨S4096, .f32⟩
  | 103 => ⟨S1x4096x1, .f32⟩
  | 104 => ⟨S8x4096x256, .f32⟩
  | 105 => ⟨S_, .i32⟩
  | 106 => ⟨S_, .f32⟩
  | 107 => ⟨S8x4103x256, .f32⟩
  | 108 => ⟨S8x4096x256, .f32⟩
  | 109 => ⟨S_, .f32⟩
  | 110 => ⟨S8x4096x256, .f32⟩
  | 111 => ⟨S8x4096x256, .f32⟩
  | 112 => ⟨S8x4096x256, .f32⟩
  | 113 => ⟨S8x4096x256, .f32⟩
  | 114 => ⟨S8x4096x256, .f32⟩
  | 115 => ⟨S8x4096x256, .f32⟩
  | 116 => ⟨S8x4096x256, .f32⟩
  | 117 => ⟨S8x4096x256, .f32⟩
  | 118 => ⟨S8x4096x256, .f32⟩
  | 119 => ⟨S8x4096x256, .f32⟩
  | 120 => ⟨S8x4096x256, .f32⟩
  | 121 => ⟨S8x4096x256, .f32⟩
  | 122 => ⟨S8x4096x256, .f32⟩
  | 123 => ⟨S8x4096x256, .f32⟩
  | 124 => ⟨S8x4096x256, .f32⟩
  | 125 => ⟨S8x4096x256, .f32⟩
  | 126 => ⟨S8x4096x256, .f32⟩
  | 127 => ⟨S8x4096x256, .f32⟩
  | _ => ⟨S8x4096x1024, .f32⟩

abbrev hbmTy0_1 (i : Nat) : BufTy := match i % 128 with
  | 0 => ⟨S8x4096x256, .f32⟩
  | 1 => ⟨S8x4096x256, .f32⟩
  | 2 => ⟨S1x256x256, .f32⟩
  | 3 => ⟨S256x256, .f32⟩
  | 4 => ⟨S8x4096x256, .f32⟩
  | 5 => ⟨S_, .i32⟩
  | 6 => ⟨S4096, .i32⟩
  | 7 => ⟨S4096, .i32⟩
  | 8 => ⟨S_, .i32⟩
  | 9 => ⟨S4096, .i32⟩
  | 10 => ⟨S4096, .i32⟩
  | 11 => ⟨S_, .i32⟩
  | 12 => ⟨S4096, .i32⟩
  | 13 => ⟨S4096, .i32⟩
  | 14 => ⟨S_, .i32⟩
  | 15 => ⟨S4096, .i32⟩
  | 16 => ⟨S4096, .i32⟩
  | 17 => ⟨S4096, .i32⟩
  | 18 => ⟨S4096, .f32⟩
  | 19 => ⟨S1x4096x1, .f32⟩
  | 20 => ⟨S8x4096x256, .f32⟩
  | 21 => ⟨S_, .i32⟩
  | 22 => ⟨S_, .f32⟩
  | 23 => ⟨S8x4111x256, .f32⟩
  | 24 => ⟨S8x4096x256, .f32⟩
  | 25 => ⟨S_, .f32⟩
  | 26 => ⟨S8x4096x256, .f32⟩
  | 27 => ⟨S8x4096x256, .f32⟩
  | 28 => ⟨S8x4096x256, .f32⟩
  | 29 => ⟨S8x4096x256, .f32⟩
  | 30 => ⟨S8x4096x256, .f32⟩
  | 31 => ⟨S8x4096x256, .f32⟩
  | 32 => ⟨S8x4096x256, .f32⟩
  | 33 => ⟨S8x4096x256, .f32⟩
  | 34 => ⟨S8x4096x256, .f32⟩
  | 35 => ⟨S8x4096x256, .f32⟩
  | 36 => ⟨S8x4096x256, .f32⟩
  | 37 => ⟨S8x4096x256, .f32⟩
  | 38 => ⟨S8x4096x256, .f32⟩
  | 39 => ⟨S8x4096x256, .f32⟩
  | 40 => ⟨S8x4096x256, .f32⟩
  | 41 => ⟨S8x4096x256, .f32⟩
  | 42 => ⟨S8x4096x256, .f32⟩
  | 43 => ⟨S8x4096x256, .f32⟩
  | 44 => ⟨S8x4096x256, .f32⟩
  | 45 => ⟨S8x4096x256, .f32⟩
  | 46 => ⟨S8x4096x256, .f32⟩
  | 47 => ⟨S8x4096x256, .f32⟩
  | 48 => ⟨S8x4096x256, .f32⟩
  | 49 => ⟨S8x4096x256, .f32⟩
  | 50 => ⟨S8x4096x256, .f32⟩
  | 51 => ⟨S8x4096x256, .f32⟩
  | 52 => ⟨S8x4096x256, .f32⟩
  | 53 => ⟨S8x4096x256, .f32⟩
  | 54 => ⟨S8x4096x256, .f32⟩
  | 55 => ⟨S8x4096x256, .f32⟩
  | 56 => ⟨S8x4096x256, .f32⟩
  | 57 => ⟨S8x4096x256, .f32⟩
  | 58 => ⟨S8x4096x256, .f32⟩
  | 59 => ⟨S8x4096x256, .f32⟩
  | 60 => ⟨S8x4096x256, .f32⟩
  | 61 => ⟨S8x4096x256, .f32⟩
  | 62 => ⟨S1x256x256, .f32⟩
  | 63 => ⟨S256x256, .f32⟩
  | 64 => ⟨S8x4096x256, .f32⟩
  | 65 => ⟨S8x4096x1024, .f32⟩
  | 66 => ⟨S1x1x1024, .f32⟩
  | 67 => ⟨S8x4096x1024, .f32⟩
  | 68 => ⟨S8x4096x1024, .f32⟩
  | 69 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_c_9 : Ref sig .tc := ⟨.hbm, 59, rfl⟩
abbrev main_v43 : Ref sig .tc := ⟨.hbm, 60, rfl⟩
abbrev main_v44 : Ref sig .tc := ⟨.hbm, 61, rfl⟩
abbrev main_c_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_11 : Ref sig .tc := ⟨.hbm, 69, rfl⟩
abbrev main_call1_v0 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_13 : Ref sig .tc := ⟨.hbm, 89, rfl⟩
abbrev main_v68 : Ref sig .tc := ⟨.hbm, 90, rfl⟩
abbrev main_v69 : Ref sig .tc := ⟨.hbm, 91, rfl⟩
abbrev main_c_14 : Ref sig .tc := ⟨.hbm, 92, rfl⟩
abbrev main_v70 : Ref sig .tc := ⟨.hbm, 93, rfl⟩
abbrev main_v71 : Ref sig .tc := ⟨.hbm, 94, rfl⟩
abbrev main_c_15 : Ref sig .tc := ⟨.hbm, 95, rfl⟩
abbrev main_v72 : Ref sig .tc := ⟨.hbm, 96, rfl⟩
abbrev main_v73 : Ref sig .tc := ⟨.hbm, 97, rfl⟩
abbrev main_c_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_17 : Ref sig .tc := ⟨.hbm, 105, rfl⟩
abbrev main_call2_v0 : Ref sig .tc := ⟨.hbm, 106, rfl⟩
abbrev main_v80 : Ref sig .tc := ⟨.hbm, 107, rfl⟩
abbrev main_v81 : Ref sig .tc := ⟨.hbm, 108, rfl⟩
abbrev main_cst_18 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_c_19 : Ref sig .tc := ⟨.hbm, 133, rfl⟩
abbrev main_v105 : Ref sig .tc := ⟨.hbm, 134, rfl⟩
abbrev main_v106 : Ref sig .tc := ⟨.hbm, 135, rfl⟩
abbrev main_c_20 : Ref sig .tc := ⟨.hbm, 136, rfl⟩
abbrev main_v107 : Ref sig .tc := ⟨.hbm, 137, rfl⟩
abbrev main_v108 : Ref sig .tc := ⟨.hbm, 138, rfl⟩
abbrev main_c_21 : Ref sig .tc := ⟨.hbm, 139, rfl⟩
abbrev main_v109 : Ref sig .tc := ⟨.hbm, 140, rfl⟩
abbrev main_v110 : Ref sig .tc := ⟨.hbm, 141, rfl⟩
abbrev main_c_22 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_c_23 : Ref sig .tc := ⟨.hbm, 149, rfl⟩
abbrev main_call3_v0 : Ref sig .tc := ⟨.hbm, 150, rfl⟩
abbrev main_v117 : Ref sig .tc := ⟨.hbm, 151, rfl⟩
abbrev main_v118 : Ref sig .tc := ⟨.hbm, 152, rfl⟩
abbrev main_cst_24 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩

abbrev nD : Nat := 1
abbrev τ : Topo := Topo.v7x

variable {F : FTy → Type} [FloatOps F]
-- ==== Win.lean ====
abbrev S8x4096x1024 : Shape := ⟨3, ![8, 4096, 1024]⟩
abbrev S8x4x4096x64 : Shape := ⟨4, ![8, 4, 4096, 64]⟩
abbrev S_ : Shape := ⟨0, ![]⟩
abbrev S8x4x4096x128 : Shape := ⟨4, ![8, 4, 4096, 128]⟩
abbrev S1x256x256 : Shape := ⟨3, ![1, 256, 256]⟩
abbrev S1x1x256x64 : Shape := ⟨4, ![1, 1, 256, 64]⟩
abbrev S1x1x256x128 : Shape := ⟨4, ![1, 1, 256, 128]⟩
abbrev S1x256x64 : Shape := ⟨3, ![1, 256, 64]⟩
abbrev S256x64 : Shape := ⟨2, ![256, 64]⟩
abbrev S1024x64 : Shape := ⟨2, ![1024, 64]⟩
abbrev S256x1 : Shape := ⟨2, ![256, 1]⟩
abbrev S1x256 : Shape := ⟨2, ![1, 256]⟩
abbrev S1024x256 : Shape := ⟨2, ![1024, 256]⟩
abbrev S256x256 : Shape := ⟨2, ![256, 256]⟩
abbrev S256 : Shape := ⟨1, ![256]⟩
abbrev S256x128 : Shape := ⟨2, ![256, 128]⟩

abbrev nBuf : Space → Nat
  | .hbm => 12
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4x4096x64, .f32⟩
  | .hbm, ⟨2, _⟩ => ⟨S8x4x4096x64, .f32⟩
  | .hbm, ⟨3, _⟩ => ⟨S8x4x4096x64, .i32⟩
  | .hbm, ⟨4, _⟩ => ⟨S_, .i32⟩
  | .hbm, ⟨5, _⟩ => ⟨S8x4x4096x64, .i32⟩
  | .hbm, ⟨6, _⟩ => ⟨S8x4x4096x64, .i1⟩
  | .hbm, ⟨7, _⟩ => ⟨S8x4x4096x64, .f32⟩
  | .hbm, ⟨8, _⟩ => ⟨S8x4x4096x128, .f32⟩
  | .hbm, ⟨9, _⟩ => ⟨S8x4x4096x128, .bf16⟩
  | .hbm, ⟨10, _⟩ => ⟨S8x4x4096x64, .bf16⟩
  | .hbm, ⟨11, _⟩ => ⟨S8x4096x1024, .bf16⟩
  | .local _ .vmem, ⟨0, _⟩ => ⟨S1x256x256, .f32⟩
  | .local _ .vmem, ⟨1, _⟩ => ⟨S1x256x256, .f32⟩
  | .local _ .vmem, ⟨2, _⟩ => ⟨S1x1x256x64, .bf16⟩
  | .local _ .vmem, ⟨3, _⟩ => ⟨S1x1x256x64, .bf16⟩
  | .local _ .vmem, ⟨4, _⟩ => ⟨S1x1x256x64, .bf16⟩
  | .local _ .vmem, ⟨5, _⟩ => ⟨S1x1x256x64, .bf16⟩
  | .local _ .vmem, ⟨6, _⟩ => ⟨S1x1x256x64, .bf16⟩
  | .local _ .vmem, ⟨7, _⟩ => ⟨S1x1x256x64, .bf16⟩
  | .local _ .vmem, ⟨8, _⟩ => ⟨S1x1x256x128, .bf16⟩
  | .local _ .vmem, ⟨9, _⟩ => ⟨S1x1x256x128, .bf16⟩
  | .local _ .vmem, ⟨10, _⟩ => ⟨S1x1x256x128, .bf16⟩
  | .local _ .vmem, ⟨11, _⟩ => ⟨S1x1x256x128, .bf16⟩
  | .local _ .vmem, ⟨12, _⟩ => ⟨S1x1x256x128, .bf16⟩
  | .local _ .vmem, ⟨13, _⟩ => ⟨S1x1x256x128, .bf16⟩
  | .local _ .vmem, ⟨14, _⟩ => ⟨S1x256x256, .bf16⟩
  | .local _ .vmem, ⟨15, _⟩ => ⟨S1x256x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  let c0_i32_1 : BitVec 32 := 0#32
  ![arg0.toNat, arg1.toNat, v1.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg0.toNat, arg1.toNat, v1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c0_i32_1 : BitVec 32 := 0#32
  let c0_i32_2 : BitVec 32 := 0#32
  ![arg0.toNat, arg1.toNat, v1.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  let c0_i32_1 : BitVec 32 := 0#32
  ![arg0.toNat, arg1.toNat, v1.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg0.toNat, arg1.toNat, v1.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let v1 : BitVec 32 := Scalar.maxsi v0 c0_i32_0
  let c0_i32_1 : BitVec 32 := 0#32
  let c0_i32_2 : BitVec 32 := 0#32
  ![arg0.toNat, arg1.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== WinIdeal.lean ====
variable {F : FTy → Type} [FloatOps F] [Named F]
def κ : String → Option EReal := fun
  | "mask" => some ⊥
  | "scale" => some (((8 * (Real.log 2))⁻¹ : ℝ) : EReal)
  | _ => none
-- ==== WinRefIdeal.lean ====
abbrev S8x4096x1024 : Shape := ⟨3, ![8, 4096, 1024]⟩
abbrev S8x4x4096x64 : Shape := ⟨4, ![8, 4, 4096, 64]⟩
abbrev S8x4096x4x4x64 : Shape := ⟨5, ![8, 4096, 4, 4, 64]⟩
abbrev S8x4x4x4096x64 : Shape := ⟨5, ![8, 4, 4, 4096, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x4x4x4096x4096 : Shape := ⟨5, ![8, 4, 4, 4096, 4096]⟩
abbrev S8x4x4x4096 : Shape := ⟨4, ![8, 4, 4, 4096]⟩
abbrev S8x4x4x4096x1 : Shape := ⟨5, ![8, 4, 4, 4096, 1]⟩
abbrev S1x1x1x4096x4096 : Shape := ⟨5, ![1, 1, 1, 4096, 4096]⟩

abbrev nBuf : Space → Nat
  | .hbm => 49
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4x4096x64, .f32⟩
  | .hbm, ⟨2, _⟩ => ⟨S8x4x4096x64, .f32⟩
  | .hbm, ⟨3, _⟩ => ⟨S8x4096x4x4x64, .f32⟩
  | .hbm, ⟨4, _⟩ => ⟨S8x4x4x4096x64, .f32⟩
  | .hbm, ⟨5, _⟩ => ⟨S4096, .i32⟩
  | .hbm, ⟨6, _⟩ => ⟨S4096x1, .i32⟩
  | .hbm, ⟨7, _⟩ => ⟨S1x4096, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S_, .i32⟩
  | .hbm, ⟨12, _⟩ => ⟨S4096x4096, .i32⟩
  | .hbm, ⟨13, _⟩ => ⟨S4096x4096, .i1⟩
  | .hbm, ⟨14, _⟩ => ⟨S_, .i32⟩
  | .hbm, ⟨15, _⟩ => ⟨S4096x4096, .i32⟩
  | .hbm, ⟨16, _⟩ => ⟨S4096x4096, .i1⟩
  | .hbm, ⟨17, _⟩ => ⟨S4096x4096, .i1⟩
  | .hbm, ⟨18, _⟩ => ⟨S8x4x4x4096x4096, .f32⟩
  | .hbm, ⟨19, _⟩ => ⟨S_, .f32⟩
  | .hbm, ⟨20, _⟩ => ⟨S8x4x4x4096x4096, .f32⟩
  | .hbm, ⟨21, _⟩ => ⟨S8x4x4x4096x4096, .f32⟩
  | .hbm, ⟨22, _⟩ => ⟨S_, .f32⟩
  | .hbm, ⟨23, _⟩ => ⟨S_, .f32⟩
  | .hbm, ⟨24, _⟩ => ⟨S8x4x4x4096x4096, .i1⟩
  | .hbm, ⟨25, _⟩ => ⟨S8x4x4x4096x4096, .f32⟩
  | .hbm, ⟨26, _⟩ => ⟨S8x4x4x4096x4096, .f32⟩
  | .hbm, ⟨27, _⟩ => ⟨S_, .f32⟩
  | .hbm, ⟨28, _⟩ => ⟨S8x4x4x4096, .f32⟩
  | .hbm, ⟨29, _⟩ => ⟨S_, .f32⟩
  | .hbm, ⟨30, _⟩ => ⟨S8x4x4x4096, .f32⟩
  | .hbm, ⟨31, _⟩ => ⟨S8x4x4x4096, .f32⟩
  | .hbm, ⟨32, _⟩ => ⟨S8x4x4x4096x1, .f32⟩
  | .hbm, ⟨33, _⟩ => ⟨S8x4x4x4096x4096, .f32⟩
  | .hbm, ⟨34, _⟩ => ⟨S8x4x4x4096x4096, .f32⟩
  | .hbm, ⟨35, _⟩ => ⟨S8x4x4x4096x4096, .f32⟩
  | .hbm, ⟨36, _⟩ => ⟨S_, .f32⟩
  | .hbm, ⟨37, _⟩ => ⟨S8x4x4x4096, .f32⟩
  | .hbm, ⟨38, _⟩ => ⟨S8x4x4x4096x1, .f32⟩
  | .hbm, ⟨39, _⟩ => ⟨S8x4x4x4096x4096, .f32⟩
  | .hbm, ⟨40, _⟩ => ⟨S8x4x4x4096x4096, .f32⟩
  | .hbm, ⟨41, _⟩ => ⟨S4096x4096, .f32⟩
  | .hbm, ⟨42, _⟩ => ⟨S1x1x1x4096x4096, .f32⟩
  | .hbm, ⟨43, _⟩ => ⟨S8x4x4x4096x4096, .f32⟩
  | .hbm, ⟨44, _⟩ => ⟨S8x4x4x4096x4096, .f32⟩
  | .hbm, ⟨45, _⟩ => ⟨S8x4x4x4096x64, .f32⟩
  | .hbm, ⟨46, _⟩ => ⟨S8x4096x4x4x64, .f32⟩
  | .hbm, ⟨47, _⟩ => ⟨S8x4096x1024, .f32⟩
  | .hbm, ⟨48, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Proof.FfnValue.lean ====
module

public import proofs.«01_k».proof.Proof.Gen.FfnIdeal.Value
public import proofs.«01_k».proof.Proof.Gen.FfnRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-! ## One row of the layer -/

/-- A row scaled by the reciprocal root of its mean square, times the gain. -/
def normRow (x n : Fin 1024 → EReal) (k : Fin 1024) : EReal :=
  x k * Ideal.rsqrt (Ideal.div (∑ l : Fin 1024, x l * x l) (Ideal.ofBits .f32 0x44800000#32) + Ideal.ofBits .f32 0x358637BD#32) * n k

/-- The gate and the other half of the row's first projection: `g · σ(g) · u`. -/
def gated (h : Fin 1024 → EReal) (w1 w2 : Fin 1024 → EReal) : EReal :=
  (∑ k, h k * w1 k) * Ideal.logistic (∑ k, h k * w1 k) * ∑ k, h k * w2 k

/-- The row plus its gated feed-forward image, at column `c`. -/
def ffnRow (x n : Fin 1024 → EReal) (wi : Fin 1024 → Fin 5632 → EReal) (wo : Fin 2816 → Fin 1024 → EReal) (c : Fin 1024) : EReal :=
  x c + ∑ j : Fin 2816, gated (normRow x n) (fun k => wi k ⟨j.val, by omega⟩) (fun k => wi k ⟨2816 + j.val, by omega⟩) * wo j c

/-! ## The kernel's payloads at an index -/

/-- The activation the tiles of the scratch are cut from. -/
def act (h : FVec Ideal S512x1024 .bf16) (w1 w2 : FVec Ideal S1024x2816 .bf16) (y : S512x2816.Idx) : EReal :=
  gated (fun k => h (ix2 (y 0) k)) (fun k => w1 (ix2 k (y 1))) (fun k => w2 (ix2 k (y 1)))

theorem pay5_apply (x0 : FVec Ideal S512x1024 .f32) (x1 : FVec Ideal S1x1024 .f32) (r : Fin 512) (k : Fin 1024) :
    k0_pay5 (F := Ideal) x0 x1 (ix2 r k) = normRow (fun k => x0 (ix2 r k)) (fun k => x1 (ix2 0 k)) k := by
  pointwise [k0_pay5, k0_pay4]
  rfl

theorem pay3_apply (x0 : FVec Ideal S512x1024 .f32) (x1 : FVec Ideal S512x2816 .bf16) (x2 : FVec Ideal S2816x1024 .bf16) (x : S512x1024.Idx) :
    k0_pay3 (F := Ideal) (k0_pay4 x0) x1 x2 x = x0 x + ∑ j : Fin 2816, x1 (ix2 (x 0) j) * x2 (ix2 j (x 1)) := by
  pointwise [k0_pay3, k0_pay4]

/-! ## The reference at an index -/

theorem ref_row (X : FVec Ideal Cert.FfnRefIdeal.S8x4096x1024 .f32) (n : FVec Ideal Cert.FfnRefIdeal.S1024 .f32) (b : Fin 8) (s : Fin 4096) (k : Fin 1024) :
    Cert.FfnRefIdeal.Read.val_main_v12 (F := Ideal) X n (ix3 b s k) = normRow (fun k => X (ix3 b s k)) (fun k => n (ix1 k)) k := by
  open Cert.FfnRefIdeal.Read in
  have e1 : ∀ l, idx_main_v1 (idx_main_v2 (idx_main_v8 (ix3 b s k))) l = ix3 b s l := fun l => by idx_ext
  open Cert.FfnRefIdeal.Read in
  have e2 : idx_main_v10 (idx_main_v11 (ix3 b s k)) = ix1 k := by idx_ext
  open Cert.FfnRefIdeal.Read in
  simp only [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply,
    val_main_cst_0_apply, val_main_cst_1_apply, e1, e2]
  pointwise [normRow]

theorem ref_proj (X : FVec Ideal Cert.FfnRefIdeal.S8x4096x1024 .f32) (n : FVec Ideal Cert.FfnRefIdeal.S1024 .f32) (Wi : FVec Ideal Cert.FfnRefIdeal.S1024x5632 .f32)
    (b : Fin 8) (s : Fin 4096) (j : Fin 5632) : Cert.FfnRefIdeal.Read.val_main_v13 (F := Ideal) X n Wi (ix3 b s j)
      = ∑ k : Fin 1024, normRow (fun k => X (ix3 b s k)) (fun k => n (ix1 k)) k * Wi (ix2 k j) := by
  rw [FfnRefIdeal.Read.val_main_v13_apply]
  refine Finset.sum_congr rfl fun k _ => ?_
  rw [show FfnRefIdeal.Read.lidx_main_v13 (ix3 b s j) k = ix3 b s k from by idx_ext, show FfnRefIdeal.Read.ridx_main_v13 (ix3 b s j) k = ix2 k j from by idx_ext,
    ref_row]

theorem ref_gated (X : FVec Ideal Cert.FfnRefIdeal.S8x4096x1024 .f32) (n : FVec Ideal Cert.FfnRefIdeal.S1024 .f32) (Wi : FVec Ideal Cert.FfnRefIdeal.S1024x5632 .f32)
    (b : Fin 8) (s : Fin 4096) (j : Fin 2816) : Cert.FfnRefIdeal.Read.val_main_v17 (F := Ideal) X n Wi (ix3 b s j)
      = gated (normRow (fun k => X (ix3 b s k)) (fun k => n (ix1 k))) (fun k => Wi (ix2 k ⟨j.val, by omega⟩)) (fun k => Wi (ix2 k ⟨2816 + j.val, by omega⟩)) := by
  have e1 : FfnRefIdeal.Read.idx_main_v14 (ix3 b s j) = ix3 b s ⟨j.val, by omega⟩ := by idx_ext
  have e2 : FfnRefIdeal.Read.idx_main_v15 (ix3 b s j) = ix3 b s ⟨2816 + j.val, by omega⟩ := by idx_ext
  open Cert.FfnRefIdeal.Read in
  simp only [val_main_v17_apply, val_main_v16_apply, val_main_v15_apply, val_main_v14_apply, val_main_call0_v0_apply, val_main_call0_v1_apply,
    val_main_call0_v2_apply, val_main_call0_v3_apply, val_main_call0_v4_apply, val_main_call0_v5_apply, val_main_call0_cst_apply,
    val_main_call0_cst_0_apply, e1, e2, ref_proj]
  pointwise [gated, Ideal.logistic]

theorem ref_sum (X : FVec Ideal Cert.FfnRefIdeal.S8x4096x1024 .f32) (n : FVec Ideal Cert.FfnRefIdeal.S1024 .f32) (Wi : FVec Ideal Cert.FfnRefIdeal.S1024x5632 .f32)
    (Wo : FVec Ideal Cert.FfnRefIdeal.S2816x1024 .f32) (b : Fin 8) (s : Fin 4096) (c : Fin 1024) :
    Cert.FfnRefIdeal.Read.val_main_v19 (F := Ideal) X n Wi Wo (ix3 b s c)
      = ffnRow (fun k => X (ix3 b s k)) (fun k => n (ix1 k)) (fun k j => Wi (ix2 k j)) (fun j c => Wo (ix2 j c)) c := by
  rw [FfnRefIdeal.Read.val_main_v19_apply, FfnRefIdeal.Read.val_main_v18_apply]
  refine congrArg (X (ix3 b s c) + ·) (Finset.sum_congr rfl fun j _ => ?_)
  rw [show FfnRefIdeal.Read.lidx_main_v18 (ix3 b s c) j = ix3 b s j from by idx_ext, show FfnRefIdeal.Read.ridx_main_v18 (ix3 b s c) j = ix2 j c from by idx_ext,
    ref_gated]

theorem ref (X : FVec Ideal Cert.FfnRefIdeal.S8x4096x1024 .f32) (n : FVec Ideal Cert.FfnRefIdeal.S1024 .f32) (Wi : FVec Ideal Cert.FfnRefIdeal.S1024x5632 .f32)
    (Wo : FVec Ideal Cert.FfnRefIdeal.S2816x1024 .f32) (i : S32768x1024.Idx) (b : Fin 8) (s : Fin 4096) (c : Fin 1024)
    (h0 : (i 0).val = 4096 * b.val + s.val) (h1 : (i 1).val = c.val) : Cert.FfnRefIdeal.Read.val_main_v20 (F := Ideal) X n Wi Wo i
      = ffnRow (fun k => X (ix3 b s k)) (fun k => n (ix1 k)) (fun k j => Wi (ix2 k j)) (fun j c => Wo (ix2 j c)) c := by
  have e0 : FfnRefIdeal.Read.idx_main_v20 i = ix3 b s c := by
    idx_ext
  exact (FfnRefIdeal.Read.val_main_v20_apply (F := Ideal) X n Wi Wo i).trans ((congrArg (FfnRefIdeal.Read.val_main_v19 (F := Ideal) X n Wi Wo) e0).trans (ref_sum X n Wi Wo b s c))

/-! ## The kernel's result -/

theorem idx_facts : ∀ t : Fin cfg0.N, win0_0.index t = ![t.val, 0] ∧ win0_1.index t = ![0, 0] ∧ win0_2.index t = ![0, 0] ∧ win0_3.index t = ![0, 1]
    ∧ win0_4.index t = ![0, 0] ∧ win0_5.index t = ![t.val, 0] :=
  (by decide +kernel : ∀ t : Fin grid0.N, _)

/-- The staged row block at point `t` is rows `512·t …` of the input, which is the input's batch `t / 8`. -/
theorem row_in (c : Dev nD) (t : Fin cfg0.N) (r : Fin 512) (k : Fin 1024) (b : Fin 8) (s : Fin 4096) (hbs : 4096 * b.val + s.val = t.val * 512 + r.val) :
    (iblk m c 0 t : FVec Ideal S512x1024 .f32) (ix2 r k) = (m ((c : Thread nD τ).loc main_arg0) : FVec Ideal S8x4096x1024 .f32) (ix3 b s k) := by
  blk_ext! [iblk, V, idx_facts t]

theorem gain_in (c : Dev nD) (t : Fin cfg0.N) (k : Fin 1024) :
    (iblk m c 1 t : FVec Ideal S1x1024 .f32) (ix2 0 k) = (m ((c : Thread nD τ).loc main_arg1) : FVec Ideal S1024 .f32) (ix1 k) := by
  blk_ext! [iblk, V, idx_facts t]

theorem gate_in (c : Dev nD) (t : Fin cfg0.N) (k : Fin 1024) (j : Fin 2816) :
    (iblk m c 2 t : FVec Ideal S1024x2816 .bf16) (ix2 k j) = (m ((c : Thread nD τ).loc main_arg2) : FVec Ideal S1024x5632 .f32) (ix2 k ⟨j.val, by omega⟩) := by
  blk_ext! [iblk, V, idx_facts t]

theorem up_in (c : Dev nD) (t : Fin cfg0.N) (k : Fin 1024) (j : Fin 2816) :
    (iblk m c 3 t : FVec Ideal S1024x2816 .bf16) (ix2 k j) = (m ((c : Thread nD τ).loc main_arg2) : FVec Ideal S1024x5632 .f32) (ix2 k ⟨2816 + j.val, by omega⟩) := by
  blk_ext! [iblk, V, idx_facts t]

theorem down_in (c : Dev nD) (t : Fin cfg0.N) (k : Fin 2816) (j : Fin 1024) :
    (iblk m c 4 t : FVec Ideal S2816x1024 .bf16) (ix2 k j) = (m ((c : Thread nD τ).loc main_arg3) : FVec Ideal S2816x1024 .f32) (ix2 k j) := by
  blk_ext! [iblk, V, idx_facts t]

theorem idx_whole (z : S512x2816.Idx) : (Rect.unit (s := S512x2816) ![0, 0] ![512, 2816] inb_S512x2816_S512x2816_0_0).toLoadRect.idx z = z := by
  funext a
  refine Fin.ext ?_
  match a with
  | ⟨0, _⟩ => show 0 + 1 * (z 0).val = (z 0).val; omega
  | ⟨1, _⟩ => show 0 + 1 * (z 1).val = (z 1).val; omega

theorem point (c : Dev nD) (t : Fin cfg0.N) (y : S512x1024.Idx) (i : S32768x1024.Idx) (h0 : (i 0).val = t.val * 512 + (y 0).val) (h1 : (i 1).val = (y 1).val) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) y
    = Cert.FfnRefIdeal.Read.val_main_v20 (F := Ideal) (m ((c : Thread nD τ).loc main_arg0)) (m ((c : Thread nD τ).loc main_arg1)) (m ((c : Thread nD τ).loc main_arg2)) (m ((c : Thread nD τ).loc main_arg3)) i := by
  obtain ⟨yr, yc, rfl⟩ : ∃ (r : Fin 512) (c : Fin 1024), y = ix2 r c := ⟨y 0, y 1, by idx_ext⟩
  have hy0 : yr.val < 512 := yr.isLt
  have ht : t.val < 64 := t.isLt
  have hbs : 4096 * (t.val / 8) + (t.val % 8 * 512 + yr.val) = t.val * 512 + yr.val := by omega
  refine Eq.trans ?_ (ref _ _ _ _ i ⟨t.val / 8, by omega⟩ ⟨t.val % 8 * 512 + yr.val, by omega⟩ yc (h0.trans hbs.symm) h1).symm
  unfold ffnRow
  frame_out
  rw [View.readCov_eq_canon']
  refine (pay3_apply _ _ _ _).trans (congrArg₂ (· + ·) (row_in m c t _ _ _ _ hbs) (Finset.sum_congr rfl fun j _ => congrArg₂ (· * ·) ?_ (down_in m c t _ _)))
  refine Eq.trans (b := act (k0_pay5 (iblk m c 0 t) (iblk m c 1 t)) (iblk m c 2 t) (iblk m c 3 t) (ix2 yr j)) ?_ ?_
  · refine (congrArg (View.canon _) (show _ = ix2 yr j from idx_whole _)).trans ?_
    generalize iblk m c 0 t = x0
    generalize iblk m c 1 t = x1
    generalize iblk m c 2 t = w1
    generalize iblk m c 3 t = w2
    canon_tiles x h
    all_goals
      obtain rfl : yr = x 0 := Fin.ext h0
      have h1' : j.val = _ := h1
      obtain ⟨j, hj⟩ := j
      simp only at h1'
      subst h1'
      simp only [act, gated]
      pointwise [k0_pay1, k0_pay2, k0_pay19, k0_pay18, k0_pay17, k0_pay16, k0_pay15, k0_pay14, k0_pay13, k0_pay12, k0_pay11, k0_pay10, k0_pay9, k0_pay8, k0_pay7, k0_pay6]
  · unfold act
    rw [funext fun k => pay5_apply (iblk m c 0 t) (iblk m c 1 t) ((ix2 yr j) 0) k]
    refine congr (congr (congrArg gated ?_) ?_) ?_
    · exact congr (congrArg normRow (funext fun k => row_in m c t _ _ _ _ hbs)) (funext fun k => gain_in m c t _)
    · exact funext fun k => gate_in m c t k j
    · exact funext fun k => up_in m c t k j

theorem final (c : Dev nD) : (dats m 0 c).arrAt 5 (cfgs 0).N
    = Cert.FfnRefIdeal.Read.val_main_v20 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  unfold outsAt0
  refine point m c t y _ ?_ ?_
  · blk_simp [idx_facts t]
  · blk_simp [idx_facts t]

end Cert.FfnIdeal.Hand

end
-- ==== Proof.FfnClaim.lean ====
/-
  The feed-forward layer's claims: both programs' frames, and that kernel and reference end with the same array.
  The array the kernel leaves is `Cert.FfnIdeal.Hand.final`; the reference's run gives the same function of the arguments.
-/
module

public import proofs.«01_k».proof.Defs
public import proofs.«01_k».proof.Proof.FfnValue
public import proofs.«01_k».proof.Proof.Gen.FfnRefIdeal.Run
public import proofs.«01_k».proof.Proof.Gen.Ffn.Frame
public import proofs.«01_k».proof.Proof.Gen.Ffn
public import proofs.«01_k».proof.Proof.Gen.FfnIdeal
public import proofs.«01_k».proof.Proof.Gen.FfnRefIdeal
public import Idealize.ShloMosaic.Lib.Quiescent

@[expose] public section

set_option maxRecDepth 16384

noncomputable section

open Idealize.ShloMosaic Idealize.ShloMosaic.TcCoe Idealize.SL.Sem

namespace Cert.Proof.FfnClaim

theorem frame_kernel : Cert.quiescent_Ffn := fun m ρ _ => Cert.Ffn.Gen.frame (F := Bits) m ρ

theorem frame_ideal : Cert.quiescent_FfnIdeal := fun m ρ _ => Cert.FfnIdeal.Gen.frame (F := Ideal) m ρ

theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- Both runs end with the rows plus their gated feed-forward images. -/
theorem algebraic : Cert.algebraic_FfnIdeal_FfnRefIdeal := by
  intro m ρ m' ρ' _ hagree
  refine ⟨fun c => (Cert.FfnIdeal.Gen.dats m 0 c).arrAt 5 Cert.FfnIdeal.cfg0.N, Cert.FfnIdeal.Value.run_blocks (F := Ideal) m ρ, ?_⟩
  refine (θ_run Cert.FfnRefIdeal.defs _ _).mono (fun _ h c => ⟨(h c).1.trans ?_, (h c).2⟩) (Cert.FfnRefIdeal.Value.run (F := Ideal) m' ρ')
  obtain ⟨e0, e1, e2, e3⟩ := hagree c
  rw [e0, e1, e2, e3]
  exact (Cert.FfnRefIdeal.Read.val_main_v20_eq (F := Ideal) _ _ _ _).trans (Cert.FfnIdeal.Hand.final m c).symm

end Cert.Proof.FfnClaim

end
-- ==== Proof.ConvTrip.lean ====
/-
  One trip of the convolution's loop: every piece it stores is the bias plus the 31 taps of the rows read from the first scratch.
-/
module

public import proofs.«01_k».proof.Proof.Gen.ConvIdeal.Loops
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvIdeal.Hand

open Cert.ConvIdeal Cert.ConvIdeal.Gen Idealize.ShloMosaic Idealize.ShloMosaic.TcCoe Idealize.SL.Sem

/-- The taps of one entry, in the order the kernel adds them, are the bias plus the sum over the taps. -/
theorem sum_taps (f : Fin 31 → EReal) (b : EReal) : (((((((((((((((((((((((((((((((0 + b) + f 6) + f 14) + f 22) + f 30) + f 7) + f 15) + f 23) + f 0) + f 8) + f 16) + f 24) + f 1) + f 9) + f 17) + f 25) + f 2) + f 10) + f 18) + f 26) + f 3) + f 11) + f 19) + f 27) + f 4) + f 12) + f 20) + f 28) + f 5) + f 13) + f 21) + f 29 = b + ∑ k, f k := by
  have h : ∑ k, f k = (f 0 + (f 1 + (f 2 + (f 3 + (f 4 + (f 5 + (f 6 + (f 7 + (f 8 + (f 9 + (f 10 + (f 11 + (f 12 + (f 13 + (f 14 + (f 15 + (f 16 + (f 17 + (f 18 + (f 19 + (f 20 + (f 21 + (f 22 + (f 23 + (f 24 + (f 25 + (f 26 + (f 27 + (f 28 + (f 29 + (f 30 + 0))))))))))))))))))))))))))))))) := by
    simp only [Fin.sum_univ_succ, Finset.univ_eq_empty, Finset.sum_empty]
    rfl
  rw [h, zero_add]
  ac_rfl

/-- The depthwise convolution at row `r` of a tile, column `e`: the bias plus the 31 taps over the rows `r + 2 …` of the held rows. -/
def convAt (U : S544x1024.Idx → EReal) (W : S31x1024.Idx → EReal) (b : S1x1024.Idx → EReal) (y : S512x1024.Idx) : EReal :=
  b (ix2 0 (y 1)) + ∑ k : Fin 31, W (ix2 k (y 1)) * U (ix2 ⟨(y 0).val + 2 + k.val, by have := (y 0).isLt; have : (y 0).val < 512 := this; omega⟩ (y 1))

theorem tap_w (v : View sig .tc .vmem S31x1024 .f32) (X : v.ty.Contents (Elt Ideal)) (j o : Nat) (h) (l : Fin 128) (j' : Fin 31) (e : Fin 1024)
    (hj : j = j'.val) (he : e.val = o + l.val) :
    View.readAt (Elt Ideal) v (Rect.unit (s := S31x1024) ![j, o] ![1, 128] h).toLoadRect X (ix2 0 l) = View.read (Elt Ideal) v X (ix2 j' e) := by
  refine congrArg (View.read (Elt Ideal) v X) ?_
  idx_ext

theorem tap_b (v : View sig .tc .vmem S1x1024 .f32) (X : v.ty.Contents (Elt Ideal)) (o : Nat) (h) (l : Fin 128) (e : Fin 1024)
    (he : e.val = o + l.val) :
    View.readAt (Elt Ideal) v (Rect.unit (s := S1x1024) ![0, o] ![1, 128] h).toLoadRect X (ix2 0 l) = View.read (Elt Ideal) v X (ix2 0 e) := by
  refine congrArg (View.read (Elt Ideal) v X) ?_
  idx_ext

theorem tap_u (v : View sig .tc .vmem S544x1024 .f32) (X : v.ty.Contents (Elt Ideal)) (off : Fin 2 → Nat) (h) (q : Fin 96) (l : Fin 128) (q' : Fin 544) (e : Fin 1024)
    (hq : q'.val = off 0 + q.val) (he : e.val = off 1 + l.val) :
    View.readAt (Elt Ideal) v (Rect.unit (s := S544x1024) off ![96, 128] h).toLoadRect X (ix2 q l) = View.read (Elt Ideal) v X (ix2 q' e) := by
  refine congrArg (View.read (Elt Ideal) v X) ?_
  idx_ext

set_option maxHeartbeats 4000000 in
theorem trip_pieces  (𝒱 : Variants) (c : Dev nD) (bd : Option 𝒱.V) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S31x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x512x1024 .f32) (harg13 : arg13.IsWhole) (arg14 : Memref sig .tc .vmem S544x1024 .f32) (harg14 : arg14.IsWhole) (arg15 : Memref sig .tc .vmem S512x1024 .f32) (harg15 : arg15.IsWhole) (v29 : FVec Ideal S512x1024 .f32) (v32 : FVec Ideal S512x1024 .f32) (v33 : Vec Ideal S1x1024 .f32) (X_arg8 : BufTy.Contents (Elt Ideal) arg8.view.ty) (X_arg9 : BufTy.Contents (Elt Ideal) arg9.view.ty) (X_arg14 : BufTy.Contents (Elt Ideal) arg14.view.ty) (k : Fin k0_t1_loop.trips) :
    ∀ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v29 v32 v33 X_arg8 X_arg9 X_arg14 k).1, ∀ x, p.2 x = convAt (arg14.view.read (Elt Ideal) X_arg14) (arg8.view.read (Elt Ideal) X_arg8) (arg9.view.read (Elt Ideal) X_arg9) (p.1.emb x) := by
  have hk : k.val < 8 := Nat.lt_of_lt_of_le k.isLt k0_t1_abs.2.1
  have hw : BitVec.toNat (Scalar.indexCast (Scalar.muli (Scf.iv 0#32 1#32 k.val) 64#32)) = 64 * k.val := congrFun (k0_off1_eq k) 0
  unfold trip_k0_t1
  dsimp only
  simp only [List.forall_mem_cons]
  refine ⟨?_, ?_, ?_, ?_, ?_, ?_, ?_, ?_, by simp⟩
  · intro x
    obtain ⟨r, l, rfl⟩ : ∃ (r : Fin 64) (l : Fin 128), x = ix2 r l := ⟨x 0, x 1, by idx_ext⟩
    have hr := r.isLt
    have hl := l.isLt
    have he : (Rect.unit (s := S512x1024) (k0_off16 k) ![64, 128] (k0_off16_inb k)).emb (ix2 r l) = ix2 ⟨64 * k.val + r.val, by omega⟩ ⟨896 + l.val, by omega⟩ := by
      have h0 := congrFun (k0_off16_eq k) 0
      have h1 := congrFun (k0_off16_eq k) 1
      funext a
      refine Fin.ext ?_
      match a with
      | ⟨0, _⟩ => show k0_off16 k 0 + 1 * r.val = 64 * k.val + r.val; rw [h0]; simp
      | ⟨1, _⟩ => show k0_off16 k 1 + 1 * l.val = 896 + l.val; rw [h1]; simp
    refine Eq.trans ?_ (congrArg (convAt _ _ _) he).symm
    refine Eq.trans ?_ (sum_taps _ _)
    generalize hU : arg14.view.read (Elt Ideal) X_arg14 = U
    generalize hW : arg8.view.read (Elt Ideal) X_arg8 = W
    generalize hB : arg9.view.read (Elt Ideal) X_arg9 = B
    sl_unfold_words
    pointwise [k0_pay98, k0_pay90, k0_pay89, k0_pay88, k0_pay87, k0_pay86, k0_pay85, k0_pay84, k0_pay83, k0_pay82, k0_pay81, k0_pay80, k0_pay79, k0_pay78, k0_pay77, k0_pay76, k0_pay75]
    subst hU hW hB
    iterate 31 refine congrArg₂ (· + ·) ?_ (congrArg₂ (· * ·) (tap_w _ _ _ _ _ _ _ _ ?_ ?_) (tap_u _ _ _ _ _ _ _ _ ?_ ?_))
    · first | refine tap_b _ _ _ _ _ _ ?_ | refine congrArg (0 + ·) (tap_b _ _ _ _ _ _ ?_) | refine Eq.trans (tap_b _ _ _ _ _ _ ?_) (zero_add _).symm
      first | rfl | exact (Nat.zero_add _).symm
    all_goals first
      | rfl
      | exact (Nat.zero_add _).symm
      | (refine Eq.trans ?_ (congrArg (· + _) hw.symm)
         dsimp only
         omega)
  · intro x
    obtain ⟨r, l, rfl⟩ : ∃ (r : Fin 64) (l : Fin 128), x = ix2 r l := ⟨x 0, x 1, by idx_ext⟩
    have hr := r.isLt
    have hl := l.isLt
    have he : (Rect.unit (s := S512x1024) (k0_off14 k) ![64, 128] (k0_off14_inb k)).emb (ix2 r l) = ix2 ⟨64 * k.val + r.val, by omega⟩ ⟨768 + l.val, by omega⟩ := by
      have h0 := congrFun (k0_off14_eq k) 0
      have h1 := congrFun (k0_off14_eq k) 1
      funext a
      refine Fin.ext ?_
      match a with
      | ⟨0, _⟩ => show k0_off14 k 0 + 1 * r.val = 64 * k.val + r.val; rw [h0]; simp
      | ⟨1, _⟩ => show k0_off14 k 1 + 1 * l.val = 768 + l.val; rw [h1]; simp
    refine Eq.trans ?_ (congrArg (convAt _ _ _) he).symm
    refine Eq.trans ?_ (sum_taps _ _)
    generalize hU : arg14.view.read (Elt Ideal) X_arg14 = U
    generalize hW : arg8.view.read (Elt Ideal) X_arg8 = W
    generalize hB : arg9.view.read (Elt Ideal) X_arg9 = B
    sl_unfold_words
    pointwise [k0_pay74, k0_pay73, k0_pay72, k0_pay71, k0_pay70, k0_pay69, k0_pay68, k0_pay67, k0_pay66, k0_pay65, k0_pay64]
    subst hU hW hB
    iterate 31 refine congrArg₂ (· + ·) ?_ (congrArg₂ (· * ·) (tap_w _ _ _ _ _ _ _ _ ?_ ?_) (tap_u _ _ _ _ _ _ _ _ ?_ ?_))
    · first | refine tap_b _ _ _ _ _ _ ?_ | refine congrArg (0 + ·) (tap_b _ _ _ _ _ _ ?_) | refine Eq.trans (tap_b _ _ _ _ _ _ ?_) (zero_add _).symm
      first | rfl | exact (Nat.zero_add _).symm
    all_goals first
      | rfl
      | exact (Nat.zero_add _).symm
      | (refine Eq.trans ?_ (congrArg (· + _) hw.symm)
         dsimp only
         omega)
  · intro x
    obtain ⟨r, l, rfl⟩ : ∃ (r : Fin 64) (l : Fin 128), x = ix2 r l := ⟨x 0, x 1, by idx_ext⟩
    have hr := r.isLt
    have hl := l.isLt
    have he : (Rect.unit (s := S512x1024) (k0_off12 k) ![64, 128] (k0_off12_inb k)).emb (ix2 r l) = ix2 ⟨64 * k.val + r.val, by omega⟩ ⟨640 + l.val, by omega⟩ := by
      have h0 := congrFun (k0_off12_eq k) 0
      have h1 := congrFun (k0_off12_eq k) 1
      funext a
      refine Fin.ext ?_
      match a with
      | ⟨0, _⟩ => show k0_off12 k 0 + 1 * r.val = 64 * k.val + r.val; rw [h0]; simp
      | ⟨1, _⟩ => show k0_off12 k 1 + 1 * l.val = 640 + l.val; rw [h1]; simp
    refine Eq.trans ?_ (congrArg (convAt _ _ _) he).symm
    refine Eq.trans ?_ (sum_taps _ _)
    generalize hU : arg14.view.read (Elt Ideal) X_arg14 = U
    generalize hW : arg8.view.read (Elt Ideal) X_arg8 = W
    generalize hB : arg9.view.read (Elt Ideal) X_arg9 = B
    sl_unfold_words
    pointwise [k0_pay63, k0_pay62, k0_pay61, k0_pay60, k0_pay59, k0_pay58, k0_pay57, k0_pay56, k0_pay55, k0_pay54, k0_pay53, k0_pay52, k0_pay51, k0_pay50, k0_pay49, k0_pay48]
    subst hU hW hB
    iterate 31 refine congrArg₂ (· + ·) ?_ (congrArg₂ (· * ·) (tap_w _ _ _ _ _ _ _ _ ?_ ?_) (tap_u _ _ _ _ _ _ _ _ ?_ ?_))
    · first | refine tap_b _ _ _ _ _ _ ?_ | refine congrArg (0 + ·) (tap_b _ _ _ _ _ _ ?_) | refine Eq.trans (tap_b _ _ _ _ _ _ ?_) (zero_add _).symm
      first | rfl | exact (Nat.zero_add _).symm
    all_goals first
      | rfl
      | exact (Nat.zero_add _).symm
      | (refine Eq.trans ?_ (congrArg (· + _) hw.symm)
         dsimp only
         omega)
  · intro x
    obtain ⟨r, l, rfl⟩ : ∃ (r : Fin 64) (l : Fin 128), x = ix2 r l := ⟨x 0, x 1, by idx_ext⟩
    have hr := r.isLt
    have hl := l.isLt
    have he : (Rect.unit (s := S512x1024) (k0_off10 k) ![64, 128] (k0_off10_inb k)).emb (ix2 r l) = ix2 ⟨64 * k.val + r.val, by omega⟩ ⟨512 + l.val, by omega⟩ := by
      have h0 := congrFun (k0_off10_eq k) 0
      have h1 := congrFun (k0_off10_eq k) 1
      funext a
      refine Fin.ext ?_
      match a with
      | ⟨0, _⟩ => show k0_off10 k 0 + 1 * r.val = 64 * k.val + r.val; rw [h0]; simp
      | ⟨1, _⟩ => show k0_off10 k 1 + 1 * l.val = 512 + l.val; rw [h1]; simp
    refine Eq.trans ?_ (congrArg (convAt _ _ _) he).symm
    refine Eq.trans ?_ (sum_taps _ _)
    generalize hU : arg14.view.read (Elt Ideal) X_arg14 = U
    generalize hW : arg8.view.read (Elt Ideal) X_arg8 = W
    generalize hB : arg9.view.read (Elt Ideal) X_arg9 = B
    sl_unfold_words
    pointwise [k0_pay47, k0_pay46, k0_pay45, k0_pay44, k0_pay43, k0_pay42, k0_pay41, k0_pay40, k0_pay39, k0_pay38, k0_pay37, k0_pay36]
    subst hU hW hB
    iterate 31 refine congrArg₂ (· + ·) ?_ (congrArg₂ (· * ·) (tap_w _ _ _ _ _ _ _ _ ?_ ?_) (tap_u _ _ _ _ _ _ _ _ ?_ ?_))
    · first | refine tap_b _ _ _ _ _ _ ?_ | refine congrArg (0 + ·) (tap_b _ _ _ _ _ _ ?_) | refine Eq.trans (tap_b _ _ _ _ _ _ ?_) (zero_add _).symm
      first | rfl | exact (Nat.zero_add _).symm
    all_goals first
      | rfl
      | exact (Nat.zero_add _).symm
      | (refine Eq.trans ?_ (congrArg (· + _) hw.symm)
         dsimp only
         omega)
  · intro x
    obtain ⟨r, l, rfl⟩ : ∃ (r : Fin 64) (l : Fin 128), x = ix2 r l := ⟨x 0, x 1, by idx_ext⟩
    have hr := r.isLt
    have hl := l.isLt
    have he : (Rect.unit (s := S512x1024) (k0_off8 k) ![64, 128] (k0_off8_inb k)).emb (ix2 r l) = ix2 ⟨64 * k.val + r.val, by omega⟩ ⟨384 + l.val, by omega⟩ := by
      have h0 := congrFun (k0_off8_eq k) 0
      have h1 := congrFun (k0_off8_eq k) 1
      funext a
      refine Fin.ext ?_
      match a with
      | ⟨0, _⟩ => show k0_off8 k 0 + 1 * r.val = 64 * k.val + r.val; rw [h0]; simp
      | ⟨1, _⟩ => show k0_off8 k 1 + 1 * l.val = 384 + l.val; rw [h1]; simp
    refine Eq.trans ?_ (congrArg (convAt _ _ _) he).symm
    refine Eq.trans ?_ (sum_taps _ _)
    generalize hU : arg14.view.read (Elt Ideal) X_arg14 = U
    generalize hW : arg8.view.read (Elt Ideal) X_arg8 = W
    generalize hB : arg9.view.read (Elt Ideal) X_arg9 = B
    sl_unfold_words
    pointwise [k0_pay35, k0_pay34, k0_pay33, k0_pay32, k0_pay31]
    subst hU hW hB
    iterate 31 refine congrArg₂ (· + ·) ?_ (congrArg₂ (· * ·) (tap_w _ _ _ _ _ _ _ _ ?_ ?_) (tap_u _ _ _ _ _ _ _ _ ?_ ?_))
    · first | refine tap_b _ _ _ _ _ _ ?_ | refine congrArg (0 + ·) (tap_b _ _ _ _ _ _ ?_) | refine Eq.trans (tap_b _ _ _ _ _ _ ?_) (zero_add _).symm
      first | rfl | exact (Nat.zero_add _).symm
    all_goals first
      | rfl
      | exact (Nat.zero_add _).symm
      | (refine Eq.trans ?_ (congrArg (· + _) hw.symm)
         dsimp only
         omega)
  · intro x
    obtain ⟨r, l, rfl⟩ : ∃ (r : Fin 64) (l : Fin 128), x = ix2 r l := ⟨x 0, x 1, by idx_ext⟩
    have hr := r.isLt
    have hl := l.isLt
    have he : (Rect.unit (s := S512x1024) (k0_off6 k) ![64, 128] (k0_off6_inb k)).emb (ix2 r l) = ix2 ⟨64 * k.val + r.val, by omega⟩ ⟨256 + l.val, by omega⟩ := by
      have h0 := congrFun (k0_off6_eq k) 0
      have h1 := congrFun (k0_off6_eq k) 1
      funext a
      refine Fin.ext ?_
      match a with
      | ⟨0, _⟩ => show k0_off6 k 0 + 1 * r.val = 64 * k.val + r.val; rw [h0]; simp
      | ⟨1, _⟩ => show k0_off6 k 1 + 1 * l.val = 256 + l.val; rw [h1]; simp
    refine Eq.trans ?_ (congrArg (convAt _ _ _) he).symm
    refine Eq.trans ?_ (sum_taps _ _)
    generalize hU : arg14.view.read (Elt Ideal) X_arg14 = U
    generalize hW : arg8.view.read (Elt Ideal) X_arg8 = W
    generalize hB : arg9.view.read (Elt Ideal) X_arg9 = B
    sl_unfold_words
    pointwise [k0_pay30, k0_pay29, k0_pay28, k0_pay27, k0_pay26, k0_pay25, k0_pay24, k0_pay23, k0_pay22, k0_pay21, k0_pay20]
    subst hU hW hB
    iterate 31 refine congrArg₂ (· + ·) ?_ (congrArg₂ (· * ·) (tap_w _ _ _ _ _ _ _ _ ?_ ?_) (tap_u _ _ _ _ _ _ _ _ ?_ ?_))
    · first | refine tap_b _ _ _ _ _ _ ?_ | refine congrArg (0 + ·) (tap_b _ _ _ _ _ _ ?_) | refine Eq.trans (tap_b _ _ _ _ _ _ ?_) (zero_add _).symm
      first | rfl | exact (Nat.zero_add _).symm
    all_goals first
      | rfl
      | exact (Nat.zero_add _).symm
      | (refine Eq.trans ?_ (congrArg (· + _) hw.symm)
         dsimp only
         omega)
  · intro x
    obtain ⟨r, l, rfl⟩ : ∃ (r : Fin 64) (l : Fin 128), x = ix2 r l := ⟨x 0, x 1, by idx_ext⟩
    have hr := r.isLt
    have hl := l.isLt
    have he : (Rect.unit (s := S512x1024) (k0_off4 k) ![64, 128] (k0_off4_inb k)).emb (ix2 r l) = ix2 ⟨64 * k.val + r.val, by omega⟩ ⟨128 + l.val, by omega⟩ := by
      have h0 := congrFun (k0_off4_eq k) 0
      have h1 := congrFun (k0_off4_eq k) 1
      funext a
      refine Fin.ext ?_
      match a with
      | ⟨0, _⟩ => show k0_off4 k 0 + 1 * r.val = 64 * k.val + r.val; rw [h0]; simp
      | ⟨1, _⟩ => show k0_off4 k 1 + 1 * l.val = 128 + l.val; rw [h1]; simp
    refine Eq.trans ?_ (congrArg (convAt _ _ _) he).symm
    refine Eq.trans ?_ (sum_taps _ _)
    generalize hU : arg14.view.read (Elt Ideal) X_arg14 = U
    generalize hW : arg8.view.read (Elt Ideal) X_arg8 = W
    generalize hB : arg9.view.read (Elt Ideal) X_arg9 = B
    sl_unfold_words
    pointwise [k0_pay19, k0_pay18, k0_pay17, k0_pay16, k0_pay15, k0_pay14, k0_pay13, k0_pay12, k0_pay11]
    subst hU hW hB
    iterate 31 refine congrArg₂ (· + ·) ?_ (congrArg₂ (· * ·) (tap_w _ _ _ _ _ _ _ _ ?_ ?_) (tap_u _ _ _ _ _ _ _ _ ?_ ?_))
    · first | refine tap_b _ _ _ _ _ _ ?_ | refine congrArg (0 + ·) (tap_b _ _ _ _ _ _ ?_) | refine Eq.trans (tap_b _ _ _ _ _ _ ?_) (zero_add _).symm
      first | rfl | exact (Nat.zero_add _).symm
    all_goals first
      | rfl
      | exact (Nat.zero_add _).symm
      | (refine Eq.trans ?_ (congrArg (· + _) hw.symm)
         dsimp only
         omega)
  · intro x
    obtain ⟨r, l, rfl⟩ : ∃ (r : Fin 64) (l : Fin 128), x = ix2 r l := ⟨x 0, x 1, by idx_ext⟩
    have hr := r.isLt
    have hl := l.isLt
    have he : (Rect.unit (s := S512x1024) (k0_off2 k) ![64, 128] (k0_off2_inb k)).emb (ix2 r l) = ix2 ⟨64 * k.val + r.val, by omega⟩ ⟨0 + l.val, by omega⟩ := by
      have h0 := congrFun (k0_off2_eq k) 0
      have h1 := congrFun (k0_off2_eq k) 1
      funext a
      refine Fin.ext ?_
      match a with
      | ⟨0, _⟩ => show k0_off2 k 0 + 1 * r.val = 64 * k.val + r.val; rw [h0]; simp
      | ⟨1, _⟩ => show k0_off2 k 1 + 1 * l.val = 0 + l.val; rw [h1]; simp
    refine Eq.trans ?_ (congrArg (convAt _ _ _) he).symm
    refine Eq.trans ?_ (sum_taps _ _)
    generalize hU : arg14.view.read (Elt Ideal) X_arg14 = U
    generalize hW : arg8.view.read (Elt Ideal) X_arg8 = W
    generalize hB : arg9.view.read (Elt Ideal) X_arg9 = B
    sl_unfold_words
    pointwise [k0_pay10, k0_pay9, k0_pay8, k0_pay7, k0_pay6, k0_pay5, k0_pay4, k0_pay3, k0_pay2]
    subst hU hW hB
    iterate 31 refine congrArg₂ (· + ·) ?_ (congrArg₂ (· * ·) (tap_w _ _ _ _ _ _ _ _ ?_ ?_) (tap_u _ _ _ _ _ _ _ _ ?_ ?_))
    · first | refine tap_b _ _ _ _ _ _ ?_ | refine congrArg (0 + ·) (tap_b _ _ _ _ _ _ ?_) | refine Eq.trans (tap_b _ _ _ _ _ _ ?_) (zero_add _).symm
      first | rfl | exact (Nat.zero_add _).symm
    all_goals first
      | rfl
      | exact (Nat.zero_add _).symm
      | (refine Eq.trans ?_ (congrArg (· + _) hw.symm)
         dsimp only
         omega)

end Cert.ConvIdeal.Hand

end
-- ==== Proof.ConvLoop.lean ====
/-
  The eight trips together: after the loop the second scratch holds the convolution of the first at every index.
-/
module

public import proofs.«01_k».proof.Proof.ConvTrip
public import Idealize.ShloMosaic.Lib.Ring

@[expose] public section

set_option maxRecDepth 16384

noncomputable section

namespace Cert.ConvIdeal.Hand

open Cert.ConvIdeal Cert.ConvIdeal.Gen Idealize.ShloMosaic Idealize.ShloMosaic.TcCoe Idealize.SL.Sem

theorem loop_pieces (𝒱 : Variants) (c : Dev nD) (bd : Option 𝒱.V) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S31x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x512x1024 .f32) (harg13 : arg13.IsWhole) (arg14 : Memref sig .tc .vmem S544x1024 .f32) (harg14 : arg14.IsWhole) (arg15 : Memref sig .tc .vmem S512x1024 .f32) (harg15 : arg15.IsWhole) (v29 : FVec Ideal S512x1024 .f32) (v32 : FVec Ideal S512x1024 .f32) (v33 : Vec Ideal S1x1024 .f32) (X_arg8 : BufTy.Contents (Elt Ideal) arg8.view.ty) (X_arg9 : BufTy.Contents (Elt Ideal) arg9.view.ty) (X_arg14 : BufTy.Contents (Elt Ideal) arg14.view.ty) : ∀ n, n ≤ k0_t1_loop.trips → ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v29 v32 v33 X_arg8 X_arg9 X_arg14 n, ∀ x,
    p.2 x = convAt (arg14.view.read (Elt Ideal) X_arg14) (arg8.view.read (Elt Ideal) X_arg8) (arg9.view.read (Elt Ideal) X_arg9) (p.1.emb x)
  | 0, _, p, hp, _ => absurd hp (List.not_mem_nil)
  | n + 1, hn, p, hp, x => by
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 v29 v32 v33 X_arg8 X_arg9 X_arg14 ⟨n, hn⟩] at hp
    rcases List.mem_append.mp hp with h | h
    · exact trip_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 v29 v32 v33 X_arg8 X_arg9 X_arg14 ⟨n, hn⟩ p h x
    · exact loop_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 v29 v32 v33 X_arg8 X_arg9 X_arg14 n (Nat.le_of_succ_le hn) p h x

theorem loop_canon (𝒱 : Variants) (c : Dev nD) (bd : Option 𝒱.V) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S31x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x512x1024 .f32) (harg13 : arg13.IsWhole) (arg14 : Memref sig .tc .vmem S544x1024 .f32) (harg14 : arg14.IsWhole) (arg15 : Memref sig .tc .vmem S512x1024 .f32) (harg15 : arg15.IsWhole) (v29 : FVec Ideal S512x1024 .f32) (v32 : FVec Ideal S512x1024 .f32) (v33 : Vec Ideal S1x1024 .f32) (X_arg8 : BufTy.Contents (Elt Ideal) arg8.view.ty) (X_arg9 : BufTy.Contents (Elt Ideal) arg9.view.ty) (X_arg14 : BufTy.Contents (Elt Ideal) arg14.view.ty) (y : S512x1024.Idx) :
    View.canon (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v29 v32 v33 X_arg8 X_arg9 X_arg14 (Scf.trips k0_t1_loop.lb k0_t1_loop.ub k0_t1_loop.st)) y
      = convAt (arg14.view.read (Elt Ideal) X_arg14) (arg8.view.read (Elt Ideal) X_arg8) (arg9.view.read (Elt Ideal) X_arg9) y :=
  View.canon_apply_of_pieces _ _ (loop_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 v29 v32 v33 X_arg8 X_arg9 X_arg14 _ (Nat.le_refl _)) y
    (View.cover_of_tiledL (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v29 v32 v33 X_arg8 X_arg9 X_arg14 (Scf.trips k0_t1_loop.lb k0_t1_loop.ub k0_t1_loop.st)) S64x128.size (by sl_kernel_rfl) y)

end Cert.ConvIdeal.Hand

end
-- ==== Proof.ConvRows.lean ====
/-
  The convolution layer as plain row functions: gated projections of a normed row, the causal 31-tap sum over the rows so far,
  the layer norm of the sums with its activation, and the last projection added to the row.
-/
module

public import proofs.«01_k».proof.Proof.FfnValue

@[expose] public section

noncomputable section

namespace Cert.ConvIdeal.Hand

open Idealize.ShloMosaic Cert.FfnIdeal.Hand

/-- One half of the normed row's projection times the logistic of the other half, at column `e`. -/
def gluRow (x n : Fin 1024 → EReal) (wi : Fin 1024 → Fin 2048 → EReal) (bi : Fin 2048 → EReal) (e : Fin 1024) : EReal :=
  (∑ k, normRow x n k * wi k ⟨e.val, by omega⟩ + bi ⟨e.val, by omega⟩)
    * Ideal.logistic (∑ k, normRow x n k * wi k ⟨1024 + e.val, by omega⟩ + bi ⟨1024 + e.val, by omega⟩)

/-- A column with thirty zeros before it. -/
def padded (u : Fin 4096 → EReal) (p : Fin 4126) : EReal := if h : 30 ≤ p.val then u ⟨p.val - 30, by omega⟩ else 0

/-- The bias plus the 31 taps that end at time `s`. -/
def convCol (u : Fin 4096 → EReal) (w : Fin 31 → EReal) (b : EReal) (s : Fin 4096) : EReal :=
  b + ∑ k : Fin 31, w k * padded u ⟨s.val + k.val, by omega⟩

/-- The mean of a row. -/
def mean (v : Fin 1024 → EReal) : EReal := Ideal.div (∑ l, v l) (Ideal.ofBits .f32 0x44800000#32)

/-- The row's layer norm at column `e`. -/
def lnRow (v g b : Fin 1024 → EReal) (e : Fin 1024) : EReal :=
  (v e - mean v) * Ideal.rsqrt (mean (fun l => (v l - mean v) * (v l - mean v)) + Ideal.ofBits .f32 0x3727C5AC#32) * g e + b e

/-- The layer norm times its own logistic. -/
def actRow (v g b : Fin 1024 → EReal) (e : Fin 1024) : EReal := lnRow v g b e * Ideal.logistic (lnRow v g b e)

/-- The row plus the last projection, at column `c`. -/
def outRow (x v g b : Fin 1024 → EReal) (wo : Fin 1024 → Fin 1024 → EReal) (c : Fin 1024) : EReal :=
  x c + ∑ e, actRow v g b e * wo e c

end Cert.ConvIdeal.Hand

end
-- ==== Proof.ConvPay.lean ====
/-
  The kernel's stored values at an index, as the row functions.
-/
module

public import proofs.«01_k».proof.Proof.ConvRows
public import proofs.«01_k».proof.Proof.Gen.ConvIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvIdeal.Hand

open Cert.ConvIdeal Cert.ConvIdeal.Gen Idealize.ShloMosaic Idealize.ShloMosaic.TcCoe Idealize.SL.Sem
open Cert.FfnIdeal.Hand (normRow)

theorem pay94_apply (x0 : FVec Ideal S1x512x1024 .f32) (x1 : FVec Ideal S1x1024 .f32) (r : Fin 512) (k : Fin 1024) :
    k0_pay94 (F := Ideal) x0 x1 (ix2 r k) = normRow (fun k => x0 (ix3 0 r k)) (fun k => x1 (ix2 0 k)) k := by
  pointwise [k0_pay94, k0_pay93]
  rfl

theorem pay97_apply (x0 : FVec Ideal S1x512x1024 .f32) (x1 : FVec Ideal S1x1024 .f32) (wa wg : FVec Ideal S1024x1024 .bf16) (ba bg : FVec Ideal S1x1024 .f32)
    (r : Fin 512) (e : Fin 1024) : k0_pay97 (F := Ideal) (k0_pay95 x0 x1 wa ba) (k0_pay96 x0 x1 wg) bg (ix2 r e)
      = (∑ k, normRow (fun k => x0 (ix3 0 r k)) (fun k => x1 (ix2 0 k)) k * wa (ix2 k e) + ba (ix2 0 e))
        * Ideal.logistic (∑ k, normRow (fun k => x0 (ix3 0 r k)) (fun k => x1 (ix2 0 k)) k * wg (ix2 k e) + bg (ix2 0 e)) := by
  simp only [← pay94_apply]
  generalize hh : k0_pay94 (F := Ideal) x0 x1 = h
  pointwise [k0_pay97, k0_pay95, k0_pay96, hh]

theorem pay91_apply (z : S32x1024.Idx) : k0_pay91 (F := Ideal) z = (0 : EReal) := by
  pointwise [k0_pay91]

theorem pay92_apply (v : FVec Ideal S32x1024 .f32) (p : Fin 32) (e : Fin 1024) : k0_pay92 (F := Ideal) v (ix2 p e) = v (ix2 p e) := by
  pointwise [k0_pay92]

theorem pay99_apply (v : FVec Ideal S512x1024 .f32) (g b : FVec Ideal S1x1024 .f32) (r : Fin 512) (e : Fin 1024) :
    k0_pay99 (F := Ideal) v g b (ix2 r e) = actRow (fun e => v (ix2 r e)) (fun e => g (ix2 0 e)) (fun e => b (ix2 0 e)) e := by
  pointwise [k0_pay99]
  rfl

theorem pay1_apply (x0 : FVec Ideal S1x512x1024 .f32) (v : FVec Ideal S512x1024 .f32) (g b : FVec Ideal S1x1024 .f32) (wo : FVec Ideal S1024x1024 .bf16)
    (r : Fin 512) (c : Fin 1024) : k0_pay1 (F := Ideal) (k0_pay93 x0) (k0_pay99 v g b) (k0_pay100 wo) (ix3 0 r c)
      = outRow (fun k => x0 (ix3 0 r k)) (fun e => v (ix2 r e)) (fun e => g (ix2 0 e)) (fun e => b (ix2 0 e)) (fun k j => wo (ix2 k j)) c := by
  unfold outRow
  simp only [← pay99_apply]
  generalize k0_pay99 (F := Ideal) v g b = h
  pointwise [k0_pay1, k0_pay93, k0_pay100]

/-- The first scratch: thirty-two carried rows, then the point's own rows. -/
def stack (g : S512x1024.Idx → EReal) (h : S32x1024.Idx → EReal) (y : S544x1024.Idx) : EReal :=
  if hy : 32 ≤ (y 0).val then g (ix2 ⟨(y 0).val - 32, by have : (y 0).val < 544 := (y 0).isLt; omega⟩ (y 1))
  else h (ix2 ⟨(y 0).val, by omega⟩ (y 1))

theorem stack_top (g : S512x1024.Idx → EReal) (h : S32x1024.Idx → EReal) (y : S544x1024.Idx) (z : S512x1024.Idx) (h0 : (y 0).val = 32 + (z 0).val)
    (h1 : (y 1).val = (z 1).val) : stack g h y = g z := by
  unfold stack
  rw [dif_pos (by omega)]
  refine congrArg g ?_
  funext a
  refine Fin.ext ?_
  match a with
  | ⟨0, _⟩ => show (y 0).val - 32 = (z 0).val; omega
  | ⟨1, _⟩ => exact h1

theorem stack_low (g : S512x1024.Idx → EReal) (h : S32x1024.Idx → EReal) (y : S544x1024.Idx) (z : S32x1024.Idx) (h0 : (y 0).val = (z 0).val)
    (h1 : (y 1).val = (z 1).val) : stack g h y = h z := by
  have hz : (z 0).val < 32 := (z 0).isLt
  unfold stack
  rw [dif_neg (by omega)]
  refine congrArg h ?_
  funext a
  refine Fin.ext ?_
  match a with
  | ⟨0, _⟩ => exact h0
  | ⟨1, _⟩ => exact h1

theorem canon_stack (g : FVec Ideal S512x1024 .f32) (h : FVec Ideal S32x1024 .f32) (y : S544x1024.Idx) :
    View.canon (Val := Elt Ideal) (s := S544x1024) (e := .f32) [⟨Rect.unit ![32, 0] ![512, 1024] inb_S544x1024_S512x1024_32_0, g⟩,
      ⟨Rect.unit ![0, 0] ![32, 1024] inb_S544x1024_S32x1024_0_0, h⟩] y = stack g h y := by
  refine View.canon_apply_of_pieces _ _ ?_ y (View.cover_of_tiledBy _ ![32, 1024] (by sl_kernel_rfl) y)
  intro p hp x
  simp only [List.mem_cons, List.not_mem_nil, or_false] at hp
  rcases hp with rfl | rfl
  · exact (stack_top g h _ x (congrArg (32 + ·) (Nat.one_mul _)) ((Nat.zero_add _).trans (Nat.one_mul _))).symm
  · exact (stack_low g h _ x ((Nat.zero_add _).trans (Nat.one_mul _)) ((Nat.zero_add _).trans (Nat.one_mul _))).symm

end Cert.ConvIdeal.Hand

end
-- ==== Proof.ConvRef.lean ====
/-
  The convolution layer's reference at an index: each stage equals the row function of the same mathematics.
-/
module

public import proofs.«01_k».proof.Proof.ConvRows
public import proofs.«01_k».proof.Proof.Gen.ConvRefIdeal.Read
public import Idealize.ShloMosaic.Lib.Pipeline.ValueKit
public import Idealize.ShloMosaic.Lib.Pointwise
public import Idealize.ShloMosaic.Lib.KernelVsHost

@[expose] public section

set_option maxRecDepth 16384

noncomputable section

namespace Cert.ConvRefIdeal.Hand

open Cert.ConvRefIdeal Cert.ConvRefIdeal.Read Idealize.ShloMosaic Idealize.ShloMosaic.TcCoe Idealize.SL.Sem
open Cert.FfnIdeal.Hand (normRow)
open Cert.ConvIdeal.Hand (gluRow padded convCol mean lnRow actRow outRow)

variable (X : FVec Ideal S8x4096x1024 .f32) (n : FVec Ideal S1024 .f32) (Wi : FVec Ideal S1024x2048 .f32) (bi : FVec Ideal S2048 .f32) (Wd : FVec Ideal S31x1024 .f32)
variable (bd lg lb : FVec Ideal S1024 .f32) (Wo : FVec Ideal S1024x1024 .f32)

theorem norm (b : Fin 8) (s : Fin 4096) (k : Fin 1024) :
    val_main_v12 (F := Ideal) X n (ix3 b s k) = normRow (fun k => X (ix3 b s k)) (fun k => n (ix1 k)) k := by
  have e1 : ∀ l, idx_main_v1 (idx_main_v2 (idx_main_v8 (ix3 b s k))) l = ix3 b s l := fun l => by idx_ext
  have e2 : idx_main_v10 (idx_main_v11 (ix3 b s k)) = ix1 k := by idx_ext
  simp only [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply,
    val_main_cst_0_apply, val_main_cst_1_apply, e1, e2]
  pointwise [normRow]

theorem proj (b : Fin 8) (s : Fin 4096) (j : Fin 2048) : val_main_v16 (F := Ideal) X n Wi bi (ix3 b s j)
      = ∑ k : Fin 1024, normRow (fun k => X (ix3 b s k)) (fun k => n (ix1 k)) k * Wi (ix2 k j) + bi (ix1 j) := by
  rw [val_main_v16_apply, val_main_v13_apply, val_main_v15_apply, val_main_v14_apply]
  refine congrArg₂ (· + ·) (Finset.sum_congr rfl fun k _ => ?_) (congrArg bi (by idx_ext))
  rw [show lidx_main_v13 (ix3 b s j) k = ix3 b s k from by idx_ext, show ridx_main_v13 (ix3 b s j) k = ix2 k j from by idx_ext, norm]

/-- The gated row at time `s`, column `e`. -/
def glu (b : Fin 8) (s : Fin 4096) (e : Fin 1024) : EReal :=
  gluRow (fun k => X (ix3 b s k)) (fun k => n (ix1 k)) (fun k j => Wi (ix2 k j)) (fun j => bi (ix1 j)) e

theorem gated (b : Fin 8) (s : Fin 4096) (e : Fin 1024) : val_main_v25 (F := Ideal) X n Wi bi (ix3 b s e) = glu X n Wi bi b s e := by
  have e1 : idx_main_v17 (ix3 b s e) = ix3 b s ⟨e.val, by omega⟩ := by idx_ext
  have e2 : idx_main_v18 (ix3 b s e) = ix3 b s ⟨1024 + e.val, by omega⟩ := by idx_ext
  simp only [val_main_v25_apply, val_main_v24_apply, val_main_v23_apply, val_main_v22_apply, val_main_v21_apply, val_main_v20_apply, val_main_v19_apply,
    val_main_v18_apply, val_main_v17_apply, val_main_cst_2_apply, val_main_cst_3_apply, e1, e2, proj]
  pointwise [glu, gluRow, Ideal.logistic]

/-- The rows with thirty rows of zeros before them. -/
theorem pads (b : Fin 8) (p : Fin 4126) (e : Fin 1024) : val_main_v26 (F := Ideal) X n Wi bi (ix3 b p e) = padded (fun s => glu X n Wi bi b s e) p := by
  unfold val_main_v26 padded
  by_cases h : 30 ≤ p.val
  · rw [dif_pos h]
    refine (pad_apply_of_inside _ _ _ _ _ _ _ _ (ix3 b ⟨p.val - 30, by omega⟩ e) ?_).trans (gated X n Wi bi b _ e)
    intro a
    match a with
    | ⟨0, _⟩ => show b.val = 0 + b.val * (0 + 1); omega
    | ⟨1, _⟩ => show p.val = 30 + (p.val - 30) * (0 + 1); omega
    | ⟨2, _⟩ => show e.val = 0 + e.val * (0 + 1); omega
  · rw [dif_neg h]
    refine (pad_apply_of_not_inside _ _ _ _ _ _ _ _ ⟨1, by decide⟩ ?_).trans ?_
    · intro hh
      have : 30 ≤ p.val := hh.1
      exact h this
    · show val_main_call0_v0 (F := Ideal) _ = 0
      pointwise [val_main_call0_v0, val_main_c]
      show (((0#32 : BitVec 32).toInt : ℝ) : EReal) = 0
      simp

theorem tap0 (b : Fin 8) (s : Fin 4096) (e : Fin 1024) : val_main_v32 (F := Ideal) X n Wi bi Wd (ix3 b s e)
    = Wd (ix2 0 e) * padded (fun s => glu X n Wi bi b s e) ⟨s.val + 0, by omega⟩ := by
  rw [val_main_v32_apply, val_main_v27_apply, val_main_v31_apply, val_main_v30_apply, val_main_v29_apply, val_main_v28_apply,
    show idx_main_v27 (ix3 b s e) = ix3 b ⟨s.val + 0, by omega⟩ e from by idx_ext,
    show idx_main_v28 (idx_main_v29 (idx_main_v30 (idx_main_v31 (ix3 b s e)))) = ix2 0 e from by idx_ext, pads]
  exact mul_comm _ _

theorem tap1 (b : Fin 8) (s : Fin 4096) (e : Fin 1024) : val_main_v40 (F := Ideal) X n Wi bi Wd (ix3 b s e)
    = Wd (ix2 1 e) * padded (fun s => glu X n Wi bi b s e) ⟨s.val + 1, by omega⟩ := by
  rw [val_main_v40_apply, val_main_v35_apply, val_main_v39_apply, val_main_v38_apply, val_main_v37_apply, val_main_v36_apply,
    show idx_main_v35 (ix3 b s e) = ix3 b ⟨s.val + 1, by omega⟩ e from by idx_ext,
    show idx_main_v36 (idx_main_v37 (idx_main_v38 (idx_main_v39 (ix3 b s e)))) = ix2 1 e from by idx_ext, pads]
  exact mul_comm _ _

theorem tap2 (b : Fin 8) (s : Fin 4096) (e : Fin 1024) : val_main_v47 (F := Ideal) X n Wi bi Wd (ix3 b s e)
    = Wd (ix2 2 e) * padded (fun s => glu X n Wi bi b s e) ⟨s.val + 2, by omega⟩ := by
  rw [val_main_v47_apply, val_main_v42_apply, val_main_v46_apply, val_main_v45_apply, val_main_v44_apply, val_main_v43_apply,
    show idx_main_v42 (ix3 b s e) = ix3 b ⟨s.val + 2, by omega⟩ e from by idx_ext,
    show idx_main_v43 (idx_main_v44 (idx_main_v45 (idx_main_v46 (ix3 b s e)))) = ix2 2 e from by idx_ext, pads]
  exact mul_comm _ _

theorem tap3 (b : Fin 8) (s : Fin 4096) (e : Fin 1024) : val_main_v54 (F := Ideal) X n Wi bi Wd (ix3 b s e)
    = Wd (ix2 3 e) * padded (fun s => glu X n Wi bi b s e) ⟨s.val + 3, by omega⟩ := by
  rw [val_main_v54_apply, val_main_v49_apply, val_main_v53_apply, val_main_v52_apply, val_main_v51_apply, val_main_v50_apply,
    show idx_main_v49 (ix3 b s e) = ix3 b ⟨s.val + 3, by omega⟩ e from by idx_ext,
    show idx_main_v50 (idx_main_v51 (idx_main_v52 (idx_main_v53 (ix3 b s e)))) = ix2 3 e from by idx_ext, pads]
  exact mul_comm _ _

theorem tap4 (b : Fin 8) (s : Fin 4096) (e : Fin 1024) : val_main_v61 (F := Ideal) X n Wi bi Wd (ix3 b s e)
    = Wd (ix2 4 e) * padded (fun s => glu X n Wi bi b s e) ⟨s.val + 4, by omega⟩ := by
  rw [val_main_v61_apply, val_main_v56_apply, val_main_v60_apply, val_main_v59_apply, val_main_v58_apply, val_main_v57_apply,
    show idx_main_v56 (ix3 b s e) = ix3 b ⟨s.val + 4, by omega⟩ e from by idx_ext,
    show idx_main_v57 (idx_main_v58 (idx_main_v59 (idx_main_v60 (ix3 b s e)))) = ix2 4 e from by idx_ext, pads]
  exact mul_comm _ _

theorem tap5 (b : Fin 8) (s : Fin 4096) (e : Fin 1024) : val_main_v68 (F := Ideal) X n Wi bi Wd (ix3 b s e)
    = Wd (ix2 5 e) * padded (fun s => glu X n Wi bi b s e) ⟨s.val + 5, by omega⟩ := by
  rw [val_main_v68_apply, val_main_v63_apply, val_main_v67_apply, val_main_v66_apply, val_main_v65_apply, val_main_v64_apply,
    show idx_main_v63 (ix3 b s e) = ix3 b ⟨s.val + 5, by omega⟩ e from by idx_ext,
    show idx_main_v64 (idx_main_v65 (idx_main_v66 (idx_main_v67 (ix3 b s e)))) = ix2 5 e from by idx_ext, pads]
  exact mul_comm _ _

theorem tap6 (b : Fin 8) (s : Fin 4096) (e : Fin 1024) : val_main_v75 (F := Ideal) X n Wi bi Wd (ix3 b s e)
    = Wd (ix2 6 e) * padded (fun s => glu X n Wi bi b s e) ⟨s.val + 6, by omega⟩ := by
  rw [val_main_v75_apply, val_main_v70_apply, val_main_v74_apply, val_main_v73_apply, val_main_v72_apply, val_main_v71_apply,
    show idx_main_v70 (ix3 b s e) = ix3 b ⟨s.val + 6, by omega⟩ e from by idx_ext,
    show idx_main_v71 (idx_main_v72 (idx_main_v73 (idx_main_v74 (ix3 b s e)))) = ix2 6 e from by idx_ext, pads]
  exact mul_comm _ _

theorem tap7 (b : Fin 8) (s : Fin 4096) (e : Fin 1024) : val_main_v82 (F := Ideal) X n Wi bi Wd (ix3 b s e)
    = Wd (ix2 7 e) * padded (fun s => glu X n Wi bi b s e) ⟨s.val + 7, by omega⟩ := by
  rw [val_main_v82_apply, val_main_v77_apply, val_main_v81_apply, val_main_v80_apply, val_main_v79_apply, val_main_v78_apply,
    show idx_main_v77 (ix3 b s e) = ix3 b ⟨s.val + 7, by omega⟩ e from by idx_ext,
    show idx_main_v78 (idx_main_v79 (idx_main_v80 (idx_main_v81 (ix3 b s e)))) = ix2 7 e from by idx_ext, pads]
  exact mul_comm _ _

theorem tap8 (b : Fin 8) (s : Fin 4096) (e : Fin 1024) : val_main_v89 (F := Ideal) X n Wi bi Wd (ix3 b s e)
    = Wd (ix2 8 e) * padded (fun s => glu X n Wi bi b s e) ⟨s.val + 8, by omega⟩ := by
  rw [val_main_v89_apply, val_main_v84_apply, val_main_v88_apply, val_main_v87_apply, val_main_v86_apply, val_main_v85_apply,
    show idx_main_v84 (ix3 b s e) = ix3 b ⟨s.val + 8, by omega⟩ e from by idx_ext,
    show idx_main_v85 (idx_main_v86 (idx_main_v87 (idx_main_v88 (ix3 b s e)))) = ix2 8 e from by idx_ext, pads]
  exact mul_comm _ _

theorem tap9 (b : Fin 8) (s : Fin 4096) (e : Fin 1024) : val_main_v96 (F := Ideal) X n Wi bi Wd (ix3 b s e)
    = Wd (ix2 9 e) * padded (fun s => glu X n Wi bi b s e) ⟨s.val + 9, by omega⟩ := by
  rw [val_main_v96_apply, val_main_v91_apply, val_main_v95_apply, val_main_v94_apply, val_main_v93_apply, val_main_v92_apply,
    show idx_main_v91 (ix3 b s e) = ix3 b ⟨s.val + 9, by omega⟩ e from by idx_ext,
    show idx_main_v92 (idx_main_v93 (idx_main_v94 (idx_main_v95 (ix3 b s e)))) = ix2 9 e from by idx_ext, pads]
  exact mul_comm _ _

theorem tap10 (b : Fin 8) (s : Fin 4096) (e : Fin 1024) : val_main_v103 (F := Ideal) X n Wi bi Wd (ix3 b s e)
    = Wd (ix2 10 e) * padded (fun s => glu X n Wi bi b s e) ⟨s.val + 10, by omega⟩ := by
  rw [val_main_v103_apply, val_main_v98_apply, val_main_v102_apply, val_main_v101_apply, val_main_v100_apply, val_main_v99_apply,
    show idx_main_v98 (ix3 b s e) = ix3 b ⟨s.val + 10, by omega⟩ e from by idx_ext,
    show idx_main_v99 (idx_main_v100 (idx_main_v101 (idx_main_v102 (ix3 b s e)))) = ix2 10 e from by idx_ext, pads]
  exact mul_comm _ _

theorem tap11 (b : Fin 8) (s : Fin 4096) (e : Fin 1024) : val_main_v110 (F := Ideal) X n Wi bi Wd (ix3 b s e)
    = Wd (ix2 11 e) * padded (fun s => glu X n Wi bi b s e) ⟨s.val + 11, by omega⟩ := by
  rw [val_main_v110_apply, val_main_v105_apply, val_main_v109_apply, val_main_v108_apply, val_main_v107_apply, val_main_v106_apply,
    show idx_main_v105 (ix3 b s e) = ix3 b ⟨s.val + 11, by omega⟩ e from by idx_ext,
    show idx_main_v106 (idx_main_v107 (idx_main_v108 (idx_main_v109 (ix3 b s e)))) = ix2 11 e from by idx_ext, pads]
  exact mul_comm _ _

theorem tap12 (b : Fin 8) (s : Fin 4096) (e : Fin 1024) : val_main_v117 (F := Ideal) X n Wi bi Wd (ix3 b s e)
    = Wd (ix2 12 e) * padded (fun s => glu X n Wi bi b s e) ⟨s.val + 12, by omega⟩ := by
  rw [val_main_v117_apply, val_main_v112_apply, val_main_v116_apply, val_main_v115_apply, val_main_v114_apply, val_main_v113_apply,
    show idx_main_v112 (ix3 b s e) = ix3 b ⟨s.val + 12, by omega⟩ e from by idx_ext,
    show idx_main_v113 (idx_main_v114 (idx_main_v115 (idx_main_v116 (ix3 b s e)))) = ix2 12 e from by idx_ext, pads]
  exact mul_comm _ _

theorem tap13 (b : Fin 8) (s : Fin 4096) (e : Fin 1024) : val_main_v124 (F := Ideal) X n Wi bi Wd (ix3 b s e)
    = Wd (ix2 13 e) * padded (fun s => glu X n Wi bi b s e) ⟨s.val + 13, by omega⟩ := by
  rw [val_main_v124_apply, val_main_v119_apply, val_main_v123_apply, val_main_v122_apply, val_main_v121_apply, val_main_v120_apply,
    show idx_main_v119 (ix3 b s e) = ix3 b ⟨s.val + 13, by omega⟩ e from by idx_ext,
    show idx_main_v120 (idx_main_v121 (idx_main_v122 (idx_main_v123 (ix3 b s e)))) = ix2 13 e from by idx_ext, pads]
  exact mul_comm _ _

theorem tap14 (b : Fin 8) (s : Fin 4096) (e : Fin 1024) : val_main_v131 (F := Ideal) X n Wi bi Wd (ix3 b s e)
    = Wd (ix2 14 e) * padded (fun s => glu X n Wi bi b s e) ⟨s.val + 14, by omega⟩ := by
  rw [val_main_v131_apply, val_main_v126_apply, val_main_v130_apply, val_main_v129_apply, val_main_v128_apply, val_main_v127_apply,
    show idx_main_v126 (ix3 b s e) = ix3 b ⟨s.val + 14, by omega⟩ e from by idx_ext,
    show idx_main_v127 (idx_main_v128 (idx_main_v129 (idx_main_v130 (ix3 b s e)))) = ix2 14 e from by idx_ext, pads]
  exact mul_comm _ _

theorem tap15 (b : Fin 8) (s : Fin 4096) (e : Fin 1024) : val_main_v138 (F := Ideal) X n Wi bi Wd (ix3 b s e)
    = Wd (ix2 15 e) * padded (fun s => glu X n Wi bi b s e) ⟨s.val + 15, by omega⟩ := by
  rw [val_main_v138_apply, val_main_v133_apply, val_main_v137_apply, val_main_v136_apply, val_main_v135_apply, val_main_v134_apply,
    show idx_main_v133 (ix3 b s e) = ix3 b ⟨s.val + 15, by omega⟩ e from by idx_ext,
    show idx_main_v134 (idx_main_v135 (idx_main_v136 (idx_main_v137 (ix3 b s e)))) = ix2 15 e from by idx_ext, pads]
  exact mul_comm _ _

theorem tap16 (b : Fin 8) (s : Fin 4096) (e : Fin 1024) : val_main_v145 (F := Ideal) X n Wi bi Wd (ix3 b s e)
    = Wd (ix2 16 e) * padded (fun s => glu X n Wi bi b s e) ⟨s.val + 16, by omega⟩ := by
  rw [val_main_v145_apply, val_main_v140_apply, val_main_v144_apply, val_main_v143_apply, val_main_v142_apply, val_main_v141_apply,
    show idx_main_v140 (ix3 b s e) = ix3 b ⟨s.val + 16, by omega⟩ e from by idx_ext,
    show idx_main_v141 (idx_main_v142 (idx_main_v143 (idx_main_v144 (ix3 b s e)))) = ix2 16 e from by idx_ext, pads]
  exact mul_comm _ _

theorem tap17 (b : Fin 8) (s : Fin 4096) (e : Fin 1024) : val_main_v152 (F := Ideal) X n Wi bi Wd (ix3 b s e)
    = Wd (ix2 17 e) * padded (fun s => glu X n Wi bi b s e) ⟨s.val + 17, by omega⟩ := by
  rw [val_main_v152_apply, val_main_v147_apply, val_main_v151_apply, val_main_v150_apply, val_main_v149_apply, val_main_v148_apply,
    show idx_main_v147 (ix3 b s e) = ix3 b ⟨s.val + 17, by omega⟩ e from by idx_ext,
    show idx_main_v148 (idx_main_v149 (idx_main_v150 (idx_main_v151 (ix3 b s e)))) = ix2 17 e from by idx_ext, pads]
  exact mul_comm _ _

theorem tap18 (b : Fin 8) (s : Fin 4096) (e : Fin 1024) : val_main_v159 (F := Ideal) X n Wi bi Wd (ix3 b s e)
    = Wd (ix2 18 e) * padded (fun s => glu X n Wi bi b s e) ⟨s.val + 18, by omega⟩ := by
  rw [val_main_v159_apply, val_main_v154_apply, val_main_v158_apply, val_main_v157_apply, val_main_v156_apply, val_main_v155_apply,
    show idx_main_v154 (ix3 b s e) = ix3 b ⟨s.val + 18, by omega⟩ e from by idx_ext,
    show idx_main_v155 (idx_main_v156 (idx_main_v157 (idx_main_v158 (ix3 b s e)))) = ix2 18 e from by idx_ext, pads]
  exact mul_comm _ _

theorem tap19 (b : Fin 8) (s : Fin 4096) (e : Fin 1024) : val_main_v166 (F := Ideal) X n Wi bi Wd (ix3 b s e)
    = Wd (ix2 19 e) * padded (fun s => glu X n Wi bi b s e) ⟨s.val + 19, by omega⟩ := by
  rw [val_main_v166_apply, val_main_v161_apply, val_main_v165_apply, val_main_v164_apply, val_main_v163_apply, val_main_v162_apply,
    show idx_main_v161 (ix3 b s e) = ix3 b ⟨s.val + 19, by omega⟩ e from by idx_ext,
    show idx_main_v162 (idx_main_v163 (idx_main_v164 (idx_main_v165 (ix3 b s e)))) = ix2 19 e from by idx_ext, pads]
  exact mul_comm _ _

theorem tap20 (b : Fin 8) (s : Fin 4096) (e : Fin 1024) : val_main_v173 (F := Ideal) X n Wi bi Wd (ix3 b s e)
    = Wd (ix2 20 e) * padded (fun s => glu X n Wi bi b s e) ⟨s.val + 20, by omega⟩ := by
  rw [val_main_v173_apply, val_main_v168_apply, val_main_v172_apply, val_main_v171_apply, val_main_v170_apply, val_main_v169_apply,
    show idx_main_v168 (ix3 b s e) = ix3 b ⟨s.val + 20, by omega⟩ e from by idx_ext,
    show idx_main_v169 (idx_main_v170 (idx_main_v171 (idx_main_v172 (ix3 b s e)))) = ix2 20 e from by idx_ext, pads]
  exact mul_comm _ _

theorem tap21 (b : Fin 8) (s : Fin 4096) (e : Fin 1024) : val_main_v180 (F := Ideal) X n Wi bi Wd (ix3 b s e)
    = Wd (ix2 21 e) * padded (fun s => glu X n Wi bi b s e) ⟨s.val + 21, by omega⟩ := by
  rw [val_main_v180_apply, val_main_v175_apply, val_main_v179_apply, val_main_v178_apply, val_main_v177_apply, val_main_v176_apply,
    show idx_main_v175 (ix3 b s e) = ix3 b ⟨s.val + 21, by omega⟩ e from by idx_ext,
    show idx_main_v176 (idx_main_v177 (idx_main_v178 (idx_main_v179 (ix3 b s e)))) = ix2 21 e from by idx_ext, pads]
  exact mul_comm _ _

theorem tap22 (b : Fin 8) (s : Fin 4096) (e : Fin 1024) : val_main_v187 (F := Ideal) X n Wi bi Wd (ix3 b s e)
    = Wd (ix2 22 e) * padded (fun s => glu X n Wi bi b s e) ⟨s.val + 22, by omega⟩ := by
  rw [val_main_v187_apply, val_main_v182_apply, val_main_v186_apply, val_main_v185_apply, val_main_v184_apply, val_main_v183_apply,
    show idx_main_v182 (ix3 b s e) = ix3 b ⟨s.val + 22, by omega⟩ e from by idx_ext,
    show idx_main_v183 (idx_main_v184 (idx_main_v185 (idx_main_v186 (ix3 b s e)))) = ix2 22 e from by idx_ext, pads]
  exact mul_comm _ _

theorem tap23 (b : Fin 8) (s : Fin 4096) (e : Fin 1024) : val_main_v194 (F := Ideal) X n Wi bi Wd (ix3 b s e)
    = Wd (ix2 23 e) * padded (fun s => glu X n Wi bi b s e) ⟨s.val + 23, by omega⟩ := by
  rw [val_main_v194_apply, val_main_v189_apply, val_main_v193_apply, val_main_v192_apply, val_main_v191_apply, val_main_v190_apply,
    show idx_main_v189 (ix3 b s e) = ix3 b ⟨s.val + 23, by omega⟩ e from by idx_ext,
    show idx_main_v190 (idx_main_v191 (idx_main_v192 (idx_main_v193 (ix3 b s e)))) = ix2 23 e from by idx_ext, pads]
  exact mul_comm _ _

theorem tap24 (b : Fin 8) (s : Fin 4096) (e : Fin 1024) : val_main_v201 (F := Ideal) X n Wi bi Wd (ix3 b s e)
    = Wd (ix2 24 e) * padded (fun s => glu X n Wi bi b s e) ⟨s.val + 24, by omega⟩ := by
  rw [val_main_v201_apply, val_main_v196_apply, val_main_v200_apply, val_main_v199_apply, val_main_v198_apply, val_main_v197_apply,
    show idx_main_v196 (ix3 b s e) = ix3 b ⟨s.val + 24, by omega⟩ e from by idx_ext,
    show idx_main_v197 (idx_main_v198 (idx_main_v199 (idx_main_v200 (ix3 b s e)))) = ix2 24 e from by idx_ext, pads]
  exact mul_comm _ _

theorem tap25 (b : Fin 8) (s : Fin 4096) (e : Fin 1024) : val_main_v208 (F := Ideal) X n Wi bi Wd (ix3 b s e)
    = Wd (ix2 25 e) * padded (fun s => glu X n Wi bi b s e) ⟨s.val + 25, by omega⟩ := by
  rw [val_main_v208_apply, val_main_v203_apply, val_main_v207_apply, val_main_v206_apply, val_main_v205_apply, val_main_v204_apply,
    show idx_main_v203 (ix3 b s e) = ix3 b ⟨s.val + 25, by omega⟩ e from by idx_ext,
    show idx_main_v204 (idx_main_v205 (idx_main_v206 (idx_main_v207 (ix3 b s e)))) = ix2 25 e from by idx_ext, pads]
  exact mul_comm _ _

theorem tap26 (b : Fin 8) (s : Fin 4096) (e : Fin 1024) : val_main_v215 (F := Ideal) X n Wi bi Wd (ix3 b s e)
    = Wd (ix2 26 e) * padded (fun s => glu X n Wi bi b s e) ⟨s.val + 26, by omega⟩ := by
  rw [val_main_v215_apply, val_main_v210_apply, val_main_v214_apply, val_main_v213_apply, val_main_v212_apply, val_main_v211_apply,
    show idx_main_v210 (ix3 b s e) = ix3 b ⟨s.val + 26, by omega⟩ e from by idx_ext,
    show idx_main_v211 (idx_main_v212 (idx_main_v213 (idx_main_v214 (ix3 b s e)))) = ix2 26 e from by idx_ext, pads]
  exact mul_comm _ _

theorem tap27 (b : Fin 8) (s : Fin 4096) (e : Fin 1024) : val_main_v222 (F := Ideal) X n Wi bi Wd (ix3 b s e)
    = Wd (ix2 27 e) * padded (fun s => glu X n Wi bi b s e) ⟨s.val + 27, by omega⟩ := by
  rw [val_main_v222_apply, val_main_v217_apply, val_main_v221_apply, val_main_v220_apply, val_main_v219_apply, val_main_v218_apply,
    show idx_main_v217 (ix3 b s e) = ix3 b ⟨s.val + 27, by omega⟩ e from by idx_ext,
    show idx_main_v218 (idx_main_v219 (idx_main_v220 (idx_main_v221 (ix3 b s e)))) = ix2 27 e from by idx_ext, pads]
  exact mul_comm _ _

theorem tap28 (b : Fin 8) (s : Fin 4096) (e : Fin 1024) : val_main_v229 (F := Ideal) X n Wi bi Wd (ix3 b s e)
    = Wd (ix2 28 e) * padded (fun s => glu X n Wi bi b s e) ⟨s.val + 28, by omega⟩ := by
  rw [val_main_v229_apply, val_main_v224_apply, val_main_v228_apply, val_main_v227_apply, val_main_v226_apply, val_main_v225_apply,
    show idx_main_v224 (ix3 b s e) = ix3 b ⟨s.val + 28, by omega⟩ e from by idx_ext,
    show idx_main_v225 (idx_main_v226 (idx_main_v227 (idx_main_v228 (ix3 b s e)))) = ix2 28 e from by idx_ext, pads]
  exact mul_comm _ _

theorem tap29 (b : Fin 8) (s : Fin 4096) (e : Fin 1024) : val_main_v236 (F := Ideal) X n Wi bi Wd (ix3 b s e)
    = Wd (ix2 29 e) * padded (fun s => glu X n Wi bi b s e) ⟨s.val + 29, by omega⟩ := by
  rw [val_main_v236_apply, val_main_v231_apply, val_main_v235_apply, val_main_v234_apply, val_main_v233_apply, val_main_v232_apply,
    show idx_main_v231 (ix3 b s e) = ix3 b ⟨s.val + 29, by omega⟩ e from by idx_ext,
    show idx_main_v232 (idx_main_v233 (idx_main_v234 (idx_main_v235 (ix3 b s e)))) = ix2 29 e from by idx_ext, pads]
  exact mul_comm _ _

theorem tap30 (b : Fin 8) (s : Fin 4096) (e : Fin 1024) : val_main_v243 (F := Ideal) X n Wi bi Wd (ix3 b s e)
    = Wd (ix2 30 e) * padded (fun s => glu X n Wi bi b s e) ⟨s.val + 30, by omega⟩ := by
  rw [val_main_v243_apply, val_main_v238_apply, val_main_v242_apply, val_main_v241_apply, val_main_v240_apply, val_main_v239_apply,
    show idx_main_v238 (ix3 b s e) = ix3 b ⟨s.val + 30, by omega⟩ e from by idx_ext,
    show idx_main_v239 (idx_main_v240 (idx_main_v241 (idx_main_v242 (ix3 b s e)))) = ix2 30 e from by idx_ext, pads]
  exact mul_comm _ _

/-- The taps added one after another, and the bias last. -/
theorem sum_in_order (f : Fin 31 → EReal) (b : EReal) : (((((((((((((((((((((((((((((((0 + f 0) + f 1) + f 2) + f 3) + f 4) + f 5) + f 6) + f 7) + f 8) + f 9) + f 10) + f 11) + f 12) + f 13) + f 14) + f 15) + f 16) + f 17) + f 18) + f 19) + f 20) + f 21) + f 22) + f 23) + f 24) + f 25) + f 26) + f 27) + f 28) + f 29) + f 30) + b = b + ∑ k, f k := by
  have h : ∑ k, f k = (f 0 + (f 1 + (f 2 + (f 3 + (f 4 + (f 5 + (f 6 + (f 7 + (f 8 + (f 9 + (f 10 + (f 11 + (f 12 + (f 13 + (f 14 + (f 15 + (f 16 + (f 17 + (f 18 + (f 19 + (f 20 + (f 21 + (f 22 + (f 23 + (f 24 + (f 25 + (f 26 + (f 27 + (f 28 + (f 29 + (f 30 + 0))))))))))))))))))))))))))))))) := by
    simp only [Fin.sum_univ_succ, Finset.univ_eq_empty, Finset.sum_empty]
    rfl
  rw [h, zero_add, add_zero, add_comm b]
  ac_rfl

theorem conv (b : Fin 8) (s : Fin 4096) (e : Fin 1024) : val_main_v247 (F := Ideal) X n Wi bi Wd bd (ix3 b s e)
    = convCol (fun s => glu X n Wi bi b s e) (fun k => Wd (ix2 k e)) (bd (ix1 e)) s := by
  rw [val_main_v247_apply, val_main_v246_apply, val_main_v245_apply, show idx_main_v245 (idx_main_v246 (ix3 b s e)) = ix1 e from by idx_ext]
  rw [val_main_v244_apply, val_main_v237_apply, val_main_v230_apply, val_main_v223_apply, val_main_v216_apply, val_main_v209_apply, val_main_v202_apply, val_main_v195_apply, val_main_v188_apply, val_main_v181_apply, val_main_v174_apply, val_main_v167_apply, val_main_v160_apply, val_main_v153_apply, val_main_v146_apply, val_main_v139_apply, val_main_v132_apply, val_main_v125_apply, val_main_v118_apply, val_main_v111_apply, val_main_v104_apply, val_main_v97_apply, val_main_v90_apply, val_main_v83_apply, val_main_v76_apply, val_main_v69_apply, val_main_v62_apply, val_main_v55_apply, val_main_v48_apply, val_main_v41_apply, val_main_v34_apply, val_main_v33_apply, val_main_cst_4_apply]
  rw [tap0, tap1, tap2, tap3, tap4, tap5, tap6, tap7, tap8, tap9, tap10, tap11, tap12, tap13, tap14, tap15, tap16, tap17, tap18, tap19, tap20, tap21, tap22, tap23, tap24, tap25, tap26, tap27, tap28, tap29, tap30]
  rw [show (FloatOps.ofBits (F := Ideal) .f32 0x00000000#32 : EReal) = 0 from by pointwise []]
  exact sum_in_order (fun k => Wd (ix2 k e) * padded (fun s => glu X n Wi bi b s e) ⟨s.val + k.val, by omega⟩) _

theorem ln (b : Fin 8) (s : Fin 4096) (e : Fin 1024) : val_main_v271 (F := Ideal) X n Wi bi Wd bd lg lb (ix3 b s e)
    = lnRow (fun e => convCol (fun s => glu X n Wi bi b s e) (fun k => Wd (ix2 k e)) (bd (ix1 e)) s) (fun e => lg (ix1 e)) (fun e => lb (ix1 e)) e := by
  have e1 : ∀ l, idx_main_v248 (idx_main_v249 (idx_main_v252 (ix3 b s e))) l = ix3 b s l := fun l => by idx_ext
  have e2 : ∀ l, idx_main_v248 (idx_main_v249 (idx_main_v259 (ix3 b s e))) l = ix3 b s l := fun l => by idx_ext
  have e3 : ∀ l, idx_main_v255 (idx_main_v256 (idx_main_v264 (ix3 b s e))) l = ix3 b s l := fun l => by idx_ext
  have e4 : ∀ l l', idx_main_v248 (idx_main_v249 (idx_main_v252 (ix3 b s l))) l' = ix3 b s l' := fun l l' => by idx_ext
  have e5 : idx_main_v266 (idx_main_v267 (ix3 b s e)) = ix1 e := by idx_ext
  have e6 : idx_main_v269 (idx_main_v270 (ix3 b s e)) = ix1 e := by idx_ext
  simp only [val_main_v271_apply, val_main_v270_apply, val_main_v269_apply, val_main_v268_apply, val_main_v267_apply, val_main_v266_apply,
    val_main_v265_apply, val_main_v264_apply, val_main_v263_apply, val_main_v262_apply, val_main_v261_apply, val_main_cst_9_apply, val_main_v260_apply,
    val_main_v259_apply, val_main_v258_apply, val_main_v257_apply, val_main_cst_8_apply, val_main_v256_apply, val_main_v255_apply, val_main_cst_7_apply,
    val_main_v254_apply, val_main_v253_apply, val_main_v252_apply, val_main_v251_apply, val_main_v250_apply, val_main_cst_6_apply, val_main_v249_apply,
    val_main_v248_apply, val_main_cst_5_apply, e1, e2, e3, e4, e5, e6, conv]
  pointwise [lnRow, mean]

theorem act (b : Fin 8) (s : Fin 4096) (e : Fin 1024) : val_main_v272 (F := Ideal) X n Wi bi Wd bd lg lb (ix3 b s e)
    = actRow (fun e => convCol (fun s => glu X n Wi bi b s e) (fun k => Wd (ix2 k e)) (bd (ix1 e)) s) (fun e => lg (ix1 e)) (fun e => lb (ix1 e)) e := by
  simp only [val_main_v272_apply, val_main_call1_v0_apply, val_main_call1_v1_apply, val_main_call1_v2_apply, val_main_call1_v3_apply, val_main_call1_v4_apply,
    val_main_call1_v5_apply, val_main_call1_cst_apply, val_main_call1_cst_0_apply, ln]
  pointwise [actRow, Ideal.logistic]

/-- The reference's result at batch `b`, time `s`, column `c`. -/
theorem ref (b : Fin 8) (s : Fin 4096) (c : Fin 1024) : val_main_v274 (F := Ideal) X n Wi bi Wd bd lg lb Wo (ix3 b s c)
    = outRow (fun k => X (ix3 b s k)) (fun e => convCol (fun s => glu X n Wi bi b s e) (fun k => Wd (ix2 k e)) (bd (ix1 e)) s)
        (fun e => lg (ix1 e)) (fun e => lb (ix1 e)) (fun k j => Wo (ix2 k j)) c := by
  rw [val_main_v274_apply, val_main_v273_apply]
  refine congrArg (X (ix3 b s c) + ·) (Finset.sum_congr rfl fun e _ => ?_)
  rw [show lidx_main_v273 (ix3 b s c) e = ix3 b s e from by idx_ext, show ridx_main_v273 (ix3 b s c) e = ix2 e c from by idx_ext, act]

end Cert.ConvRefIdeal.Hand

end
-- ==== Proof.ConvPoint.lean ====
/-
  The convolution layer's kernel at a grid point: what the two scratches hold and what is stored.
-/
module

public import proofs.«01_k».proof.Proof.ConvLoop
public import proofs.«01_k».proof.Proof.ConvPay
public import proofs.«01_k».proof.Proof.ConvRef

@[expose] public section

set_option maxRecDepth 16384

noncomputable section

namespace Cert.ConvIdeal.Hand

open Cert.ConvIdeal Cert.ConvIdeal.Gen Idealize.ShloMosaic Idealize.ShloMosaic.TcCoe Idealize.SL.Sem
open Cert.FfnIdeal.Hand (normRow)
open Cert.ConvRefIdeal.Hand (glu)

variable (m : (ℓ : Loc nD τ sig) → Buf (Elt Ideal) ℓ)

theorem idx_whole (z : S512x1024.Idx) : (Rect.unit (s := S512x1024) ![0, 0] ![512, 1024] inb_S512x1024_S512x1024_0_0).toLoadRect.idx z = z := by
  funext a
  refine Fin.ext ?_
  match a with
  | ⟨0, _⟩ => exact (Nat.zero_add _).trans (Nat.one_mul _)
  | ⟨1, _⟩ => exact (Nat.zero_add _).trans (Nat.one_mul _)

/-- The point's own gated rows, as the kernel stores them. -/
def own (c : Dev nD) (t : Fin cfg0.N) : FVec Ideal S512x1024 .f32 :=
  (k0_pay97 (k0_pay95 (iblk m c 0 t) (iblk m c 1 t) (iblk m c 2 t) (iblk m c 4 t)) (k0_pay96 (iblk m c 0 t) (iblk m c 1 t) (iblk m c 3 t)) (iblk m c 5 t))

/-- The rows kept of the point before. -/
def kept (xs0 : FVec Ideal S544x1024 .f32) : FVec Ideal S32x1024 .f32 :=
  k0_pay92 (F := Ideal) fun y => xs0 ((Rect.unit (s := S544x1024) ![512, 0] ![32, 1024] inb_S544x1024_S32x1024_512_0).toLoadRect.idx y)

/-- The result's row at a point, from what the first scratch holds. -/
def pointRow (c : Dev nD) (t : Fin cfg0.N) (U : S544x1024.Idx → EReal) (r : Fin 512) (cc : Fin 1024) : EReal :=
  outRow (fun k => (iblk m c 0 t : FVec Ideal S1x512x1024 .f32) (ix3 0 r k)) (fun e => convAt (U) (iblk m c 6 t) (iblk m c 7 t) (ix2 r e)) (fun e => (iblk m c 8 t : FVec Ideal S1x1024 .f32) (ix2 0 e)) (fun e => (iblk m c 9 t : FVec Ideal S1x1024 .f32) (ix2 0 e)) (fun k j => (iblk m c 10 t : FVec Ideal S1024x1024 .bf16) (ix2 k j)) cc

theorem scratch_A (c : Dev nD) (t : Fin cfg0.N) (h0 : t.val % 8 = 0) (h1 : ¬1 ≤ t.val % 8) (y : S544x1024.Idx) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) y = stack (own m c t) (k0_pay91 (F := Ideal)) y := by
  frame_out
  exact canon_stack _ _ y

theorem scratch_B (c : Dev nD) (t : Fin cfg0.N) (h0 : ¬t.val % 8 = 0) (h1 : 1 ≤ t.val % 8) (xs0 : FVec Ideal S544x1024 .f32) (y : S544x1024.Idx) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 y = stack (own m c t) (kept xs0) y := by
  frame_out
  refine (canon_stack _ _ y).trans ?_
  exact congrArg (fun f => stack (own m c t) (k0_pay92 (F := Ideal) fun y => f ((Rect.unit (s := S544x1024) ![512, 0] ![32, 1024] inb_S544x1024_S32x1024_512_0).toLoadRect.idx y)) y) (Memref.IsWhole.read_unread (Memref.isWhole_whole cc0_scratch0) xs0)

theorem out_A (c : Dev nD) (t : Fin cfg0.N) (h0 : t.val % 8 = 0) (h1 : ¬1 ≤ t.val % 8) (r : Fin 512) (cc : Fin 1024) :
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r cc) = pointRow m c t (stack (own m c t) (k0_pay91 (F := Ideal))) r cc := by
  frame_out
  refine (pay1_apply _ _ _ _ _ _ _).trans ?_
  unfold pointRow
  refine congrArg (fun f => outRow _ f _ _ _ _) (funext fun e => ?_)
  refine (congrFun (View.readCov_eq_canon' _ _ (Rect.unit (s := S512x1024) ![0, 0] ![512, 1024] inb_S512x1024_S512x1024_0_0).toLoadRect) (ix2 r e)).trans ?_
  refine (congrArg (View.canon _) (idx_whole (ix2 r e))).trans ?_
  refine (loop_canon _ _ _ _ _ _ _ _ _ _ _ _ _ _ _ _ _ _ _ _ _ _ _ _ _ _ _ _ _ _ _ _ _ _ _ _ _ _ (ix2 r e)).trans ?_
  refine congr (congr (congr (congrArg convAt ?_) (Memref.IsWhole.read_unread _ _)) (Memref.IsWhole.read_unread _ _)) rfl
  refine (View.read_writes_junk_eq_canon _ _).trans (funext fun y => (canon_stack _ _ y).trans ?_)
  rfl

theorem out_B (c : Dev nD) (t : Fin cfg0.N) (h0 : ¬t.val % 8 = 0) (h1 : 1 ≤ t.val % 8) (xs0 : FVec Ideal S544x1024 .f32) (r : Fin 512) (cc : Fin 1024) :
    out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 (ix3 0 r cc) = pointRow m c t (stack (own m c t) (kept xs0)) r cc := by
  frame_out
  refine (pay1_apply _ _ _ _ _ _ _).trans ?_
  unfold pointRow
  refine congrArg (fun f => outRow _ f _ _ _ _) (funext fun e => ?_)
  refine (congrFun (View.readCov_eq_canon' _ _ (Rect.unit (s := S512x1024) ![0, 0] ![512, 1024] inb_S512x1024_S512x1024_0_0).toLoadRect) (ix2 r e)).trans ?_
  refine (congrArg (View.canon _) (idx_whole (ix2 r e))).trans ?_
  refine (loop_canon _ _ _ _ _ _ _ _ _ _ _ _ _ _ _ _ _ _ _ _ _ _ _ _ _ _ _ _ _ _ _ _ _ _ _ _ _ _ (ix2 r e)).trans ?_
  refine congr (congr (congr (congrArg convAt ?_) (Memref.IsWhole.read_unread _ _)) (Memref.IsWhole.read_unread _ _)) rfl
  refine (View.read_writes_junk_eq_canon _ _).trans (funext fun y => (canon_stack _ _ y).trans ?_)
  exact congrArg (fun f => stack (own m c t) (k0_pay92 (F := Ideal) fun y => f ((Rect.unit (s := S544x1024) ![512, 0] ![32, 1024] inb_S544x1024_S32x1024_512_0).toLoadRect.idx y)) y) (Memref.IsWhole.read_unread (Memref.isWhole_whole cc0_scratch0) xs0)

end Cert.ConvIdeal.Hand

end
-- ==== Proof.ConvValue.lean ====
/-
  The convolution layer's kernel computes the reference: the blocks at a grid point, the rows the first scratch carries, and the result array.
-/
module

public import proofs.«01_k».proof.Proof.ConvPoint

@[expose] public section

set_option maxRecDepth 16384

noncomputable section

namespace Cert.ConvIdeal.Hand

open Cert.ConvIdeal Cert.ConvIdeal.Gen Idealize.ShloMosaic Idealize.ShloMosaic.TcCoe Idealize.SL.Sem
open Cert.FfnIdeal.Hand (normRow)
open Cert.ConvRefIdeal.Hand (glu)

variable (m : (ℓ : Loc nD τ sig) → Buf (Elt Ideal) ℓ) (c : Dev nD) (t : Fin cfg0.N)

theorem idx_facts : ∀ t : Fin cfg0.N, win0_0.index t = ![t.val / 8, t.val % 8, 0] ∧ win0_1.index t = ![0, 0] ∧ win0_2.index t = ![0, 0]
    ∧ win0_3.index t = ![0, 1] ∧ win0_4.index t = ![0, 0] ∧ win0_5.index t = ![0, 1] ∧ win0_6.index t = ![0, 0] ∧ win0_7.index t = ![0, 0]
    ∧ win0_8.index t = ![0, 0] ∧ win0_9.index t = ![0, 0] ∧ win0_10.index t = ![0, 0] ∧ win0_11.index t = ![t.val / 8, t.val % 8, 0] :=
  (by decide +kernel : ∀ t : Fin grid0.N, _)

/-! ## The arguments and their blocks -/

abbrev aX : FVec Ideal S8x4096x1024 .f32 := m ((c : Thread nD τ).loc main_arg0)
abbrev aN : FVec Ideal S1024 .f32 := m ((c : Thread nD τ).loc main_arg1)
abbrev aWi : FVec Ideal S1024x2048 .f32 := m ((c : Thread nD τ).loc main_arg2)
abbrev aBi : FVec Ideal S2048 .f32 := m ((c : Thread nD τ).loc main_arg3)
abbrev aWd : FVec Ideal S31x1024 .f32 := m ((c : Thread nD τ).loc main_arg4)
abbrev aBd : FVec Ideal S1024 .f32 := m ((c : Thread nD τ).loc main_arg5)
abbrev aLg : FVec Ideal S1024 .f32 := m ((c : Thread nD τ).loc main_arg6)
abbrev aLb : FVec Ideal S1024 .f32 := m ((c : Thread nD τ).loc main_arg7)
abbrev aWo : FVec Ideal S1024x1024 .f32 := m ((c : Thread nD τ).loc main_arg8)

theorem x_in (r : Fin 512) (k : Fin 1024) (b : Fin 8) (s : Fin 4096) (hb : b.val = t.val / 8) (hs : s.val = t.val % 8 * 512 + r.val) :
    (iblk m c 0 t : FVec Ideal S1x512x1024 .f32) (ix3 0 r k) = aX m c (ix3 b s k) := by
  blk_ext! [iblk, V, idx_facts t]

theorem n_in (k : Fin 1024) : (iblk m c 1 t : FVec Ideal S1x1024 .f32) (ix2 0 k) = aN m c (ix1 k) := by
  blk_ext! [iblk, V, idx_facts t]

theorem wa_in (k e : Fin 1024) : (iblk m c 2 t : FVec Ideal S1024x1024 .bf16) (ix2 k e) = aWi m c (ix2 k ⟨e.val, by omega⟩) := by
  blk_ext! [iblk, V, idx_facts t]

theorem wg_in (k e : Fin 1024) : (iblk m c 3 t : FVec Ideal S1024x1024 .bf16) (ix2 k e) = aWi m c (ix2 k ⟨1024 + e.val, by omega⟩) := by
  blk_ext! [iblk, V, idx_facts t]

theorem ba_in (e : Fin 1024) : (iblk m c 4 t : FVec Ideal S1x1024 .f32) (ix2 0 e) = aBi m c (ix1 ⟨e.val, by omega⟩) := by
  blk_ext! [iblk, V, idx_facts t]

theorem bg_in (e : Fin 1024) : (iblk m c 5 t : FVec Ideal S1x1024 .f32) (ix2 0 e) = aBi m c (ix1 ⟨1024 + e.val, by omega⟩) := by
  blk_ext! [iblk, V, idx_facts t]

theorem wd_in (k : Fin 31) (e : Fin 1024) : (iblk m c 6 t : FVec Ideal S31x1024 .f32) (ix2 k e) = aWd m c (ix2 k e) := by
  blk_ext! [iblk, V, idx_facts t]

theorem bd_in (e : Fin 1024) : (iblk m c 7 t : FVec Ideal S1x1024 .f32) (ix2 0 e) = aBd m c (ix1 e) := by
  blk_ext! [iblk, V, idx_facts t]

theorem lg_in (e : Fin 1024) : (iblk m c 8 t : FVec Ideal S1x1024 .f32) (ix2 0 e) = aLg m c (ix1 e) := by
  blk_ext! [iblk, V, idx_facts t]

theorem lb_in (e : Fin 1024) : (iblk m c 9 t : FVec Ideal S1x1024 .f32) (ix2 0 e) = aLb m c (ix1 e) := by
  blk_ext! [iblk, V, idx_facts t]

theorem wo_in (k e : Fin 1024) : (iblk m c 10 t : FVec Ideal S1024x1024 .bf16) (ix2 k e) = aWo m c (ix2 k e) := by
  blk_ext! [iblk, V, idx_facts t]

/-! ## What the first scratch holds -/

/-- The reference's gated rows, on the arguments. -/
abbrev gl (b : Fin 8) (s : Fin 4096) (e : Fin 1024) : EReal := glu (aX m c) (aN m c) (aWi m c) (aBi m c) b s e

theorem own_eq (r : Fin 512) (e : Fin 1024) (b : Fin 8) (s : Fin 4096) (hb : b.val = t.val / 8) (hs : s.val = t.val % 8 * 512 + r.val) :
    own m c t (ix2 r e) = gl m c b s e := by
  refine (pay97_apply _ _ _ _ _ _ r e).trans ?_
  have hx : (fun k => (iblk m c 0 t : FVec Ideal S1x512x1024 .f32) (ix3 0 r k)) = fun k => aX m c (ix3 b s k) := funext fun k => x_in m c t r k b s hb hs
  have hn : (fun k => (iblk m c 1 t : FVec Ideal S1x1024 .f32) (ix2 0 k)) = fun k => aN m c (ix1 k) := funext fun k => n_in m c t k
  rw [hx, hn]
  refine congrArg₂ (fun p q => p * Ideal.logistic q) (congrArg₂ (· + ·) (Finset.sum_congr rfl fun k _ => congrArg (_ * ·) (wa_in m c t k e)) (ba_in m c t e))
    (congrArg₂ (· + ·) (Finset.sum_congr rfl fun k _ => congrArg (_ * ·) (wg_in m c t k e)) (bg_in m c t e))

/-- The first scratch after a point. -/
def scr : S544x1024.Idx → EReal := ((outsAt0 m c t.val t.isLt).2 : FVec Ideal S544x1024 .f32)

theorem scr_A (h0 : t.val % 8 = 0) : scr m c t = stack (own m c t) (k0_pay91 (F := Ideal)) := by
  have h1 : ¬1 ≤ t.val % 8 := by omega
  funext y
  show (outsAt0 m c t.val t.isLt).2 y = _
  rw [outsAt0_A m c t h0 h1]
  dsimp only
  rw [scratch_A m c t h0 h1 y]

theorem scr_B (h0 : ¬t.val % 8 = 0) : scr m c t = stack (own m c t) (kept ((outsAt0 m c (t.val - 1) (Nat.lt_of_le_of_lt (Nat.sub_le _ _) t.isLt)).2)) := by
  have h1 : 1 ≤ t.val % 8 := by omega
  funext y
  show (outsAt0 m c t.val t.isLt).2 y = _
  rw [outsAt0_B m c t h0 h1]
  dsimp only
  rw [scratch_B m c t h0 h1 _ y]

theorem scr_own (r : Fin 512) (e : Fin 1024) (y : S544x1024.Idx) (hy0 : (y 0).val = 32 + r.val) (hy1 : (y 1).val = e.val) : scr m c t y = own m c t (ix2 r e) := by
  by_cases h0 : t.val % 8 = 0
  · rw [scr_A m c t h0]; exact stack_top _ _ y (ix2 r e) hy0 hy1
  · rw [scr_B m c t h0]; exact stack_top _ _ y (ix2 r e) hy0 hy1

/-- Row `p` of the first scratch is the padded column at time `512·(t mod 8) + p - 2`. -/
theorem scr_eq (y : S544x1024.Idx) (e : Fin 1024) (b : Fin 8) (q : Fin 4126) (hb : b.val = t.val / 8) (hq : q.val + 2 = t.val % 8 * 512 + (y 0).val)
    (he : (y 1).val = e.val) : scr m c t y = padded (fun s => gl m c b s e) q := by
  have hy : (y 0).val < 544 := (y 0).isLt
  have ht : t.val < 64 := t.isLt
  unfold padded
  by_cases hp : 32 ≤ (y 0).val
  · rw [dif_pos (by omega)]
    rw [scr_own m c t ⟨(y 0).val - 32, by omega⟩ e y (by show _ = 32 + ((y 0).val - 32); omega) he]
    exact own_eq m c t _ e b _ hb (by show q.val - 30 = t.val % 8 * 512 + ((y 0).val - 32); omega)
  · by_cases h0 : t.val % 8 = 0
    · rw [dif_neg (by omega), scr_A m c t h0]
      exact (stack_low _ _ y (ix2 ⟨(y 0).val, by omega⟩ e) rfl he).trans (pay91_apply _)
    · rw [dif_pos (by omega), scr_B m c t h0]
      refine (stack_low _ _ y (ix2 ⟨(y 0).val, by omega⟩ e) rfl he).trans ?_
      refine (pay92_apply _ _ _).trans ?_
      refine (scr_own m c ⟨t.val - 1, Nat.lt_of_le_of_lt (Nat.sub_le _ _) t.isLt⟩ ⟨480 + (y 0).val, by omega⟩ e _ ?_ ?_).trans ?_
      · show 512 + 1 * (y 0).val = 32 + (480 + (y 0).val); omega
      · show 0 + 1 * e.val = e.val; omega
      · exact own_eq m c _ _ e b _ (by show b.val = (t.val - 1) / 8; omega) (by show q.val - 30 = (t.val - 1) % 8 * 512 + (480 + (y 0).val); omega)

/-! ## The result -/

theorem out_eq (r : Fin 512) (cc : Fin 1024) :
    ((outsAt0 m c t.val t.isLt).1 : FVec Ideal S1x512x1024 .f32) (ix3 0 r cc) = pointRow m c t (scr m c t) r cc := by
  by_cases h0 : t.val % 8 = 0
  · have h1 : ¬1 ≤ t.val % 8 := by omega
    rw [scr_A m c t h0]
    rw [outsAt0_A m c t h0 h1]
    dsimp only
    rw [out_A m c t h0 h1 r cc]
  · have h1 : 1 ≤ t.val % 8 := by omega
    rw [scr_B m c t h0]
    rw [outsAt0_B m c t h0 h1]
    dsimp only
    rw [out_B m c t h0 h1 _ r cc]

theorem conv_eq (r : Fin 512) (e : Fin 1024) (b : Fin 8) (s : Fin 4096) (hb : b.val = t.val / 8) (hs : s.val = t.val % 8 * 512 + r.val) :
    convAt (scr m c t) (iblk m c 6 t) (iblk m c 7 t) (ix2 r e) = convCol (fun s => gl m c b s e) (fun k => aWd m c (ix2 k e)) (aBd m c (ix1 e)) s :=
  congrArg₂ (· + ·) (bd_in m c t e) (Finset.sum_congr rfl fun k _ => congrArg₂ (· * ·) (wd_in m c t k e)
    (scr_eq m c t _ e b ⟨s.val + k.val, by omega⟩ hb (by show s.val + k.val + 2 = t.val % 8 * 512 + (r.val + 2 + k.val); omega) rfl))

theorem point (r : Fin 512) (cc : Fin 1024) (i : S8x4096x1024.Idx) (hi0 : (i 0).val = t.val / 8) (hi1 : (i 1).val = t.val % 8 * 512 + r.val)
    (hi2 : (i 2).val = cc.val) : ((outsAt0 m c t.val t.isLt).1 : FVec Ideal S1x512x1024 .f32) (ix3 0 r cc)
      = Cert.ConvRefIdeal.Read.val_main_v274 (F := Ideal) (aX m c) (aN m c) (aWi m c) (aBi m c) (aWd m c) (aBd m c) (aLg m c) (aLb m c) (aWo m c) i := by
  obtain ⟨b, s, cc', rfl⟩ : ∃ (b : Fin 8) (s : Fin 4096) (cc' : Fin 1024), i = ix3 b s cc' := ⟨i 0, i 1, i 2, by idx_ext⟩
  obtain rfl : cc' = cc := Fin.ext hi2
  have hb : b.val = t.val / 8 := hi0
  have hs : s.val = t.val % 8 * 512 + r.val := hi1
  refine (out_eq m c t r cc').trans (Eq.trans ?_ (Cert.ConvRefIdeal.Hand.ref _ _ _ _ _ _ _ _ _ b s cc').symm)
  unfold pointRow
  rw [funext fun k => x_in m c t r k b s hb hs, funext fun e => conv_eq m c t r e b s hb hs, funext fun e => lg_in m c t e, funext fun e => lb_in m c t e,
    funext fun k => funext fun j => wo_in m c t k j]

theorem final : (dats m 0 c).arrAt 11 (cfgs 0).N
    = Cert.ConvRefIdeal.Read.val_main_v274 (F := Ideal) (aX m c) (aN m c) (aWi m c) (aBi m c) (aWd m c) (aBd m c) (aLg m c) (aLb m c) (aWo m c) := by
  refine (dats m 0 c).arrAt_eq_of_covers 11 _ (by decide +kernel) fun t _ y => ?_
  blk_simp
  rw [after0_11]
  obtain ⟨r, cc, rfl⟩ : ∃ (r : Fin 512) (cc : Fin 1024), y = ix3 0 r cc := ⟨y 1, y 2, by idx_ext⟩
  have ht : t.val < 64 := t.isLt
  refine point m c t r cc _ ?_ ?_ ?_
  all_goals blk_simp [idx_facts t]
  exact Nat.add_zero _

end Cert.ConvIdeal.Hand

end
-- ==== Proof.ConvClaim.lean ====
/-
  The convolution layer's claims: the three programs' frames, and that kernel and reference end with the same array.
  The array the kernel leaves is `Cert.ConvIdeal.Hand.final`; the reference's run gives the same function of the arguments.
-/
module

public import proofs.«01_k».proof.Defs
public import proofs.«01_k».proof.Proof.ConvValue
public import proofs.«01_k».proof.Proof.Gen.ConvRefIdeal.Run
public import proofs.«01_k».proof.Proof.Gen.Conv.Frame
public import proofs.«01_k».proof.Proof.Gen.Conv
public import proofs.«01_k».proof.Proof.Gen.ConvIdeal
public import proofs.«01_k».proof.Proof.Gen.ConvRefIdeal
public import Idealize.ShloMosaic.Lib.Quiescent

@[expose] public section

set_option maxRecDepth 16384

noncomputable section

open Idealize.ShloMosaic Idealize.ShloMosaic.TcCoe Idealize.SL.Sem

namespace Cert.Proof.ConvClaim

theorem frame_kernel : Cert.quiescent_Conv := fun m ρ _ => Cert.Conv.Gen.frame (F := Bits) m ρ

theorem frame_ideal : Cert.quiescent_ConvIdeal := fun m ρ _ => Cert.ConvIdeal.Gen.frame (F := Ideal) m ρ

theorem frame_ref : Cert.quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)

/-- Both runs end with the rows plus the convolution's image. -/
theorem algebraic : Cert.algebraic_ConvIdeal_ConvRefIdeal := by
  intro m ρ m' ρ' _ hagree
  refine ⟨fun c => (Cert.ConvIdeal.Gen.dats m 0 c).arrAt 11 Cert.ConvIdeal.cfg0.N, Cert.ConvIdeal.Value.run_blocks (F := Ideal) m ρ, ?_⟩
  refine (θ_run Cert.ConvRefIdeal.defs _ _).mono (fun _ h c => ⟨(h c).1.trans ?_, (h c).2⟩) (Cert.ConvRefIdeal.Value.run (F := Ideal) m' ρ')
  obtain ⟨e0, e1, e2, e3, e4, e5, e6, e7, e8⟩ := hagree c
  refine (Cert.ConvRefIdeal.Read.val_main_v274_eq (F := Ideal) _).trans ?_
  refine Eq.trans ?_ (Cert.ConvIdeal.Hand.final m c).symm
  exact congr (congr (congr (congr (congr (congr (congr (congr (congrArg (Cert.ConvRefIdeal.Read.val_main_v274 (F := Ideal)) e0) e1) e2) e3) e4) e5) e6) e7) e8

end Cert.Proof.ConvClaim

end
-- ==== Proof.GluRef.lean ====
/-
  The output of the state-space layer as a plain row function, and the reference's stages as that function of the arguments.
-/
module

public import proofs.«01_k».proof.Proof.FfnValue
public import proofs.«01_k».proof.Proof.Gen.GluRefIdeal.Read

@[expose] public section

set_option maxRecDepth 16384

noncomputable section

namespace Cert.GluIdeal.Hand

open Idealize.ShloMosaic Cert.FfnIdeal.Hand

/-- The activation of the tanh form: half of `y` times one plus the tanh of the cubic in `y`. -/
def gelu (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * (y * y * y)))))

/-- The activated sum of the state's row and the weighted normed row. -/
def actRow (x y n d : Fin 1024 → EReal) (k : Fin 1024) : EReal := gelu (y k + d k * normRow x n k)

/-- One column of the activated row's projection. -/
def projRow (h : Fin 1024 → EReal) (w : Fin 1024 → Fin 2048 → EReal) (b : Fin 2048 → EReal) (j : Fin 2048) : EReal := ∑ k, h k * w k j + b j

/-- The row plus its gated projection, at column `c`. -/
def outRow (x h : Fin 1024 → EReal) (w : Fin 1024 → Fin 2048 → EReal) (b : Fin 2048 → EReal) (c : Fin 1024) : EReal :=
  x c + projRow h w b ⟨c.val, by omega⟩ * Ideal.logistic (projRow h w b ⟨1024 + c.val, by omega⟩)

/-- The state's row of token `4096·b + s`: column `e` lies in lane group `e / 128`, in the token's group of eight at its place in the group. -/
def stateRow (Y : FVec Ideal Cert.GluRefIdeal.S8x4096x1024 .f32) (b : Fin 8) (s : Fin 4096) (e : Fin 1024) : EReal :=
  Y (ix3 ⟨e.val / 128, by omega⟩ ⟨512 * b.val + s.val / 8, by omega⟩ ⟨s.val % 8 * 128 + e.val % 128, by omega⟩)

section
open Cert.GluRefIdeal.Read

variable (X Y : FVec Ideal Cert.GluRefIdeal.S8x4096x1024 .f32) (n d : FVec Ideal Cert.GluRefIdeal.S1024 .f32)
  (W : FVec Ideal Cert.GluRefIdeal.S1024x2048 .f32) (B : FVec Ideal Cert.GluRefIdeal.S2048 .f32)

theorem ref_state (b : Fin 8) (s : Fin 4096) (e : Fin 1024) : val_main_v2 (F := Ideal) Y (ix3 b s e) = stateRow Y b s e := by
  have e2 : idx_main_v2 (ix3 b s e) = ix4 ⟨512 * b.val + s.val / 8, by omega⟩ ⟨s.val % 8, by omega⟩ ⟨e.val / 128, by omega⟩ ⟨e.val % 128, by omega⟩ := by
    idx_ext
  have e1 : idx_main_v1 (ix4 ⟨512 * b.val + s.val / 8, by omega⟩ ⟨s.val % 8, by omega⟩ ⟨e.val / 128, by omega⟩ ⟨e.val % 128, by omega⟩)
      = ix4 ⟨e.val / 128, by omega⟩ ⟨512 * b.val + s.val / 8, by omega⟩ ⟨s.val % 8, by omega⟩ ⟨e.val % 128, by omega⟩ := by
    idx_ext
  have e0 : idx_main_v0 (ix4 ⟨e.val / 128, by omega⟩ ⟨512 * b.val + s.val / 8, by omega⟩ ⟨s.val % 8, by omega⟩ ⟨e.val % 128, by omega⟩)
      = ix3 ⟨e.val / 128, by omega⟩ ⟨512 * b.val + s.val / 8, by omega⟩ ⟨s.val % 8 * 128 + e.val % 128, by omega⟩ := by
    idx_ext
  rw [val_main_v2_apply, e2, val_main_v1_apply, e1, val_main_v0_apply, e0]
  rfl

theorem ref_norm (b : Fin 8) (s : Fin 4096) (k : Fin 1024) :
    val_main_v15 (F := Ideal) X n (ix3 b s k) = normRow (fun k => X (ix3 b s k)) (fun k => n (ix1 k)) k := by
  have e1 : ∀ l, idx_main_v4 (idx_main_v5 (idx_main_v11 (ix3 b s k))) l = ix3 b s l := fun l => by idx_ext
  have e2 : idx_main_v13 (idx_main_v14 (ix3 b s k)) = ix1 k := by idx_ext
  simp only [val_main_v15_apply, val_main_v14_apply, val_main_v13_apply, val_main_v12_apply, val_main_v11_apply, val_main_v10_apply, val_main_v9_apply,
    val_main_v8_apply, val_main_v7_apply, val_main_v6_apply, val_main_v5_apply, val_main_v4_apply, val_main_v3_apply, val_main_cst_apply,
    val_main_cst_0_apply, val_main_cst_1_apply, e1, e2]
  pointwise [normRow]

theorem ref_act (b : Fin 8) (s : Fin 4096) (k : Fin 1024) : val_main_v32 (F := Ideal) X Y n d (ix3 b s k)
    = actRow (fun k => X (ix3 b s k)) (stateRow Y b s) (fun k => n (ix1 k)) (fun k => d (ix1 k)) k := by
  have e3 : idx_main_v16 (idx_main_v17 (ix3 b s k)) = ix1 k := by idx_ext
  simp only [val_main_v32_apply, val_main_v31_apply, val_main_v30_apply, val_main_v29_apply, val_main_v28_apply, val_main_v27_apply, val_main_v26_apply,
    val_main_v25_apply, val_main_v24_apply, val_main_v23_apply, val_main_v22_apply, val_main_v21_apply, val_main_v20_apply, val_main_v19_apply,
    val_main_v18_apply, val_main_v17_apply, val_main_v16_apply, val_main_cst_2_apply, val_main_cst_3_apply, val_main_cst_4_apply, val_main_cst_5_apply,
    ref_state, ref_norm, e3]
  pointwise [actRow, gelu]

theorem ref_proj (b : Fin 8) (s : Fin 4096) (j : Fin 2048) : val_main_v36 (F := Ideal) X Y n d W B (ix3 b s j)
    = projRow (actRow (fun k => X (ix3 b s k)) (stateRow Y b s) (fun k => n (ix1 k)) (fun k => d (ix1 k))) (fun k j => W (ix2 k j)) (fun j => B (ix1 j)) j := by
  have e1 : idx_main_v34 (idx_main_v35 (ix3 b s j)) = ix1 j := by idx_ext
  have eb : val_main_v35 (F := Ideal) B (ix3 b s j) = B (ix1 j) := by rw [val_main_v35_apply, val_main_v34_apply, e1]
  rw [val_main_v36_apply, val_main_v33_apply]
  refine congrArg₂ (· + ·) (Finset.sum_congr rfl fun k _ => ?_) eb
  rw [show lidx_main_v33 (ix3 b s j) k = ix3 b s k from by idx_ext, show ridx_main_v33 (ix3 b s j) k = ix2 k j from by idx_ext, ref_act]

theorem ref_out (b : Fin 8) (s : Fin 4096) (c : Fin 1024) : val_main_v46 (F := Ideal) X Y n d W B (ix3 b s c)
    = outRow (fun k => X (ix3 b s k)) (actRow (fun k => X (ix3 b s k)) (stateRow Y b s) (fun k => n (ix1 k)) (fun k => d (ix1 k)))
        (fun k j => W (ix2 k j)) (fun j => B (ix1 j)) c := by
  have e1 : idx_main_v37 (ix3 b s c) = ix3 b s ⟨c.val, by omega⟩ := by idx_ext
  have e2 : idx_main_v38 (ix3 b s c) = ix3 b s ⟨1024 + c.val, by omega⟩ := by idx_ext
  simp only [val_main_v46_apply, val_main_v45_apply, val_main_v44_apply, val_main_v43_apply, val_main_v42_apply, val_main_v41_apply, val_main_v40_apply,
    val_main_v39_apply, val_main_v38_apply, val_main_v37_apply, val_main_cst_6_apply, val_main_cst_7_apply, e1, e2, ref_proj]
  pointwise [outRow, Ideal.logistic]

/-- The reference's result at an index whose row is token `4096·b + s`. -/
theorem ref (i : Cert.GluRefIdeal.S32768x1024.Idx) (b : Fin 8) (s : Fin 4096) (c : Fin 1024) (h0 : (i 0).val = 4096 * b.val + s.val) (h1 : (i 1).val = c.val) :
    val_main_v47 (F := Ideal) X Y n d W B i
      = outRow (fun k => X (ix3 b s k)) (actRow (fun k => X (ix3 b s k)) (stateRow Y b s) (fun k => n (ix1 k)) (fun k => d (ix1 k)))
          (fun k j => W (ix2 k j)) (fun j => B (ix1 j)) c := by
  have e0 : idx_main_v47 i = ix3 b s c := by
    idx_ext
  exact (val_main_v47_apply (F := Ideal) X Y n d W B i).trans ((congrArg (val_main_v46 (F := Ideal) X Y n d W B) e0).trans (ref_out X Y n d W B b s c))

end

end Cert.GluIdeal.Hand

end
-- ==== Proof.GluPay.lean ====
/-
  The kernel's body as the plain row functions: its two long payloads at an index, and the scratch its strided stores fill —
  row `r` of lane group `j` is lane block `r % 8` of row `r / 8` of the staged state.
-/
module

public import proofs.«01_k».proof.Proof.GluRef
public import proofs.«01_k».proof.Proof.Gen.GluIdeal.Skeleton
public import Idealize.ShloMosaic.Lib.Ring

@[expose] public section

set_option maxRecDepth 16384

noncomputable section

namespace Cert.GluIdeal.Hand

open Cert.GluIdeal Cert.GluIdeal.Gen Idealize.ShloMosaic Idealize.ShloMosaic.TcCoe Idealize.SL.Sem
open Cert.FfnIdeal.Hand

/-! ## The payloads -/

theorem pay69_apply (x0 : FVec Ideal S512x1024 .f32) (x2 x3 : FVec Ideal S1x1024 .f32) (v0 v1 v2 v3 v4 v5 v6 v7 : FVec Ideal S1x512x128 .f32)
    (S : Fin 512 → Fin 1024 → EReal)
    (h0 : ∀ r (e : Fin 128), v0 (ix3 0 r e) = S r ⟨e.val, by omega⟩) (h1 : ∀ r (e : Fin 128), v1 (ix3 0 r e) = S r ⟨128 + e.val, by omega⟩)
    (h2 : ∀ r (e : Fin 128), v2 (ix3 0 r e) = S r ⟨256 + e.val, by omega⟩) (h3 : ∀ r (e : Fin 128), v3 (ix3 0 r e) = S r ⟨384 + e.val, by omega⟩)
    (h4 : ∀ r (e : Fin 128), v4 (ix3 0 r e) = S r ⟨512 + e.val, by omega⟩) (h5 : ∀ r (e : Fin 128), v5 (ix3 0 r e) = S r ⟨640 + e.val, by omega⟩)
    (h6 : ∀ r (e : Fin 128), v6 (ix3 0 r e) = S r ⟨768 + e.val, by omega⟩) (h7 : ∀ r (e : Fin 128), v7 (ix3 0 r e) = S r ⟨896 + e.val, by omega⟩)
    (r : Fin 512) (k : Fin 1024) :
    k0_pay69 (F := Ideal) (k0_pay66 x0) (k0_pay67 x2) (k0_pay68 x0) v0 v1 v2 v3 v4 v5 v6 v7 x3 (ix2 r k)
      = S r k + x3 (ix2 0 k) * normRow (fun k => x0 (ix2 r k)) (fun k => x2 (ix2 0 k)) k := by
  pointwise [k0_pay69, k0_pay68, k0_pay67, k0_pay66, normRow]
  refine congrArg (· + _) ?_
  simp only [h0, h1, h2, h3, h4, h5, h6, h7]
  repeat' split
  all_goals exact congrArg (S r) (Fin.ext (by dsimp only <;> omega))

theorem pay1_apply (v321 v357 : FVec Ideal S512x1024 .f32) (w : FVec Ideal S1024x2048 .bf16) (b : FVec Ideal S1x2048 .f32) (r : Fin 512) (c : Fin 1024) :
    k0_pay1 (F := Ideal) v321 v357 w b (ix2 r c)
      = outRow (fun k => v321 (ix2 r k)) (fun k => gelu (v357 (ix2 r k))) (fun k j => w (ix2 k j)) (fun j => b (ix2 0 j)) c := by
  have hc : ∀ a : EReal, a * (a * a) = a * a * a := fun a => (mul_assoc a a a).symm
  pointwise [k0_pay1, outRow, projRow, gelu, hc]

/-! ## The scratch -/

/-- What the stores leave: row `r` of lane group `j`. -/
def stored (x1 : FVec Ideal S8x64x1024 .f32) (y : S8x512x128.Idx) : EReal :=
  x1 (ix3 ⟨(y 0).val, (y 0).isLt⟩ ⟨(y 1).val / 8, by have h : (y 1).val < 512 := (y 1).isLt; omega⟩
    ⟨(y 1).val % 8 * 128 + (y 2).val, by have h : (y 2).val < 128 := (y 2).isLt; omega⟩)

/-- One strided store's payload, the lane block at `o = 128·τ` of group `j`, is `stored` at the rows `τ, τ + 8, …` it goes to. -/
theorem piece (x1 : FVec Ideal S8x64x1024 .f32) (j τ o : ℕ) (ho : o = τ * 128) (hτ : τ < 8)
    (hi : ∀ a, (![j, 0, o] : Fin 3 → ℕ) a + S1x64x128.size a ≤ S8x64x1024.size a)
    (h : ∀ a, S1x64x128.size a = 0 ∨ (![j, τ, 0] : Fin 3 → ℕ) a + (![1, 8, 1] : Fin 3 → ℕ) a * (S1x64x128.size a - 1) < S8x512x128.size a)
    (hs : ∀ a, 0 < (![1, 8, 1] : Fin 3 → ℕ) a) (x : S1x64x128.Idx) :
    shapeCast S1x64x128 (shapeCast S64x128 (View.ld (e' := .f32) (Val := Elt Ideal) x1 (Rect.unit (s := S8x64x1024) ![j, 0, o] S1x64x128.size hi)) shapeCasts_S1x64x128_S64x128)
        shapeCasts_S64x128_S1x64x128 x
      = stored x1 ((⟨(⟨![j, τ, 0], S1x64x128.size, ![1, 8, 1], h⟩ : LoadRect S8x512x128), hs⟩ : Rect S8x512x128).emb x) := by
  obtain ⟨a, b, rfl⟩ : ∃ (a : Fin 64) (b : Fin 128), x = ix3 0 a b := ⟨x 1, x 2, by
    funext d
    refine Fin.ext ?_
    match d with
    | ⟨0, _⟩ => have h : (x 0).val < 1 := (x 0).isLt; show (x 0).val = 0; omega
    | ⟨1, _⟩ => rfl
    | ⟨2, _⟩ => rfl⟩
  have e : shapeCast S1x64x128 (shapeCast S64x128 (View.ld (e' := .f32) (Val := Elt Ideal) x1 (Rect.unit (s := S8x64x1024) ![j, 0, o] S1x64x128.size hi)) shapeCasts_S1x64x128_S64x128)
      shapeCasts_S64x128_S1x64x128 (ix3 0 a b) = View.ld (e' := .f32) (Val := Elt Ideal) x1 (Rect.unit (s := S8x64x1024) ![j, 0, o] S1x64x128.size hi) (ix3 0 a b) := by
    generalize View.ld (e' := .f32) (Val := Elt Ideal) x1 (Rect.unit (s := S8x64x1024) ![j, 0, o] S1x64x128.size hi) = v
    pointwise
  refine e.trans ?_
  unfold stored
  refine congrArg x1 ?_
  funext d
  refine Fin.ext ?_
  match d with
  | ⟨0, _⟩ => rfl
  | ⟨1, _⟩ => show 0 + 1 * a.val = (τ + 8 * a.val) / 8; omega
  | ⟨2, _⟩ => show o + 1 * b.val = (τ + 8 * a.val) % 8 * 128 + (0 + 1 * b.val); omega

/-- Whether a piece is the strided store of group `j`, place `τ`. -/
def isRows (j τ : ℕ) (p : View.Piece (Elt Ideal) S8x512x128 .f32) : Bool :=
  decide (p.1.off = ![j, τ, 0] ∧ p.1.size = ![1, 64, 128] ∧ p.1.stride = ![1, 8, 1])

/-- Whether every group and place has its store. -/
def allRows (L : List (View.Piece (Elt Ideal) S8x512x128 .f32)) : Bool :=
  (List.range 8).all fun j => (List.range 8).all fun τ => L.any (isRows j τ)

/-- Stores of every group and place, each with `stored`'s rows, leave `stored`. -/
theorem canon_rows (x1 : FVec Ideal S8x64x1024 .f32) (L : List (View.Piece (Elt Ideal) S8x512x128 .f32)) (hc : allRows L = true)
    (hp : ∀ p ∈ L, ∀ x, p.2 x = stored x1 (p.1.emb x)) (y : S8x512x128.Idx) : View.canon L y = stored x1 y := by
  refine View.canon_apply_of_pieces (stored x1) L hp y ?_
  have h0 : (y 0).val < 8 := (y 0).isLt
  have h1 : (y 1).val < 512 := (y 1).isLt
  have h2 : (y 2).val < 128 := (y 2).isLt
  have hj := List.all_eq_true.mp hc (y 0).val (List.mem_range.mpr h0)
  have ht := List.all_eq_true.mp hj ((y 1).val % 8) (List.mem_range.mpr (by omega))
  obtain ⟨p, hpL, hpr⟩ := List.any_eq_true.mp ht
  obtain ⟨ho, hs, hst⟩ := of_decide_eq_true hpr
  refine ⟨p, hpL, p.1.mem_set.mpr fun a => ?_⟩
  rw [ho, hs, hst]
  match a with
  | ⟨0, _⟩ => exact ⟨0, Nat.one_pos, rfl⟩
  | ⟨1, _⟩ => exact ⟨(y 1).val / 8, (by show (y 1).val / 8 < 64; omega), (by show (y 1).val = (y 1).val % 8 + 8 * ((y 1).val / 8); omega)⟩
  | ⟨2, _⟩ => exact ⟨(y 2).val, h2, (by show (y 2).val = 0 + 1 * (y 2).val; omega)⟩

/-- The state's row `r` as the loads of the eight lane groups give it. -/
def loaded (x1 : FVec Ideal S8x64x1024 .f32) (r : Fin 512) (e : Fin 1024) : EReal :=
  x1 (ix3 ⟨e.val / 128, by omega⟩ ⟨r.val / 8, by omega⟩ ⟨r.val % 8 * 128 + e.val % 128, by omega⟩)

/-- A load of lane group `j` of the scratch. -/
theorem load_rows (x1 : FVec Ideal S8x64x1024 .f32) (L : List (View.Piece (Elt Ideal) S8x512x128 .f32)) (hL : ∀ y, View.canon L y = stored x1 y)
    (j : ℕ) (hi : ∀ a, (![j, 0, 0] : Fin 3 → ℕ) a + S1x512x128.size a ≤ S8x512x128.size a) (r : Fin 512) (e : Fin 128) (k : Fin 1024) (hk : k.val = j * 128 + e.val) :
    (View.whole cc0_scratch0).readCov (e := .f32) (Val := Elt Ideal) L (Rect.unit (s := S8x512x128) ![j, 0, 0] S1x512x128.size hi).toLoadRect (ix3 0 r e) = loaded x1 r k := by
  refine (congrFun (View.readCov_eq_canon' _ L (Rect.unit (s := S8x512x128) ![j, 0, 0] S1x512x128.size hi).toLoadRect) (ix3 0 r e)).trans ?_
  refine (hL _).trans ?_
  unfold stored loaded
  refine congrArg x1 ?_
  funext d
  refine Fin.ext ?_
  have he : e.val < 128 := e.isLt
  match d with
  | ⟨0, _⟩ => show j + 1 * 0 = k.val / 128; omega
  | ⟨1, _⟩ => show (0 + 1 * r.val) / 8 = r.val / 8; omega
  | ⟨2, _⟩ => show (0 + 1 * r.val) % 8 * 128 + (0 + 1 * e.val) = r.val % 8 * 128 + k.val % 128; omega

end Cert.GluIdeal.Hand

end
-- ==== Proof.GluValue.lean ====
/-
  What the state-space output kernel leaves: at every grid point the block of rows is the plain row function of the arguments,
  so the result array is the reference's.
-/
module

public import proofs.«01_k».proof.Proof.GluPay
public import proofs.«01_k».proof.Proof.Gen.GluIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GluIdeal.Hand

open Cert.GluIdeal Cert.GluIdeal.Gen Idealize.ShloMosaic Idealize.ShloMosaic.TcCoe Idealize.SL.Sem
open Idealize.ShloMosaic.Pipeline (Dat)
open Cert.FfnIdeal.Hand (normRow)

variable (m : (ℓ : Loc nD τ sig) → Buf (Elt Ideal) ℓ)

/-! ## The staged blocks -/

theorem idx_facts : ∀ t : Fin cfg0.N, win0_0.index t = ![t.val, 0] ∧ win0_1.index t = ![0, t.val, 0] ∧ win0_2.index t = ![0, 0] ∧ win0_3.index t = ![0, 0]
    ∧ win0_4.index t = ![0, 0] ∧ win0_5.index t = ![0, 0] ∧ win0_6.index t = ![t.val, 0] :=
  (by decide +kernel : ∀ t : Fin grid0.N, _)

/-- Row `r` of the block at point `t` is the token `512·t + r`. -/
theorem row_in (c : Dev nD) (t : Fin cfg0.N) (r : Fin 512) (k : Fin 1024) (b : Fin 8) (s : Fin 4096) (hbs : 4096 * b.val + s.val = t.val * 512 + r.val) :
    (iblk m c 0 t : FVec Ideal S512x1024 .f32) (ix2 r k) = (m ((c : Thread nD τ).loc main_arg0) : FVec Ideal S8x4096x1024 .f32) (ix3 b s k) := by
  blk_ext! [iblk, V, idx_facts t]

/-- Row `a` of the state's block at point `t` is row `64·t + a` of every lane group. -/
theorem state_in (c : Dev nD) (t : Fin cfg0.N) (j : Fin 8) (a : Fin 64) (k : Fin 1024) (q : Fin 4096) (hq : q.val = t.val * 64 + a.val) :
    (iblk m c 1 t : FVec Ideal S8x64x1024 .f32) (ix3 j a k) = (m ((c : Thread nD τ).loc main_arg1) : FVec Ideal S8x4096x1024 .f32) (ix3 j q k) := by
  blk_ext! [iblk, V, idx_facts t]

theorem gain_in (c : Dev nD) (t : Fin cfg0.N) (k : Fin 1024) :
    (iblk m c 2 t : FVec Ideal S1x1024 .f32) (ix2 0 k) = (m ((c : Thread nD τ).loc main_arg2) : FVec Ideal S1024 .f32) (ix1 k) := by
  blk_ext! [iblk, V, idx_facts t]

theorem skip_in (c : Dev nD) (t : Fin cfg0.N) (k : Fin 1024) :
    (iblk m c 3 t : FVec Ideal S1x1024 .f32) (ix2 0 k) = (m ((c : Thread nD τ).loc main_arg3) : FVec Ideal S1024 .f32) (ix1 k) := by
  blk_ext! [iblk, V, idx_facts t]

theorem weight_in (c : Dev nD) (t : Fin cfg0.N) (k : Fin 1024) (j : Fin 2048) :
    (iblk m c 4 t : FVec Ideal S1024x2048 .bf16) (ix2 k j) = (m ((c : Thread nD τ).loc main_arg4) : FVec Ideal S1024x2048 .f32) (ix2 k j) := by
  blk_ext! [iblk, V, idx_facts t]

theorem bias_in (c : Dev nD) (t : Fin cfg0.N) (j : Fin 2048) :
    (iblk m c 5 t : FVec Ideal S1x2048 .f32) (ix2 0 j) = (m ((c : Thread nD τ).loc main_arg5) : FVec Ideal S2048 .f32) (ix1 j) := by
  blk_ext! [iblk, V, idx_facts t]

/-! ## One grid point -/

/-- The body's result over any stores that leave `stored`, at row `r` and column `c`. -/
theorem body (x0 : FVec Ideal S512x1024 .f32) (x1 : FVec Ideal S8x64x1024 .f32) (x2 x3 : FVec Ideal S1x1024 .f32) (x4 : FVec Ideal S1024x2048 .bf16)
    (x5 : FVec Ideal S1x2048 .f32) (L : List (View.Piece (Elt Ideal) S8x512x128 .f32)) (hc : allRows L = true)
    (hp : ∀ p ∈ L, ∀ x, p.2 x = stored x1 (p.1.emb x)) (r : Fin 512) (c : Fin 1024) :
    k0_pay1 (F := Ideal) (k0_pay66 x0) (k0_pay69 (k0_pay66 x0) (k0_pay67 x2) (k0_pay68 x0)
        ((View.whole cc0_scratch0).readCov (Val := Elt Ideal) L (Rect.unit (s := S8x512x128) ![0, 0, 0] S1x512x128.size inb_S8x512x128_S1x512x128_0_0_0).toLoadRect)
        ((View.whole cc0_scratch0).readCov (Val := Elt Ideal) L (Rect.unit (s := S8x512x128) ![1, 0, 0] S1x512x128.size inb_S8x512x128_S1x512x128_1_0_0).toLoadRect)
        ((View.whole cc0_scratch0).readCov (Val := Elt Ideal) L (Rect.unit (s := S8x512x128) ![2, 0, 0] S1x512x128.size inb_S8x512x128_S1x512x128_2_0_0).toLoadRect)
        ((View.whole cc0_scratch0).readCov (Val := Elt Ideal) L (Rect.unit (s := S8x512x128) ![3, 0, 0] S1x512x128.size inb_S8x512x128_S1x512x128_3_0_0).toLoadRect)
        ((View.whole cc0_scratch0).readCov (Val := Elt Ideal) L (Rect.unit (s := S8x512x128) ![4, 0, 0] S1x512x128.size inb_S8x512x128_S1x512x128_4_0_0).toLoadRect)
        ((View.whole cc0_scratch0).readCov (Val := Elt Ideal) L (Rect.unit (s := S8x512x128) ![5, 0, 0] S1x512x128.size inb_S8x512x128_S1x512x128_5_0_0).toLoadRect)
        ((View.whole cc0_scratch0).readCov (Val := Elt Ideal) L (Rect.unit (s := S8x512x128) ![6, 0, 0] S1x512x128.size inb_S8x512x128_S1x512x128_6_0_0).toLoadRect)
        ((View.whole cc0_scratch0).readCov (Val := Elt Ideal) L (Rect.unit (s := S8x512x128) ![7, 0, 0] S1x512x128.size inb_S8x512x128_S1x512x128_7_0_0).toLoadRect)
        x3) x4 x5 (ix2 r c)
      = outRow (fun k => x0 (ix2 r k)) (actRow (fun k => x0 (ix2 r k)) (loaded x1 r) (fun k => x2 (ix2 0 k)) (fun k => x3 (ix2 0 k)))
          (fun k j => x4 (ix2 k j)) (fun j => x5 (ix2 0 j)) c := by
  have hL := canon_rows x1 L hc hp
  refine (pay1_apply _ _ _ _ r c).trans ?_
  have e0 : (fun k => k0_pay66 (F := Ideal) x0 (ix2 r k)) = fun k => x0 (ix2 r k) := funext fun k => by pointwise [k0_pay66]
  refine congrFun (congrFun (congrFun (congr (congrArg outRow e0) (funext fun k => congrArg gelu ?_)) _) _) c
  exact pay69_apply x0 x2 x3 _ _ _ _ _ _ _ _ (loaded x1)
    (fun r e => load_rows x1 L hL 0 _ r e _ (by simp)) (fun r e => load_rows x1 L hL 1 _ r e _ rfl) (fun r e => load_rows x1 L hL 2 _ r e _ rfl)
    (fun r e => load_rows x1 L hL 3 _ r e _ rfl) (fun r e => load_rows x1 L hL 4 _ r e _ rfl) (fun r e => load_rows x1 L hL 5 _ r e _ rfl)
    (fun r e => load_rows x1 L hL 6 _ r e _ rfl) (fun r e => load_rows x1 L hL 7 _ r e _ rfl) r k

set_option maxHeartbeats 4000000 in
/-- The case's term of the blocks, at row `r` and column `c`. -/
theorem out_apply (c : Dev nD) (t : Fin cfg0.N) (r : Fin 512) (k : Fin 1024) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) (ix2 r k)
    = outRow (fun k => (iblk m c 0 t : FVec Ideal S512x1024 .f32) (ix2 r k))
        (actRow (fun k => (iblk m c 0 t : FVec Ideal S512x1024 .f32) (ix2 r k)) (loaded (iblk m c 1 t) r) (fun k => (iblk m c 2 t : FVec Ideal S1x1024 .f32) (ix2 0 k))
          (fun k => (iblk m c 3 t : FVec Ideal S1x1024 .f32) (ix2 0 k)))
        (fun k j => (iblk m c 4 t : FVec Ideal S1024x2048 .bf16) (ix2 k j)) (fun j => (iblk m c 5 t : FVec Ideal S1x2048 .f32) (ix2 0 j)) k := by
  frame_out
  generalize (iblk m c 0 t : FVec Ideal S512x1024 .f32) = x0
  generalize (iblk m c 1 t : FVec Ideal S8x64x1024 .f32) = x1
  generalize (iblk m c 2 t : FVec Ideal S1x1024 .f32) = x2
  generalize (iblk m c 3 t : FVec Ideal S1x1024 .f32) = x3
  generalize (iblk m c 4 t : FVec Ideal S1024x2048 .bf16) = x4
  generalize (iblk m c 5 t : FVec Ideal S1x2048 .f32) = x5
  refine body x0 x1 x2 x3 x4 x5 _ ?_ ?_ r k
  · sl_kernel_rfl
  · refine List.forall_mem_cons.2 ⟨fun x => piece x1 7 7 896 rfl (by decide) _ _ _ x, ?_⟩
    refine List.forall_mem_cons.2 ⟨fun x => piece x1 7 6 768 rfl (by decide) _ _ _ x, ?_⟩
    refine List.forall_mem_cons.2 ⟨fun x => piece x1 7 5 640 rfl (by decide) _ _ _ x, ?_⟩
    refine List.forall_mem_cons.2 ⟨fun x => piece x1 7 4 512 rfl (by decide) _ _ _ x, ?_⟩
    refine List.forall_mem_cons.2 ⟨fun x => piece x1 7 3 384 rfl (by decide) _ _ _ x, ?_⟩
    refine List.forall_mem_cons.2 ⟨fun x => piece x1 7 2 256 rfl (by decide) _ _ _ x, ?_⟩
    refine List.forall_mem_cons.2 ⟨fun x => piece x1 7 1 128 rfl (by decide) _ _ _ x, ?_⟩
    refine List.forall_mem_cons.2 ⟨fun x => piece x1 7 0 0 rfl (by decide) _ _ _ x, ?_⟩
    refine List.forall_mem_cons.2 ⟨fun x => piece x1 6 7 896 rfl (by decide) _ _ _ x, ?_⟩
    refine List.forall_mem_cons.2 ⟨fun x => piece x1 6 6 768 rfl (by decide) _ _ _ x, ?_⟩
    refine List.forall_mem_cons.2 ⟨fun x => piece x1 6 5 640 rfl (by decide) _ _ _ x, ?_⟩
    refine List.forall_mem_cons.2 ⟨fun x => piece x1 6 4 512 rfl (by decide) _ _ _ x, ?_⟩
    refine List.forall_mem_cons.2 ⟨fun x => piece x1 6 3 384 rfl (by decide) _ _ _ x, ?_⟩
    refine List.forall_mem_cons.2 ⟨fun x => piece x1 6 2 256 rfl (by decide) _ _ _ x, ?_⟩
    refine List.forall_mem_cons.2 ⟨fun x => piece x1 6 1 128 rfl (by decide) _ _ _ x, ?_⟩
    refine List.forall_mem_cons.2 ⟨fun x => piece x1 6 0 0 rfl (by decide) _ _ _ x, ?_⟩
    refine List.forall_mem_cons.2 ⟨fun x => piece x1 5 7 896 rfl (by decide) _ _ _ x, ?_⟩
    refine List.forall_mem_cons.2 ⟨fun x => piece x1 5 6 768 rfl (by decide) _ _ _ x, ?_⟩
    refine List.forall_mem_cons.2 ⟨fun x => piece x1 5 5 640 rfl (by decide) _ _ _ x, ?_⟩
    refine List.forall_mem_cons.2 ⟨fun x => piece x1 5 4 512 rfl (by decide) _ _ _ x, ?_⟩
    refine List.forall_mem_cons.2 ⟨fun x => piece x1 5 3 384 rfl (by decide) _ _ _ x, ?_⟩
    refine List.forall_mem_cons.2 ⟨fun x => piece x1 5 2 256 rfl (by decide) _ _ _ x, ?_⟩
    refine List.forall_mem_cons.2 ⟨fun x => piece x1 5 1 128 rfl (by decide) _ _ _ x, ?_⟩
    refine List.forall_mem_cons.2 ⟨fun x => piece x1 5 0 0 rfl (by decide) _ _ _ x, ?_⟩
    refine List.forall_mem_cons.2 ⟨fun x => piece x1 4 7 896 rfl (by decide) _ _ _ x, ?_⟩
    refine List.forall_mem_cons.2 ⟨fun x => piece x1 4 6 768 rfl (by decide) _ _ _ x, ?_⟩
    refine List.forall_mem_cons.2 ⟨fun x => piece x1 4 5 640 rfl (by decide) _ _ _ x, ?_⟩
    refine List.forall_mem_cons.2 ⟨fun x => piece x1 4 4 512 rfl (by decide) _ _ _ x, ?_⟩
    refine List.forall_mem_cons.2 ⟨fun x => piece x1 4 3 384 rfl (by decide) _ _ _ x, ?_⟩
    refine List.forall_mem_cons.2 ⟨fun x => piece x1 4 2 256 rfl (by decide) _ _ _ x, ?_⟩
    refine List.forall_mem_cons.2 ⟨fun x => piece x1 4 1 128 rfl (by decide) _ _ _ x, ?_⟩
    refine List.forall_mem_cons.2 ⟨fun x => piece x1 4 0 0 rfl (by decide) _ _ _ x, ?_⟩
    refine List.forall_mem_cons.2 ⟨fun x => piece x1 3 7 896 rfl (by decide) _ _ _ x, ?_⟩
    refine List.forall_mem_cons.2 ⟨fun x => piece x1 3 6 768 rfl (by decide) _ _ _ x, ?_⟩
    refine List.forall_mem_cons.2 ⟨fun x => piece x1 3 5 640 rfl (by decide) _ _ _ x, ?_⟩
    refine List.forall_mem_cons.2 ⟨fun x => piece x1 3 4 512 rfl (by decide) _ _ _ x, ?_⟩
    refine List.forall_mem_cons.2 ⟨fun x => piece x1 3 3 384 rfl (by decide) _ _ _ x, ?_⟩
    refine List.forall_mem_cons.2 ⟨fun x => piece x1 3 2 256 rfl (by decide) _ _ _ x, ?_⟩
    refine List.forall_mem_cons.2 ⟨fun x => piece x1 3 1 128 rfl (by decide) _ _ _ x, ?_⟩
    refine List.forall_mem_cons.2 ⟨fun x => piece x1 3 0 0 rfl (by decide) _ _ _ x, ?_⟩
    refine List.forall_mem_cons.2 ⟨fun x => piece x1 2 7 896 rfl (by decide) _ _ _ x, ?_⟩
    refine List.forall_mem_cons.2 ⟨fun x => piece x1 2 6 768 rfl (by decide) _ _ _ x, ?_⟩
    refine List.forall_mem_cons.2 ⟨fun x => piece x1 2 5 640 rfl (by decide) _ _ _ x, ?_⟩
    refine List.forall_mem_cons.2 ⟨fun x => piece x1 2 4 512 rfl (by decide) _ _ _ x, ?_⟩
    refine List.forall_mem_cons.2 ⟨fun x => piece x1 2 3 384 rfl (by decide) _ _ _ x, ?_⟩
    refine List.forall_mem_cons.2 ⟨fun x => piece x1 2 2 256 rfl (by decide) _ _ _ x, ?_⟩
    refine List.forall_mem_cons.2 ⟨fun x => piece x1 2 1 128 rfl (by decide) _ _ _ x, ?_⟩
    refine List.forall_mem_cons.2 ⟨fun x => piece x1 2 0 0 rfl (by decide) _ _ _ x, ?_⟩
    refine List.forall_mem_cons.2 ⟨fun x => piece x1 1 7 896 rfl (by decide) _ _ _ x, ?_⟩
    refine List.forall_mem_cons.2 ⟨fun x => piece x1 1 6 768 rfl (by decide) _ _ _ x, ?_⟩
    refine List.forall_mem_cons.2 ⟨fun x => piece x1 1 5 640 rfl (by decide) _ _ _ x, ?_⟩
    refine List.forall_mem_cons.2 ⟨fun x => piece x1 1 4 512 rfl (by decide) _ _ _ x, ?_⟩
    refine List.forall_mem_cons.2 ⟨fun x => piece x1 1 3 384 rfl (by decide) _ _ _ x, ?_⟩
    refine List.forall_mem_cons.2 ⟨fun x => piece x1 1 2 256 rfl (by decide) _ _ _ x, ?_⟩
    refine List.forall_mem_cons.2 ⟨fun x => piece x1 1 1 128 rfl (by decide) _ _ _ x, ?_⟩
    refine List.forall_mem_cons.2 ⟨fun x => piece x1 1 0 0 rfl (by decide) _ _ _ x, ?_⟩
    refine List.forall_mem_cons.2 ⟨fun x => piece x1 0 7 896 rfl (by decide) _ _ _ x, ?_⟩
    refine List.forall_mem_cons.2 ⟨fun x => piece x1 0 6 768 rfl (by decide) _ _ _ x, ?_⟩
    refine List.forall_mem_cons.2 ⟨fun x => piece x1 0 5 640 rfl (by decide) _ _ _ x, ?_⟩
    refine List.forall_mem_cons.2 ⟨fun x => piece x1 0 4 512 rfl (by decide) _ _ _ x, ?_⟩
    refine List.forall_mem_cons.2 ⟨fun x => piece x1 0 3 384 rfl (by decide) _ _ _ x, ?_⟩
    refine List.forall_mem_cons.2 ⟨fun x => piece x1 0 2 256 rfl (by decide) _ _ _ x, ?_⟩
    refine List.forall_mem_cons.2 ⟨fun x => piece x1 0 1 128 rfl (by decide) _ _ _ x, ?_⟩
    refine List.forall_mem_cons.2 ⟨fun x => piece x1 0 0 0 rfl (by decide) _ _ _ x, ?_⟩
    exact fun _ h => absurd h List.not_mem_nil

theorem point (c : Dev nD) (t : Fin cfg0.N) (y : S512x1024.Idx) (i : S32768x1024.Idx) (h0 : (i 0).val = t.val * 512 + (y 0).val) (h1 : (i 1).val = (y 1).val) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t) y
    = Cert.GluRefIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  obtain ⟨r, k, rfl⟩ : ∃ (r : Fin 512) (k : Fin 1024), y = ix2 r k := ⟨y 0, y 1, by idx_ext⟩
  have hr : r.val < 512 := r.isLt
  have ht : t.val < 64 := t.isLt
  have hbs : 4096 * (t.val / 8) + (t.val % 8 * 512 + r.val) = t.val * 512 + r.val := by omega
  refine Eq.trans ?_ (ref _ _ _ _ _ _ i ⟨t.val / 8, by omega⟩ ⟨t.val % 8 * 512 + r.val, by omega⟩ k (h0.trans hbs.symm) h1).symm
  refine (out_apply m c t r k).trans ?_
  have ex : ∀ l : Fin 1024, _ := fun l => row_in m c t r l ⟨t.val / 8, by omega⟩ ⟨t.val % 8 * 512 + r.val, by omega⟩ hbs
  have es : loaded (iblk m c 1 t) r = stateRow (m ((c : Thread nD τ).loc main_arg1)) ⟨t.val / 8, by omega⟩ ⟨t.val % 8 * 512 + r.val, by omega⟩ := by
    funext e
    have e1 : (t.val % 8 * 512 + r.val) % 8 = r.val % 8 := by omega
    refine (state_in m c t _ _ _ ⟨512 * (t.val / 8) + (t.val % 8 * 512 + r.val) / 8, by omega⟩ (by dsimp only; omega)).trans ?_
    unfold stateRow
    refine congrArg _ ?_
    idx_ext
  refine congrFun (congr (congr (congr (congrArg outRow (funext ex)) ?_) (funext fun l => funext fun j => weight_in m c t l j)) (funext fun j => bias_in m c t j)) k
  exact congr (congr (congr (congrArg actRow (funext ex)) es) (funext fun l => gain_in m c t l)) (funext fun l => skip_in m c t l)

/-! ## The result array -/

theorem final (c : Dev nD) : (dats m 0 c).arrAt 6 (cfgs 0).N
    = Cert.GluRefIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  unfold outsAt0
  refine point m c t y _ ?_ ?_
  · blk_simp [idx_facts t]
  · blk_simp [idx_facts t]

end Cert.GluIdeal.Hand

end
-- ==== Proof.GluClaim.lean ====
/-
  The state-space output's claims: the three programs' frames, and that kernel and reference end with the same array.
  The array the kernel leaves is `Cert.GluIdeal.Hand.final`; the reference's run gives the same function of the arguments.
-/
module

public import proofs.«01_k».proof.Defs
public import proofs.«01_k».proof.Proof.GluValue
public import proofs.«01_k».proof.Proof.Gen.GluRefIdeal.Run
public import proofs.«01_k».proof.Proof.Gen.Glu.Frame
public import proofs.«01_k».proof.Proof.Gen.Glu
public import proofs.«01_k».proof.Proof.Gen.GluIdeal
public import proofs.«01_k».proof.Proof.Gen.GluRefIdeal
public import Idealize.ShloMosaic.Lib.Quiescent

@[expose] public section

set_option maxRecDepth 16384

noncomputable section

open Idealize.ShloMosaic Idealize.ShloMosaic.TcCoe Idealize.SL.Sem

namespace Cert.Proof.GluClaim

theorem frame_kernel : Cert.quiescent_Glu := fun m ρ _ => Cert.Glu.Gen.frame (F := Bits) m ρ

theorem frame_ideal : Cert.quiescent_GluIdeal := fun m ρ _ => Cert.GluIdeal.Gen.frame (F := Ideal) m ρ

theorem frame_ref : Cert.quiescent_GluRefIdeal := fun m ρ _ =>
  (θ_run Cert.GluRefIdeal.defs _ _).mono (fun r h => ⟨fun c => (h c).2, sem_eq_zero_of_no_sems (by decide) r.2⟩)
    (Cert.GluRefIdeal.Value.run (F := Ideal) m ρ)

/-- Both runs end with the rows plus the gated projection of the activated state. -/
theorem algebraic : Cert.algebraic_GluIdeal_GluRefIdeal := by
  intro m ρ m' ρ' _ hagree
  refine ⟨fun c => (Cert.GluIdeal.Gen.dats m 0 c).arrAt 6 Cert.GluIdeal.cfg0.N, Cert.GluIdeal.Value.run_blocks (F := Ideal) m ρ, ?_⟩
  refine (θ_run Cert.GluRefIdeal.defs _ _).mono (fun _ h c => ⟨(h c).1.trans ?_, (h c).2⟩) (Cert.GluRefIdeal.Value.run (F := Ideal) m' ρ')
  obtain ⟨e0, e1, e2, e3, e4, e5⟩ := hagree c
  refine (Cert.GluRefIdeal.Read.val_main_v47_eq (F := Ideal) _ _).trans ?_
  refine Eq.trans ?_ (Cert.GluIdeal.Hand.final m c).symm
  exact congr (congr (congr (congr (congr (congrArg (Cert.GluRefIdeal.Read.val_main_v47 (F := Ideal)) e0) e1) e2) e3) e4) e5

end Cert.Proof.GluClaim

end
-- ==== Proof.PoolRows.lean ====
/-
  The pooling layer as plain functions of a column: the last few values up to a time, their sum, how many of them lie in the
  sequence, and the projected excess of their mean over the value, added to the row.
-/
module

public import proofs.«01_k».proof.Proof.FfnValue

@[expose] public section

noncomputable section

namespace Cert.PoolIdeal.Hand

open Idealize.ShloMosaic Cert.FfnIdeal.Hand

/-- The value `k` steps before time `s`, zero before the sequence's start. -/
def back (u : Fin 4096 → EReal) (s : Fin 4096) (k : ℕ) : EReal := if h : k ≤ s.val then u ⟨s.val - k, by omega⟩ else 0

theorem back_zero (u : Fin 4096 → EReal) (s : Fin 4096) : back u s 0 = u s := dif_pos (Nat.zero_le _)

/-- The sum of the last `w` values up to time `s`. -/
def total (u : Fin 4096 → EReal) (w : ℕ) (s : Fin 4096) : EReal := ∑ k ∈ Finset.range w, back u s k

/-- How many of the last `w` times up to `s` lie in the sequence. -/
def inside (w : ℕ) (s : Fin 4096) : EReal := (((min (s.val + 1) w : ℕ) : ℝ) : EReal)

theorem inside_ne_zero (w : ℕ) (hw : 0 < w) (s : Fin 4096) : inside w s ≠ 0 := by
  have h : (min (s.val + 1) w : ℕ) ≠ 0 := by omega
  unfold inside
  exact_mod_cast h

/-- The mean of the last `w` values less the value itself. -/
def excess (u : Fin 4096 → EReal) (w : ℕ) (s : Fin 4096) : EReal := Ideal.div (total u w s) (inside w s) - u s

/-- A value plus a scaled projection of one group's excesses, at column `j`. -/
def outRow (x : EReal) (p : Fin 256 → EReal) (wg : Fin 256 → Fin 256 → EReal) (sc : EReal) (j : Fin 256) : EReal := x + (∑ e, p e * wg e j) * sc

/-! ## The sums in the two programs' orders -/

theorem up2 (f : ℕ → EReal) : f 0 + f 1 = ∑ k ∈ Finset.range 2, f k := by
  simp only [Finset.sum_range_succ, Finset.sum_range_zero, zero_add]

theorem down2 (f : ℕ → EReal) : 0 + f 1 + f 0 = ∑ k ∈ Finset.range 2, f k := by
  simp only [Finset.sum_range_succ, Finset.sum_range_zero, zero_add]
  ac_rfl

theorem up4 (f : ℕ → EReal) : f 0 + f 1 + f 2 + f 3 = ∑ k ∈ Finset.range 4, f k := by
  simp only [Finset.sum_range_succ, Finset.sum_range_zero, zero_add]

theorem down4 (f : ℕ → EReal) : 0 + f 3 + f 2 + f 1 + f 0 = ∑ k ∈ Finset.range 4, f k := by
  simp only [Finset.sum_range_succ, Finset.sum_range_zero, zero_add]
  ac_rfl

theorem up8 (f : ℕ → EReal) : f 0 + f 1 + f 2 + f 3 + f 4 + f 5 + f 6 + f 7 = ∑ k ∈ Finset.range 8, f k := by
  simp only [Finset.sum_range_succ, Finset.sum_range_zero, zero_add]

theorem down8 (f : ℕ → EReal) : 0 + f 7 + f 6 + f 5 + f 4 + f 3 + f 2 + f 1 + f 0 = ∑ k ∈ Finset.range 8, f k := by
  simp only [Finset.sum_range_succ, Finset.sum_range_zero, zero_add]
  ac_rfl

theorem up16 (f : ℕ → EReal) : f 0 + f 1 + f 2 + f 3 + f 4 + f 5 + f 6 + f 7 + f 8 + f 9 + f 10 + f 11 + f 12 + f 13 + f 14 + f 15 = ∑ k ∈ Finset.range 16, f k := by
  simp only [Finset.sum_range_succ, Finset.sum_range_zero, zero_add]

theorem down16 (f : ℕ → EReal) : 0 + f 15 + f 14 + f 13 + f 12 + f 11 + f 10 + f 9 + f 8 + f 7 + f 6 + f 5 + f 4 + f 3 + f 2 + f 1 + f 0 = ∑ k ∈ Finset.range 16, f k := by
  simp only [Finset.sum_range_succ, Finset.sum_range_zero, zero_add]
  ac_rfl

end Cert.PoolIdeal.Hand

end
-- ==== Proof.PoolPay.lean ====
/-
  The pooling kernel's stored values at an index, and what the carried scratch holds.
-/
module

public import proofs.«01_k».proof.Proof.PoolRows
public import proofs.«01_k».proof.Proof.Gen.PoolIdeal.Value
public import Idealize.ShloMosaic.Lib.Pipeline.ValueKit
public import Idealize.ShloMosaic.Lib.Pipeline.ReadBack
public import Idealize.ShloMosaic.Lib.IdealHost
public import Idealize.ShloMosaic.Lib.Pointwise

@[expose] public section

set_option maxRecDepth 16384

noncomputable section

namespace Cert.PoolIdeal.Hand

open Cert.PoolIdeal Cert.PoolIdeal.Gen Idealize.ShloMosaic Idealize.ShloMosaic.TcCoe Idealize.SL.Sem
open Cert.FfnIdeal.Hand (normRow)

theorem pay5_apply (x0 : FVec Ideal S1x512x1024 .f32) (x1 : FVec Ideal S1x1024 .f32) (r : Fin 512) (k : Fin 1024) :
    k0_pay5 (F := Ideal) x0 x1 (ix2 r k) = normRow (fun k => x0 (ix3 0 r k)) (fun k => x1 (ix2 0 k)) k := by
  pointwise [k0_pay5, k0_pay4]
  rfl

theorem pay2_apply (z : S16x1024.Idx) : k0_pay2 (F := Ideal) z = (0 : EReal) := by
  pointwise [k0_pay2]

theorem pay3_apply (v : FVec Ideal S16x1024 .f32) (p : Fin 16) (e : Fin 1024) : k0_pay3 (F := Ideal) v (ix2 p e) = v (ix2 p e) := by
  pointwise [k0_pay3]

/-- How many of the last `w` times lie in the sequence, at row `r` of the row block `a`. -/
def rows (w : ℕ) (a : ℕ) (r : Fin 512) : EReal := (((min (a * 512 + r.val + 1) w : ℕ) : ℝ) : EReal)

theorem rows_ne_zero (w : ℕ) (hw : 0 < w) (a : ℕ) (r : Fin 512) : rows w a r ≠ 0 := by
  have h : (min (a * 512 + r.val + 1) w : ℕ) ≠ 0 := by omega
  unfold rows
  exact_mod_cast h

/-- The mean a kernel row takes as a product with an inverse, as a quotient. -/
theorem mean_eq (w : ℕ) (hw : 0 < w) (a : ℕ) (r : Fin 512) (z : BitVec 32) (hz : z.toInt = ((min (a * 512 + r.val + 1) w : ℕ) : ℤ)) (x : EReal) :
    x * Ideal.div 1 ((z.toInt : ℝ) : EReal) = Ideal.div x (rows w a r) := by
  have h : ((z.toInt : ℝ) : EReal) = rows w a r := by
    rw [hz]
    unfold rows
    norm_cast
  rw [h, Ideal.mul_one_div (rows_ne_zero w hw a r)]

theorem int2 : ∀ (a : Fin 8) (r : Fin 512), (IntOp.minsi (IntOp.addi (IntOp.addi (IntOp.muli (BitVec.ofNat 32 a.val) 512#32) (BitVec.ofNat 32 r.val)) 1#32) 2#32).toInt
    = ((min (a.val * 512 + r.val + 1) 2 : ℕ) : ℤ) := by decide +kernel

theorem tile2 (x0 : FVec Ideal S1x512x1024 .f32) (h0 h1 : FVec Ideal S512x256 .f32) (i : grid0.Coords) (wt : FVec Ideal S1x256x256 .bf16) (sc : FVec Ideal S1x256 .f32)
    (r : Fin 512) (j : Fin 256) (u : Fin 256 → ℕ → EReal) (e0 : ∀ e, h0 (ix2 r e) = u e 0) (e1 : ∀ e, h1 (ix2 r e) = u e 1) :
    k0_pay9 (F := Ideal) (k0_pay4 x0) h0 (k0_pay7 h0 h1) (k0_pay8 i) 2#32 wt sc (ix3 0 r j)
      = outRow (x0 (ix3 0 r ⟨0 + j.val, by omega⟩)) (fun e => Ideal.div (∑ k ∈ Finset.range 2, u e k) (rows 2 (i 1).val r) - u e 0) (fun e j => wt (ix3 0 e j)) (sc (ix2 0 j)) j := by
  pointwise [k0_pay9, k0_pay7, k0_pay8, k0_pay6, k0_pay4, outRow]
  simp only [e0, e1]
  refine congrArg₂ (· + ·) rfl (congrArg₂ (· * ·) (Finset.sum_congr rfl fun x _ => congrArg₂ (· * ·) (congrArg₂ (· - ·) ?_ rfl) rfl) rfl)
  rw [← up2 (u x)]
  exact mean_eq 2 (by decide) (i 1).val r _ (int2 (i 1) r) _

theorem int4 : ∀ (a : Fin 8) (r : Fin 512), (IntOp.minsi (IntOp.addi (IntOp.addi (IntOp.muli (BitVec.ofNat 32 a.val) 512#32) (BitVec.ofNat 32 r.val)) 1#32) 4#32).toInt
    = ((min (a.val * 512 + r.val + 1) 4 : ℕ) : ℤ) := by decide +kernel

theorem tile4 (x0 : FVec Ideal S1x512x1024 .f32) (h0 h1 h2 h3 : FVec Ideal S512x256 .f32) (i : grid0.Coords) (wt : FVec Ideal S1x256x256 .bf16) (sc : FVec Ideal S1x256 .f32)
    (r : Fin 512) (j : Fin 256) (u : Fin 256 → ℕ → EReal) (e0 : ∀ e, h0 (ix2 r e) = u e 0) (e1 : ∀ e, h1 (ix2 r e) = u e 1) (e2 : ∀ e, h2 (ix2 r e) = u e 2) (e3 : ∀ e, h3 (ix2 r e) = u e 3) :
    k0_pay11 (F := Ideal) (k0_pay4 x0) (k0_pay10 (k0_pay6 i) h0 h1 h2 h3) wt sc (ix3 0 r j)
      = outRow (x0 (ix3 0 r ⟨256 + j.val, by omega⟩)) (fun e => Ideal.div (∑ k ∈ Finset.range 4, u e k) (rows 4 (i 1).val r) - u e 0) (fun e j => wt (ix3 0 e j)) (sc (ix2 0 j)) j := by
  pointwise [k0_pay11, k0_pay10, k0_pay6, k0_pay4, outRow]
  simp only [e0, e1, e2, e3]
  refine congrArg₂ (· + ·) rfl (congrArg₂ (· * ·) (Finset.sum_congr rfl fun x _ => congrArg₂ (· * ·) (congrArg₂ (· - ·) ?_ rfl) rfl) rfl)
  rw [← up4 (u x)]
  exact mean_eq 4 (by decide) (i 1).val r _ (int4 (i 1) r) _

theorem int8 : ∀ (a : Fin 8) (r : Fin 512), (IntOp.minsi (IntOp.addi (IntOp.addi (IntOp.muli (BitVec.ofNat 32 a.val) 512#32) (BitVec.ofNat 32 r.val)) 1#32) 8#32).toInt
    = ((min (a.val * 512 + r.val + 1) 8 : ℕ) : ℤ) := by decide +kernel

theorem tile8 (x0 : FVec Ideal S1x512x1024 .f32) (h0 h1 h2 h3 h4 h5 h6 h7 : FVec Ideal S512x256 .f32) (i : grid0.Coords) (wt : FVec Ideal S1x256x256 .bf16) (sc : FVec Ideal S1x256 .f32)
    (r : Fin 512) (j : Fin 256) (u : Fin 256 → ℕ → EReal) (e0 : ∀ e, h0 (ix2 r e) = u e 0) (e1 : ∀ e, h1 (ix2 r e) = u e 1) (e2 : ∀ e, h2 (ix2 r e) = u e 2) (e3 : ∀ e, h3 (ix2 r e) = u e 3) (e4 : ∀ e, h4 (ix2 r e) = u e 4) (e5 : ∀ e, h5 (ix2 r e) = u e 5) (e6 : ∀ e, h6 (ix2 r e) = u e 6) (e7 : ∀ e, h7 (ix2 r e) = u e 7) :
    k0_pay14 (F := Ideal) (k0_pay4 x0) h0 (k0_pay12 h0 h1 h2 h3 h4 h5 h6 h7) (k0_pay13 (k0_pay6 i)) wt sc (ix3 0 r j)
      = outRow (x0 (ix3 0 r ⟨512 + j.val, by omega⟩)) (fun e => Ideal.div (∑ k ∈ Finset.range 8, u e k) (rows 8 (i 1).val r) - u e 0) (fun e j => wt (ix3 0 e j)) (sc (ix2 0 j)) j := by
  pointwise [k0_pay14, k0_pay12, k0_pay13, k0_pay6, k0_pay4, outRow]
  simp only [e0, e1, e2, e3, e4, e5, e6, e7]
  refine congrArg₂ (· + ·) rfl (congrArg₂ (· * ·) (Finset.sum_congr rfl fun x _ => congrArg₂ (· * ·) (congrArg₂ (· - ·) ?_ rfl) rfl) rfl)
  rw [← up8 (u x)]
  exact mean_eq 8 (by decide) (i 1).val r _ (int8 (i 1) r) _

theorem int16 : ∀ (a : Fin 8) (r : Fin 512), (IntOp.minsi (IntOp.addi (IntOp.addi (IntOp.muli (BitVec.ofNat 32 a.val) 512#32) (BitVec.ofNat 32 r.val)) 1#32) 16#32).toInt
    = ((min (a.val * 512 + r.val + 1) 16 : ℕ) : ℤ) := by decide +kernel

theorem tile16 (x0 : FVec Ideal S1x512x1024 .f32) (h0 h1 h2 h3 h4 h5 h6 h7 h8 h9 h10 h11 h12 h13 h14 h15 : FVec Ideal S512x256 .f32) (i : grid0.Coords) (wt : FVec Ideal S1x256x256 .bf16) (sc : FVec Ideal S1x256 .f32)
    (r : Fin 512) (j : Fin 256) (u : Fin 256 → ℕ → EReal) (e0 : ∀ e, h0 (ix2 r e) = u e 0) (e1 : ∀ e, h1 (ix2 r e) = u e 1) (e2 : ∀ e, h2 (ix2 r e) = u e 2) (e3 : ∀ e, h3 (ix2 r e) = u e 3) (e4 : ∀ e, h4 (ix2 r e) = u e 4) (e5 : ∀ e, h5 (ix2 r e) = u e 5) (e6 : ∀ e, h6 (ix2 r e) = u e 6) (e7 : ∀ e, h7 (ix2 r e) = u e 7) (e8 : ∀ e, h8 (ix2 r e) = u e 8) (e9 : ∀ e, h9 (ix2 r e) = u e 9) (e10 : ∀ e, h10 (ix2 r e) = u e 10) (e11 : ∀ e, h11 (ix2 r e) = u e 11) (e12 : ∀ e, h12 (ix2 r e) = u e 12) (e13 : ∀ e, h13 (ix2 r e) = u e 13) (e14 : ∀ e, h14 (ix2 r e) = u e 14) (e15 : ∀ e, h15 (ix2 r e) = u e 15) :
    k0_pay1 (F := Ideal) (k0_pay4 x0) (k0_pay16 (k0_pay6 i) h0 (k0_pay15 h0 h1 h2 h3 h4 h5 h6) h7 h8 h9 h10 h11 h12 h13 h14 h15 wt sc) (ix3 0 r j)
      = outRow (x0 (ix3 0 r ⟨768 + j.val, by omega⟩)) (fun e => Ideal.div (∑ k ∈ Finset.range 16, u e k) (rows 16 (i 1).val r) - u e 0) (fun e j => wt (ix3 0 e j)) (sc (ix2 0 j)) j := by
  pointwise [k0_pay1, k0_pay16, k0_pay15, k0_pay6, k0_pay4, outRow]
  simp only [e0, e1, e2, e3, e4, e5, e6, e7, e8, e9, e10, e11, e12, e13, e14, e15]
  refine congrArg₂ (· + ·) rfl (congrArg₂ (· * ·) (Finset.sum_congr rfl fun x _ => congrArg₂ (· * ·) (congrArg₂ (· - ·) ?_ rfl) rfl) rfl)
  rw [← up16 (u x)]
  exact mean_eq 16 (by decide) (i 1).val r _ (int16 (i 1) r) _

/-! ## The scratch -/

/-- The scratch: sixteen carried rows, then the point's own rows. -/
def stack (g : S512x1024.Idx → EReal) (h : S16x1024.Idx → EReal) (y : S528x1024.Idx) : EReal :=
  if hy : 16 ≤ (y 0).val then g (ix2 ⟨(y 0).val - 16, by have : (y 0).val < 528 := (y 0).isLt; omega⟩ (y 1))
  else h (ix2 ⟨(y 0).val, by omega⟩ (y 1))

theorem stack_top (g : S512x1024.Idx → EReal) (h : S16x1024.Idx → EReal) (y : S528x1024.Idx) (z : S512x1024.Idx) (h0 : (y 0).val = 16 + (z 0).val)
    (h1 : (y 1).val = (z 1).val) : stack g h y = g z := by
  unfold stack
  rw [dif_pos (by omega)]
  refine congrArg g ?_
  funext a
  refine Fin.ext ?_
  match a with
  | ⟨0, _⟩ => show (y 0).val - 16 = (z 0).val; omega
  | ⟨1, _⟩ => exact h1

theorem stack_low (g : S512x1024.Idx → EReal) (h : S16x1024.Idx → EReal) (y : S528x1024.Idx) (z : S16x1024.Idx) (h0 : (y 0).val = (z 0).val)
    (h1 : (y 1).val = (z 1).val) : stack g h y = h z := by
  have hz : (z 0).val < 16 := (z 0).isLt
  unfold stack
  rw [dif_neg (by omega)]
  refine congrArg h ?_
  funext a
  refine Fin.ext ?_
  match a with
  | ⟨0, _⟩ => exact h0
  | ⟨1, _⟩ => exact h1

theorem canon_stack (g : FVec Ideal S512x1024 .f32) (h : FVec Ideal S16x1024 .f32) (y : S528x1024.Idx) :
    View.canon (Val := Elt Ideal) (s := S528x1024) (e := .f32) [⟨Rect.unit ![16, 0] ![512, 1024] inb_S528x1024_S512x1024_16_0, g⟩,
      ⟨Rect.unit ![0, 0] ![16, 1024] inb_S528x1024_S16x1024_0_0, h⟩] y = stack g h y := by
  refine View.canon_apply_of_pieces _ _ ?_ y (View.cover_of_tiledBy _ ![16, 1024] (by sl_kernel_rfl) y)
  intro p hp x
  simp only [List.mem_cons, List.not_mem_nil, or_false] at hp
  rcases hp with rfl | rfl
  · exact (stack_top g h _ x (congrArg (16 + ·) (Nat.one_mul _)) ((Nat.zero_add _).trans (Nat.one_mul _))).symm
  · exact (stack_low g h _ x ((Nat.zero_add _).trans (Nat.one_mul _)) ((Nat.zero_add _).trans (Nat.one_mul _))).symm

/-- The value `k` rows above row `r` of the point's own rows, in a column of the scratch. -/
def up (U : S528x1024.Idx → EReal) (g : Fin 4) (r : Fin 512) (e : Fin 256) (k : ℕ) : EReal :=
  U (ix2 ⟨16 - k + r.val, by omega⟩ ⟨256 * g.val + e.val, by omega⟩)

/-- What the kernel loads of the scratch it has just written. -/
abbrev load (G : FVec Ideal S512x1024 .f32) (H : FVec Ideal S16x1024 .f32) (a b : ℕ) (hb : ∀ q, (![a, b] : Fin 2 → Nat) q + S512x256.size q ≤ S528x1024.size q) :
    FVec Ideal S512x256 .f32 :=
  View.readCov (Val := Elt Ideal) (View.whole cc0_scratch0) [⟨Rect.unit ![16, 0] ![512, 1024] inb_S528x1024_S512x1024_16_0, G⟩,
    ⟨Rect.unit ![0, 0] ![16, 1024] inb_S528x1024_S16x1024_0_0, H⟩] (Rect.unit (s := S528x1024) ![a, b] ![512, 256] hb).toLoadRect

theorem load_up (G : FVec Ideal S512x1024 .f32) (H : FVec Ideal S16x1024 .f32) (g : Fin 4) (k a b : ℕ) (hb : ∀ q, (![a, b] : Fin 2 → Nat) q + S512x256.size q ≤ S528x1024.size q) (ha : a = 16 - k)
    (hc : b = 256 * g.val) (r : Fin 512) (e : Fin 256) :
    load G H a b hb (ix2 r e)
      = up (stack G H) g r e k := by
  refine (congrFun (View.readCov_eq_canon' _ _ (Rect.unit (s := S528x1024) ![a, b] S512x256.size hb).toLoadRect) (ix2 r e)).trans ?_
  refine (canon_stack G H _).trans ?_
  unfold up
  refine congrArg (stack G H) ?_
  subst ha hc
  funext z
  refine Fin.ext ?_
  match z with
  | ⟨0, _⟩ => show 16 - k + 1 * r.val = 16 - k + r.val; omega
  | ⟨1, _⟩ => show 256 * g.val + 1 * e.val = 256 * g.val + e.val; omega

end Cert.PoolIdeal.Hand

end
-- ==== Proof.PoolPoint.lean ====
/-
  The pooling layer's kernel at a grid point: what the scratch holds and what is stored.
-/
module

public import proofs.«01_k».proof.Proof.PoolPay

@[expose] public section

set_option maxRecDepth 16384

noncomputable section

namespace Cert.PoolIdeal.Hand

open Cert.PoolIdeal Cert.PoolIdeal.Gen Idealize.ShloMosaic Idealize.ShloMosaic.TcCoe Idealize.SL.Sem
open Cert.FfnIdeal.Hand (normRow)

variable (m : (ℓ : Loc nD τ sig) → Buf (Elt Ideal) ℓ)

theorem coord : ∀ t : Fin cfg0.N, (grid0.coords t 1).val = t.val % 8 := (by decide +kernel : ∀ t : Fin grid0.N, _)

/-- The point's own normed rows, as the kernel stores them. -/
def own (c : Dev nD) (t : Fin cfg0.N) : FVec Ideal S512x1024 .f32 := k0_pay5 (F := Ideal) (iblk m c 0 t) (iblk m c 1 t)

/-- The rows kept of the point before. -/
def kept (xs0 : FVec Ideal S528x1024 .f32) : FVec Ideal S16x1024 .f32 :=
  k0_pay3 (F := Ideal) fun y => xs0 ((Rect.unit (s := S528x1024) ![512, 0] ![16, 1024] inb_S528x1024_S16x1024_512_0).toLoadRect.idx y)

theorem load_weight (w : FVec Ideal S4x256x256 .bf16) (g : Fin 4) (a : ℕ) (hb : ∀ q, (![a, 0, 0] : Fin 3 → Nat) q + S1x256x256.size q ≤ S4x256x256.size q) (ha : a = g.val)
    (e j : Fin 256) : (View.ld (Val := Elt Ideal) (e' := .bf16) w (Rect.unit (s := S4x256x256) ![a, 0, 0] S1x256x256.size hb) : FVec Ideal S1x256x256 .bf16) (ix3 0 e j) = w (ix3 g e j) := by
  subst ha
  refine congrArg w ?_
  funext z
  refine Fin.ext ?_
  match z with
  | ⟨0, _⟩ => show g.val + 1 * 0 = g.val; omega
  | ⟨1, _⟩ => show 0 + 1 * e.val = e.val; omega
  | ⟨2, _⟩ => show 0 + 1 * j.val = j.val; omega

theorem load_scale (w : FVec Ideal S1x1024 .f32) (g : Fin 4) (a : ℕ) (hb : ∀ q, (![0, a] : Fin 2 → Nat) q + S1x256.size q ≤ S1x1024.size q) (ha : a = 256 * g.val)
    (j : Fin 256) : (View.ld (Val := Elt Ideal) (e' := .f32) w (Rect.unit (s := S1x1024) ![0, a] S1x256.size hb) : FVec Ideal S1x256 .f32) (ix2 0 j) = w (ix2 0 ⟨256 * g.val + j.val, by omega⟩) := by
  subst ha
  refine congrArg w ?_
  funext z
  refine Fin.ext ?_
  match z with
  | ⟨0, _⟩ => rfl
  | ⟨1, _⟩ => show 256 * g.val + 1 * j.val = 256 * g.val + j.val; omega

/-- The result's value in column `j` of group `g`, from what the scratch holds. -/
def tileRow (c : Dev nD) (t : Fin cfg0.N) (U : S528x1024.Idx → EReal) (g : Fin 4) (r : Fin 512) (j : Fin 256) : EReal :=
  outRow ((iblk m c 0 t : FVec Ideal S1x512x1024 .f32) (ix3 0 r ⟨256 * g.val + j.val, by omega⟩))
    (fun e => Ideal.div (∑ k ∈ Finset.range (2 ^ (g.val + 1)), up U g r e k) (rows (2 ^ (g.val + 1)) (t.val % 8) r) - up U g r e 0)
    (fun e j => (iblk m c 2 t : FVec Ideal S4x256x256 .bf16) (ix3 g e j)) ((iblk m c 3 t : FVec Ideal S1x1024 .f32) (ix2 0 ⟨256 * g.val + j.val, by omega⟩)) j

/-- The result's block at a point. -/
def pointRow (c : Dev nD) (t : Fin cfg0.N) (U : S528x1024.Idx → EReal) (y : S1x512x1024.Idx) : EReal :=
  tileRow m c t U ⟨(y 2).val / 256, by have : (y 2).val < 1024 := (y 2).isLt; omega⟩ (y 1) ⟨(y 2).val % 256, Nat.mod_lt _ (by decide)⟩

theorem pointRow_eq (c : Dev nD) (t : Fin cfg0.N) (U : S528x1024.Idx → EReal) (y : S1x512x1024.Idx) (g : Fin 4) (r : Fin 512) (j : Fin 256) (h1 : (y 1).val = r.val)
    (h2 : (y 2).val = 256 * g.val + j.val) : pointRow m c t U y = tileRow m c t U g r j := by
  unfold pointRow
  have eg : (⟨(y 2).val / 256, by have : (y 2).val < 1024 := (y 2).isLt; omega⟩ : Fin 4) = g := Fin.ext (by show (y 2).val / 256 = g.val; omega)
  have ej : (⟨(y 2).val % 256, Nat.mod_lt _ (by decide)⟩ : Fin 256) = j := Fin.ext (by show (y 2).val % 256 = j.val; omega)
  have er : (y 1 : Fin 512) = r := Fin.ext h1
  rw [eg, ej, er]

theorem stored0 (c : Dev nD) (t : Fin cfg0.N) (G : FVec Ideal S512x1024 .f32) (H : FVec Ideal S16x1024 .f32) (r : Fin 512) (j : Fin 256) :
    (k0_pay9 (F := Ideal) (k0_pay4 (iblk m c 0 t)) (load G H 16 0 inb_S528x1024_S512x256_16_0) (k0_pay7 (load G H 16 0 inb_S528x1024_S512x256_16_0) (load G H 15 0 inb_S528x1024_S512x256_15_0)) (k0_pay8 (grid0.coords t)) 2#32 (View.ld (Val := Elt Ideal) (e' := .bf16) (iblk m c 2 t) (Rect.unit ![0, 0, 0] ![1, 256, 256] inb_S4x256x256_S1x256x256_0_0_0)) (View.ld (Val := Elt Ideal) (e' := .f32) (iblk m c 3 t) (Rect.unit ![0, 0] ![1, 256] inb_S1x1024_S1x256_0_0)) : FVec Ideal S1x512x256 .f32) (ix3 0 r j) = tileRow m c t (stack G H) 0 r j := by
  refine (tile2 _ _ _ (grid0.coords t) _ _ r j (fun e k => up (stack G H) 0 r e k)
    (fun e => load_up G H 0 0 16 0 _ rfl rfl r e) (fun e => load_up G H 0 1 15 0 _ rfl rfl r e)).trans ?_
  unfold tileRow
  refine congr (congr (congr (congr (congrArg outRow rfl) (funext fun e => ?_)) (funext fun e => funext fun j => ?_)) ?_) rfl
  · exact congrArg (fun a => Ideal.div (∑ k ∈ Finset.range 2, up (stack G H) 0 r e k) (rows 2 a r) - up (stack G H) 0 r e 0) (coord t)
  · exact load_weight _ 0 0 _ rfl e j
  · exact load_scale _ 0 0 _ rfl j

theorem stored1 (c : Dev nD) (t : Fin cfg0.N) (G : FVec Ideal S512x1024 .f32) (H : FVec Ideal S16x1024 .f32) (r : Fin 512) (j : Fin 256) :
    (k0_pay11 (F := Ideal) (k0_pay4 (iblk m c 0 t)) (k0_pay10 (k0_pay6 (grid0.coords t)) (load G H 16 256 inb_S528x1024_S512x256_16_256) (load G H 15 256 inb_S528x1024_S512x256_15_256) (load G H 14 256 inb_S528x1024_S512x256_14_256) (load G H 13 256 inb_S528x1024_S512x256_13_256)) (View.ld (Val := Elt Ideal) (e' := .bf16) (iblk m c 2 t) (Rect.unit ![1, 0, 0] ![1, 256, 256] inb_S4x256x256_S1x256x256_1_0_0)) (View.ld (Val := Elt Ideal) (e' := .f32) (iblk m c 3 t) (Rect.unit ![0, 256] ![1, 256] inb_S1x1024_S1x256_0_256)) : FVec Ideal S1x512x256 .f32) (ix3 0 r j) = tileRow m c t (stack G H) 1 r j := by
  refine (tile4 _ _ _ _ _ (grid0.coords t) _ _ r j (fun e k => up (stack G H) 1 r e k)
    (fun e => load_up G H 1 0 16 256 _ rfl rfl r e) (fun e => load_up G H 1 1 15 256 _ rfl rfl r e) (fun e => load_up G H 1 2 14 256 _ rfl rfl r e) (fun e => load_up G H 1 3 13 256 _ rfl rfl r e)).trans ?_
  unfold tileRow
  refine congr (congr (congr (congr (congrArg outRow rfl) (funext fun e => ?_)) (funext fun e => funext fun j => ?_)) ?_) rfl
  · exact congrArg (fun a => Ideal.div (∑ k ∈ Finset.range 4, up (stack G H) 1 r e k) (rows 4 a r) - up (stack G H) 1 r e 0) (coord t)
  · exact load_weight _ 1 1 _ rfl e j
  · exact load_scale _ 1 256 _ rfl j

theorem stored2 (c : Dev nD) (t : Fin cfg0.N) (G : FVec Ideal S512x1024 .f32) (H : FVec Ideal S16x1024 .f32) (r : Fin 512) (j : Fin 256) :
    (k0_pay14 (F := Ideal) (k0_pay4 (iblk m c 0 t)) (load G H 16 512 inb_S528x1024_S512x256_16_512) (k0_pay12 (load G H 16 512 inb_S528x1024_S512x256_16_512) (load G H 15 512 inb_S528x1024_S512x256_15_512) (load G H 14 512 inb_S528x1024_S512x256_14_512) (load G H 13 512 inb_S528x1024_S512x256_13_512) (load G H 12 512 inb_S528x1024_S512x256_12_512) (load G H 11 512 inb_S528x1024_S512x256_11_512) (load G H 10 512 inb_S528x1024_S512x256_10_512) (load G H 9 512 inb_S528x1024_S512x256_9_512)) (k0_pay13 (k0_pay6 (grid0.coords t))) (View.ld (Val := Elt Ideal) (e' := .bf16) (iblk m c 2 t) (Rect.unit ![2, 0, 0] ![1, 256, 256] inb_S4x256x256_S1x256x256_2_0_0)) (View.ld (Val := Elt Ideal) (e' := .f32) (iblk m c 3 t) (Rect.unit ![0, 512] ![1, 256] inb_S1x1024_S1x256_0_512)) : FVec Ideal S1x512x256 .f32) (ix3 0 r j) = tileRow m c t (stack G H) 2 r j := by
  refine (tile8 _ _ _ _ _ _ _ _ _ (grid0.coords t) _ _ r j (fun e k => up (stack G H) 2 r e k)
    (fun e => load_up G H 2 0 16 512 _ rfl rfl r e) (fun e => load_up G H 2 1 15 512 _ rfl rfl r e) (fun e => load_up G H 2 2 14 512 _ rfl rfl r e) (fun e => load_up G H 2 3 13 512 _ rfl rfl r e) (fun e => load_up G H 2 4 12 512 _ rfl rfl r e) (fun e => load_up G H 2 5 11 512 _ rfl rfl r e) (fun e => load_up G H 2 6 10 512 _ rfl rfl r e) (fun e => load_up G H 2 7 9 512 _ rfl rfl r e)).trans ?_
  unfold tileRow
  refine congr (congr (congr (congr (congrArg outRow rfl) (funext fun e => ?_)) (funext fun e => funext fun j => ?_)) ?_) rfl
  · exact congrArg (fun a => Ideal.div (∑ k ∈ Finset.range 8, up (stack G H) 2 r e k) (rows 8 a r) - up (stack G H) 2 r e 0) (coord t)
  · exact load_weight _ 2 2 _ rfl e j
  · exact load_scale _ 2 512 _ rfl j

theorem stored3 (c : Dev nD) (t : Fin cfg0.N) (G : FVec Ideal S512x1024 .f32) (H : FVec Ideal S16x1024 .f32) (r : Fin 512) (j : Fin 256) :
    (k0_pay1 (F := Ideal) (k0_pay4 (iblk m c 0 t)) (k0_pay16 (k0_pay6 (grid0.coords t)) (load G H 16 768 inb_S528x1024_S512x256_16_768) (k0_pay15 (load G H 16 768 inb_S528x1024_S512x256_16_768) (load G H 15 768 inb_S528x1024_S512x256_15_768) (load G H 14 768 inb_S528x1024_S512x256_14_768) (load G H 13 768 inb_S528x1024_S512x256_13_768) (load G H 12 768 inb_S528x1024_S512x256_12_768) (load G H 11 768 inb_S528x1024_S512x256_11_768) (load G H 10 768 inb_S528x1024_S512x256_10_768)) (load G H 9 768 inb_S528x1024_S512x256_9_768) (load G H 8 768 inb_S528x1024_S512x256_8_768) (load G H 7 768 inb_S528x1024_S512x256_7_768) (load G H 6 768 inb_S528x1024_S512x256_6_768) (load G H 5 768 inb_S528x1024_S512x256_5_768) (load G H 4 768 inb_S528x1024_S512x256_4_768) (load G H 3 768 inb_S528x1024_S512x256_3_768) (load G H 2 768 inb_S528x1024_S512x256_2_768) (load G H 1 768 inb_S528x1024_S512x256_1_768) (View.ld (Val := Elt Ideal) (e' := .bf16) (iblk m c 2 t) (Rect.unit ![3, 0, 0] ![1, 256, 256] inb_S4x256x256_S1x256x256_3_0_0)) (View.ld (Val := Elt Ideal) (e' := .f32) (iblk m c 3 t) (Rect.unit ![0, 768] ![1, 256] inb_S1x1024_S1x256_0_768))) : FVec Ideal S1x512x256 .f32) (ix3 0 r j) = tileRow m c t (stack G H) 3 r j := by
  refine (tile16 _ _ _ _ _ _ _ _ _ _ _ _ _ _ _ _ _ (grid0.coords t) _ _ r j (fun e k => up (stack G H) 3 r e k)
    (fun e => load_up G H 3 0 16 768 _ rfl rfl r e) (fun e => load_up G H 3 1 15 768 _ rfl rfl r e) (fun e => load_up G H 3 2 14 768 _ rfl rfl r e) (fun e => load_up G H 3 3 13 768 _ rfl rfl r e) (fun e => load_up G H 3 4 12 768 _ rfl rfl r e) (fun e => load_up G H 3 5 11 768 _ rfl rfl r e) (fun e => load_up G H 3 6 10 768 _ rfl rfl r e) (fun e => load_up G H 3 7 9 768 _ rfl rfl r e) (fun e => load_up G H 3 8 8 768 _ rfl rfl r e) (fun e => load_up G H 3 9 7 768 _ rfl rfl r e) (fun e => load_up G H 3 10 6 768 _ rfl rfl r e) (fun e => load_up G H 3 11 5 768 _ rfl rfl r e) (fun e => load_up G H 3 12 4 768 _ rfl rfl r e) (fun e => load_up G H 3 13 3 768 _ rfl rfl r e) (fun e => load_up G H 3 14 2 768 _ rfl rfl r e) (fun e => load_up G H 3 15 1 768 _ rfl rfl r e)).trans ?_
  unfold tileRow
  refine congr (congr (congr (congr (congrArg outRow rfl) (funext fun e => ?_)) (funext fun e => funext fun j => ?_)) ?_) rfl
  · exact congrArg (fun a => Ideal.div (∑ k ∈ Finset.range 16, up (stack G H) 3 r e k) (rows 16 a r) - up (stack G H) 3 r e 0) (coord t)
  · exact load_weight _ 3 3 _ rfl e j
  · exact load_scale _ 3 768 _ rfl j

theorem stored (c : Dev nD) (t : Fin cfg0.N) (G : FVec Ideal S512x1024 .f32) (H : FVec Ideal S16x1024 .f32) (y : S1x512x1024.Idx) :
    View.canon (Val := Elt Ideal) (s := S1x512x1024) (e := .f32) [⟨Rect.unit ![0, 0, 768] ![1, 512, 256] inb_S1x512x1024_S1x512x256_0_0_768, k0_pay1 (F := Ideal) (k0_pay4 (iblk m c 0 t)) (k0_pay16 (k0_pay6 (grid0.coords t)) (load G H 16 768 inb_S528x1024_S512x256_16_768) (k0_pay15 (load G H 16 768 inb_S528x1024_S512x256_16_768) (load G H 15 768 inb_S528x1024_S512x256_15_768) (load G H 14 768 inb_S528x1024_S512x256_14_768) (load G H 13 768 inb_S528x1024_S512x256_13_768) (load G H 12 768 inb_S528x1024_S512x256_12_768) (load G H 11 768 inb_S528x1024_S512x256_11_768) (load G H 10 768 inb_S528x1024_S512x256_10_768)) (load G H 9 768 inb_S528x1024_S512x256_9_768) (load G H 8 768 inb_S528x1024_S512x256_8_768) (load G H 7 768 inb_S528x1024_S512x256_7_768) (load G H 6 768 inb_S528x1024_S512x256_6_768) (load G H 5 768 inb_S528x1024_S512x256_5_768) (load G H 4 768 inb_S528x1024_S512x256_4_768) (load G H 3 768 inb_S528x1024_S512x256_3_768) (load G H 2 768 inb_S528x1024_S512x256_2_768) (load G H 1 768 inb_S528x1024_S512x256_1_768) (View.ld (Val := Elt Ideal) (e' := .bf16) (iblk m c 2 t) (Rect.unit ![3, 0, 0] ![1, 256, 256] inb_S4x256x256_S1x256x256_3_0_0)) (View.ld (Val := Elt Ideal) (e' := .f32) (iblk m c 3 t) (Rect.unit ![0, 768] ![1, 256] inb_S1x1024_S1x256_0_768)))⟩,
      ⟨Rect.unit ![0, 0, 512] ![1, 512, 256] inb_S1x512x1024_S1x512x256_0_0_512, k0_pay14 (F := Ideal) (k0_pay4 (iblk m c 0 t)) (load G H 16 512 inb_S528x1024_S512x256_16_512) (k0_pay12 (load G H 16 512 inb_S528x1024_S512x256_16_512) (load G H 15 512 inb_S528x1024_S512x256_15_512) (load G H 14 512 inb_S528x1024_S512x256_14_512) (load G H 13 512 inb_S528x1024_S512x256_13_512) (load G H 12 512 inb_S528x1024_S512x256_12_512) (load G H 11 512 inb_S528x1024_S512x256_11_512) (load G H 10 512 inb_S528x1024_S512x256_10_512) (load G H 9 512 inb_S528x1024_S512x256_9_512)) (k0_pay13 (k0_pay6 (grid0.coords t))) (View.ld (Val := Elt Ideal) (e' := .bf16) (iblk m c 2 t) (Rect.unit ![2, 0, 0] ![1, 256, 256] inb_S4x256x256_S1x256x256_2_0_0)) (View.ld (Val := Elt Ideal) (e' := .f32) (iblk m c 3 t) (Rect.unit ![0, 512] ![1, 256] inb_S1x1024_S1x256_0_512))⟩,
      ⟨Rect.unit ![0, 0, 256] ![1, 512, 256] inb_S1x512x1024_S1x512x256_0_0_256, k0_pay11 (F := Ideal) (k0_pay4 (iblk m c 0 t)) (k0_pay10 (k0_pay6 (grid0.coords t)) (load G H 16 256 inb_S528x1024_S512x256_16_256) (load G H 15 256 inb_S528x1024_S512x256_15_256) (load G H 14 256 inb_S528x1024_S512x256_14_256) (load G H 13 256 inb_S528x1024_S512x256_13_256)) (View.ld (Val := Elt Ideal) (e' := .bf16) (iblk m c 2 t) (Rect.unit ![1, 0, 0] ![1, 256, 256] inb_S4x256x256_S1x256x256_1_0_0)) (View.ld (Val := Elt Ideal) (e' := .f32) (iblk m c 3 t) (Rect.unit ![0, 256] ![1, 256] inb_S1x1024_S1x256_0_256))⟩,
      ⟨Rect.unit ![0, 0, 0] ![1, 512, 256] inb_S1x512x1024_S1x512x256_0_0_0, k0_pay9 (F := Ideal) (k0_pay4 (iblk m c 0 t)) (load G H 16 0 inb_S528x1024_S512x256_16_0) (k0_pay7 (load G H 16 0 inb_S528x1024_S512x256_16_0) (load G H 15 0 inb_S528x1024_S512x256_15_0)) (k0_pay8 (grid0.coords t)) 2#32 (View.ld (Val := Elt Ideal) (e' := .bf16) (iblk m c 2 t) (Rect.unit ![0, 0, 0] ![1, 256, 256] inb_S4x256x256_S1x256x256_0_0_0)) (View.ld (Val := Elt Ideal) (e' := .f32) (iblk m c 3 t) (Rect.unit ![0, 0] ![1, 256] inb_S1x1024_S1x256_0_0))⟩] y = pointRow m c t (stack G H) y := by
  refine View.canon_apply_of_pieces _ _ ?_ y (View.cover_of_tiledBy _ ![1, 512, 256] (by sl_kernel_rfl) y)
  intro p hp x
  simp only [List.mem_cons, List.not_mem_nil, or_false] at hp
  rcases hp with rfl | rfl | rfl | rfl
  · obtain ⟨r, j, rfl⟩ : ∃ (r : Fin 512) (j : Fin 256), x = ix3 0 r j := ⟨x 1, x 2, by idx_ext⟩
    refine (stored3 m c t G H r j).trans (pointRow_eq m c t _ _ 3 r j ?_ ?_).symm
    · show 0 + 1 * r.val = r.val; omega
    · show 768 + 1 * j.val = 256 * 3 + j.val; omega
  · obtain ⟨r, j, rfl⟩ : ∃ (r : Fin 512) (j : Fin 256), x = ix3 0 r j := ⟨x 1, x 2, by idx_ext⟩
    refine (stored2 m c t G H r j).trans (pointRow_eq m c t _ _ 2 r j ?_ ?_).symm
    · show 0 + 1 * r.val = r.val; omega
    · show 512 + 1 * j.val = 256 * 2 + j.val; omega
  · obtain ⟨r, j, rfl⟩ : ∃ (r : Fin 512) (j : Fin 256), x = ix3 0 r j := ⟨x 1, x 2, by idx_ext⟩
    refine (stored1 m c t G H r j).trans (pointRow_eq m c t _ _ 1 r j ?_ ?_).symm
    · show 0 + 1 * r.val = r.val; omega
    · show 256 + 1 * j.val = 256 * 1 + j.val; omega
  · obtain ⟨r, j, rfl⟩ : ∃ (r : Fin 512) (j : Fin 256), x = ix3 0 r j := ⟨x 1, x 2, by idx_ext⟩
    refine (stored0 m c t G H r j).trans (pointRow_eq m c t _ _ 0 r j ?_ ?_).symm
    · show 0 + 1 * r.val = r.val; omega
    · show 0 + 1 * j.val = 256 * 0 + j.val; omega

theorem scratch_A (c : Dev nD) (t : Fin cfg0.N) (h0 : t.val % 8 = 0) (h1 : ¬1 ≤ t.val % 8) (y : S528x1024.Idx) :
    sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t) y = stack (own m c t) (k0_pay2 (F := Ideal)) y := by
  frame_out
  exact canon_stack _ _ y

theorem scratch_B (c : Dev nD) (t : Fin cfg0.N) (h0 : ¬t.val % 8 = 0) (h1 : 1 ≤ t.val % 8) (xs0 : FVec Ideal S528x1024 .f32) (y : S528x1024.Idx) :
    sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) xs0 y = stack (own m c t) (kept xs0) y := by
  frame_out
  refine (canon_stack _ _ y).trans ?_
  exact congrArg (fun f => stack (own m c t) (k0_pay3 (F := Ideal) fun y => f ((Rect.unit (s := S528x1024) ![512, 0] ![16, 1024] inb_S528x1024_S16x1024_512_0).toLoadRect.idx y)) y) (Memref.IsWhole.read_unread (Memref.isWhole_whole cc0_scratch0) xs0)

theorem out_A (c : Dev nD) (t : Fin cfg0.N) (h0 : t.val % 8 = 0) (h1 : ¬1 ≤ t.val % 8) (y : S1x512x1024.Idx) :
    out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t) y = pointRow m c t (stack (own m c t) (k0_pay2 (F := Ideal))) y := by
  frame_out
  exact stored m c t _ _ y

end Cert.PoolIdeal.Hand

end
-- ==== Proof.PoolPointB.lean ====
/-
  The pooling layer's kernel at a grid point that carries rows: what is stored.
-/
module

public import proofs.«01_k».proof.Proof.PoolPoint

@[expose] public section

set_option maxRecDepth 16384

noncomputable section

namespace Cert.PoolIdeal.Hand

open Cert.PoolIdeal Cert.PoolIdeal.Gen Idealize.ShloMosaic Idealize.ShloMosaic.TcCoe Idealize.SL.Sem

variable (m : (ℓ : Loc nD τ sig) → Buf (Elt Ideal) ℓ)

theorem raw_B (c : Dev nD) (t : Fin cfg0.N) (h0 : ¬t.val % 8 = 0) (h1 : 1 ≤ t.val % 8) (xs0 : FVec Ideal S528x1024 .f32) (y : S1x512x1024.Idx) :
    out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) xs0 y = pointRow m c t (stack (k0_pay5 (F := Ideal) (iblk m c 0 t) (iblk m c 1 t)) (k0_pay3 (F := Ideal) (View.ld (Val := Elt Ideal) (e' := .f32) (View.read (Elt Ideal) (View.whole cc0_scratch0) ((Memref.isWhole_whole cc0_scratch0).unread xs0)) (Rect.unit (s := S528x1024) ![512, 0] ![16, 1024] inb_S528x1024_S16x1024_512_0)))) y := by
  frame_out
  exact stored m c t _ _ y

theorem kept_eq (xs0 : FVec Ideal S528x1024 .f32) : (k0_pay3 (F := Ideal) (View.ld (Val := Elt Ideal) (e' := .f32) (View.read (Elt Ideal) (View.whole cc0_scratch0) ((Memref.isWhole_whole cc0_scratch0).unread xs0)) (Rect.unit (s := S528x1024) ![512, 0] ![16, 1024] inb_S528x1024_S16x1024_512_0))) = kept xs0 :=
  congrArg (fun f : FVec Ideal S528x1024 .f32 => k0_pay3 (F := Ideal) fun y => f ((Rect.unit (s := S528x1024) ![512, 0] ![16, 1024] inb_S528x1024_S16x1024_512_0).toLoadRect.idx y)) (Memref.IsWhole.read_unread (Val := Elt Ideal) (Memref.isWhole_whole cc0_scratch0) xs0)

theorem out_B (c : Dev nD) (t : Fin cfg0.N) (h0 : ¬t.val % 8 = 0) (h1 : 1 ≤ t.val % 8) (xs0 : FVec Ideal S528x1024 .f32) (y : S1x512x1024.Idx) :
    out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) xs0 y = pointRow m c t (stack (own m c t) (kept xs0)) y :=
  (raw_B m c t h0 h1 xs0 y).trans (congrArg (fun U => pointRow m c t U y) (congrArg (stack (k0_pay5 (F := Ideal) (iblk m c 0 t) (iblk m c 1 t))) (kept_eq xs0)))

end Cert.PoolIdeal.Hand

end
-- ==== Proof.PoolRef.lean ====
/-
  The pooling layer's reference at an index: each stage equals the column function of the same mathematics.
-/
module

public import proofs.«01_k».proof.Proof.PoolRows
public import proofs.«01_k».proof.Proof.Gen.PoolRefIdeal.Read
public import Idealize.ShloMosaic.Lib.Pipeline.ValueKit
public import Idealize.ShloMosaic.Lib.Pointwise
public import Idealize.ShloMosaic.Lib.KernelVsHost

@[expose] public section

set_option maxRecDepth 16384

noncomputable section

namespace Cert.PoolRefIdeal.Hand

open Cert.PoolRefIdeal Cert.PoolRefIdeal.Read Idealize.ShloMosaic Idealize.ShloMosaic.TcCoe Idealize.SL.Sem
open Cert.FfnIdeal.Hand (normRow)
open Cert.PoolIdeal.Hand

variable (X : FVec Ideal S8x4096x1024 .f32) (n : FVec Ideal S1024 .f32) (W : FVec Ideal S4x256x256 .f32) (sc : FVec Ideal S1024 .f32)

/-- The normed row at time `s`, column `k`. -/
def nrm (b : Fin 8) (k : Fin 1024) (s : Fin 4096) : EReal := normRow (fun k => X (ix3 b s k)) (fun k => n (ix1 k)) k

theorem norm (b : Fin 8) (s : Fin 4096) (k : Fin 1024) : val_main_v12 (F := Ideal) X n (ix3 b s k) = nrm X n b k s := by
  have e1 : ∀ l, idx_main_v1 (idx_main_v2 (idx_main_v8 (ix3 b s k))) l = ix3 b s l := fun l => by idx_ext
  have e2 : idx_main_v10 (idx_main_v11 (ix3 b s k)) = ix1 k := by idx_ext
  simp only [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply,
    val_main_cst_0_apply, val_main_cst_1_apply, e1, e2]
  pointwise [nrm, normRow]

/-! ## The group of 2 -/

theorem cnt2 (s : Fin 4096) : val_main_v23 (F := Ideal) (ix1 s) = inside 2 s := by
  have h : ∀ s : Fin 4096, (IntOp.subi (IntOp.addi (BitVec.ofNat 32 s.val) 1#32)
      (IntOp.maxsi (IntOp.subi (IntOp.addi (BitVec.ofNat 32 s.val) 1#32) 2#32) 0#32)).toInt = ((min (s.val + 1) 2 : ℕ) : ℤ) := by decide +kernel
  simp only [val_main_v23_apply, val_main_v22_apply, val_main_v21_apply, val_main_v20_apply, val_main_v19_apply, val_main_v18_apply, val_main_v17_apply, val_main_v16_apply, val_main_v15_apply, val_main_v14_apply, val_main_v13_apply, val_main_c_apply, val_main_c_2_apply, val_main_c_3_apply, val_main_c_4_apply]
  refine (congrArg (fun z : ℤ => ((z : ℝ) : EReal)) (h s)).trans ?_
  unfold inside
  norm_cast

theorem slice2 (b : Fin 8) (s : Fin 4096) (e : Fin 256) : val_main_v25 (F := Ideal) X n (ix3 b s e) = nrm X n b ⟨0 + e.val, by omega⟩ s := by
  rw [val_main_v25_apply, show idx_main_v25 (ix3 b s e) = ix3 b s ⟨0 + e.val, by omega⟩ from by idx_ext, norm]

theorem pads2 (b : Fin 8) (p : Fin 4097) (e : Fin 256) (s : Fin 4096) (k : ℕ) (hp : p.val + k = s.val + 1) :
    val_main_v26 (F := Ideal) X n (ix3 b p e) = back (nrm X n b ⟨0 + e.val, by omega⟩) s k := by
  unfold val_main_v26 back
  by_cases h : k ≤ s.val
  · rw [dif_pos h]
    refine (pad_apply_of_inside _ _ _ _ _ _ _ _ (ix3 b ⟨s.val - k, by omega⟩ e) ?_).trans (slice2 X n b _ e)
    intro a
    match a with
    | ⟨0, _⟩ => show b.val = 0 + b.val * (0 + 1); omega
    | ⟨1, _⟩ => show p.val = 1 + (s.val - k) * (0 + 1); omega
    | ⟨2, _⟩ => show e.val = 0 + e.val * (0 + 1); omega
  · rw [dif_neg h]
    refine (pad_apply_of_not_inside _ _ _ _ _ _ _ _ ⟨1, by decide⟩ ?_).trans ?_
    · intro hh
      have : 1 ≤ p.val := hh.1
      omega
    · show val_main_call0_v0 (F := Ideal) _ = 0
      pointwise [val_main_call0_v0, val_main_c_5]
      show (((0#32 : BitVec 32).toInt : ℝ) : EReal) = 0
      simp

theorem sum2 (b : Fin 8) (s : Fin 4096) (e : Fin 256) : val_main_v31 (F := Ideal) X n (ix3 b s e) = total (nrm X n b ⟨0 + e.val, by omega⟩) 2 s := by
  rw [val_main_v31_apply, val_main_v29_apply, val_main_v28_apply, val_main_cst_6_apply]
  rw [val_main_v27_apply, val_main_v30_apply]
  rw [show idx_main_v27 (ix3 b s e) = ix3 b ⟨s.val + 0, by omega⟩ e from by idx_ext, pads2 X n b _ e s 1 (by dsimp only <;> omega)]
  rw [show idx_main_v30 (ix3 b s e) = ix3 b ⟨s.val + 1, by omega⟩ e from by idx_ext, pads2 X n b _ e s 0 (by dsimp only <;> omega)]
  rw [show (FloatOps.ofBits (F := Ideal) .f32 0x00000000#32 : EReal) = 0 from by pointwise []]
  exact down2 (back (nrm X n b ⟨0 + e.val, by omega⟩) s)

theorem excess2 (b : Fin 8) (s : Fin 4096) (e : Fin 256) : val_main_v35 (F := Ideal) X n (ix3 b s e) = excess (nrm X n b ⟨0 + e.val, by omega⟩) 2 s := by
  rw [val_main_v35_apply, val_main_v34_apply, val_main_v33_apply, val_main_v32_apply, val_main_v24_apply, sum2,
    show idx_main_v24 (idx_main_v32 (ix3 b s e)) = ix1 s from by idx_ext, cnt2,
    show idx_main_v34 (ix3 b s e) = ix3 b s ⟨0 + e.val, by omega⟩ from by idx_ext, norm]
  rfl

theorem proj2 (b : Fin 8) (s : Fin 4096) (j : Fin 256) : val_main_v38 (F := Ideal) X n W (ix3 b s j)
    = ∑ e : Fin 256, excess (nrm X n b ⟨0 + e.val, by omega⟩) 2 s * W (ix3 0 e j) := by
  rw [val_main_v38_apply]
  refine Finset.sum_congr rfl fun e _ => ?_
  rw [show lidx_main_v38 (ix3 b s j) e = ix3 b s e from by idx_ext, show ridx_main_v38 (ix3 b s j) e = ix2 e j from by idx_ext, excess2,
    val_main_v37_apply, val_main_v36_apply]
  exact congrArg (_ * W ·) (by idx_ext)

/-! ## The group of 4 -/

theorem cnt4 (s : Fin 4096) : val_main_v48 (F := Ideal) (ix1 s) = inside 4 s := by
  have h : ∀ s : Fin 4096, (IntOp.subi (IntOp.addi (BitVec.ofNat 32 s.val) 1#32)
      (IntOp.maxsi (IntOp.subi (IntOp.addi (BitVec.ofNat 32 s.val) 1#32) 4#32) 0#32)).toInt = ((min (s.val + 1) 4 : ℕ) : ℤ) := by decide +kernel
  simp only [val_main_v48_apply, val_main_v47_apply, val_main_v46_apply, val_main_v45_apply, val_main_v44_apply, val_main_v43_apply, val_main_v42_apply, val_main_v41_apply, val_main_v40_apply, val_main_v39_apply, val_main_v13_apply, val_main_c_7_apply, val_main_c_8_apply, val_main_c_9_apply, val_main_c_10_apply]
  refine (congrArg (fun z : ℤ => ((z : ℝ) : EReal)) (h s)).trans ?_
  unfold inside
  norm_cast

theorem slice4 (b : Fin 8) (s : Fin 4096) (e : Fin 256) : val_main_v50 (F := Ideal) X n (ix3 b s e) = nrm X n b ⟨256 + e.val, by omega⟩ s := by
  rw [val_main_v50_apply, show idx_main_v50 (ix3 b s e) = ix3 b s ⟨256 + e.val, by omega⟩ from by idx_ext, norm]

theorem pads4 (b : Fin 8) (p : Fin 4099) (e : Fin 256) (s : Fin 4096) (k : ℕ) (hp : p.val + k = s.val + 3) :
    val_main_v51 (F := Ideal) X n (ix3 b p e) = back (nrm X n b ⟨256 + e.val, by omega⟩) s k := by
  unfold val_main_v51 back
  by_cases h : k ≤ s.val
  · rw [dif_pos h]
    refine (pad_apply_of_inside _ _ _ _ _ _ _ _ (ix3 b ⟨s.val - k, by omega⟩ e) ?_).trans (slice4 X n b _ e)
    intro a
    match a with
    | ⟨0, _⟩ => show b.val = 0 + b.val * (0 + 1); omega
    | ⟨1, _⟩ => show p.val = 3 + (s.val - k) * (0 + 1); omega
    | ⟨2, _⟩ => show e.val = 0 + e.val * (0 + 1); omega
  · rw [dif_neg h]
    refine (pad_apply_of_not_inside _ _ _ _ _ _ _ _ ⟨1, by decide⟩ ?_).trans ?_
    · intro hh
      have : 3 ≤ p.val := hh.1
      omega
    · show val_main_call1_v0 (F := Ideal) _ = 0
      pointwise [val_main_call1_v0, val_main_c_11]
      show (((0#32 : BitVec 32).toInt : ℝ) : EReal) = 0
      simp

theorem sum4 (b : Fin 8) (s : Fin 4096) (e : Fin 256) : val_main_v60 (F := Ideal) X n (ix3 b s e) = total (nrm X n b ⟨256 + e.val, by omega⟩) 4 s := by
  rw [val_main_v60_apply, val_main_v58_apply, val_main_v56_apply, val_main_v54_apply, val_main_v53_apply, val_main_cst_12_apply]
  rw [val_main_v52_apply, val_main_v55_apply, val_main_v57_apply, val_main_v59_apply]
  rw [show idx_main_v52 (ix3 b s e) = ix3 b ⟨s.val + 0, by omega⟩ e from by idx_ext, pads4 X n b _ e s 3 (by dsimp only <;> omega)]
  rw [show idx_main_v55 (ix3 b s e) = ix3 b ⟨s.val + 1, by omega⟩ e from by idx_ext, pads4 X n b _ e s 2 (by dsimp only <;> omega)]
  rw [show idx_main_v57 (ix3 b s e) = ix3 b ⟨s.val + 2, by omega⟩ e from by idx_ext, pads4 X n b _ e s 1 (by dsimp only <;> omega)]
  rw [show idx_main_v59 (ix3 b s e) = ix3 b ⟨s.val + 3, by omega⟩ e from by idx_ext, pads4 X n b _ e s 0 (by dsimp only <;> omega)]
  rw [show (FloatOps.ofBits (F := Ideal) .f32 0x00000000#32 : EReal) = 0 from by pointwise []]
  exact down4 (back (nrm X n b ⟨256 + e.val, by omega⟩) s)

theorem excess4 (b : Fin 8) (s : Fin 4096) (e : Fin 256) : val_main_v64 (F := Ideal) X n (ix3 b s e) = excess (nrm X n b ⟨256 + e.val, by omega⟩) 4 s := by
  rw [val_main_v64_apply, val_main_v63_apply, val_main_v62_apply, val_main_v61_apply, val_main_v49_apply, sum4,
    show idx_main_v49 (idx_main_v61 (ix3 b s e)) = ix1 s from by idx_ext, cnt4,
    show idx_main_v63 (ix3 b s e) = ix3 b s ⟨256 + e.val, by omega⟩ from by idx_ext, norm]
  rfl

theorem proj4 (b : Fin 8) (s : Fin 4096) (j : Fin 256) : val_main_v67 (F := Ideal) X n W (ix3 b s j)
    = ∑ e : Fin 256, excess (nrm X n b ⟨256 + e.val, by omega⟩) 4 s * W (ix3 1 e j) := by
  rw [val_main_v67_apply]
  refine Finset.sum_congr rfl fun e _ => ?_
  rw [show lidx_main_v67 (ix3 b s j) e = ix3 b s e from by idx_ext, show ridx_main_v67 (ix3 b s j) e = ix2 e j from by idx_ext, excess4,
    val_main_v66_apply, val_main_v65_apply]
  exact congrArg (_ * W ·) (by idx_ext)

/-! ## The group of 8 -/

theorem cnt8 (s : Fin 4096) : val_main_v77 (F := Ideal) (ix1 s) = inside 8 s := by
  have h : ∀ s : Fin 4096, (IntOp.subi (IntOp.addi (BitVec.ofNat 32 s.val) 1#32)
      (IntOp.maxsi (IntOp.subi (IntOp.addi (BitVec.ofNat 32 s.val) 1#32) 8#32) 0#32)).toInt = ((min (s.val + 1) 8 : ℕ) : ℤ) := by decide +kernel
  simp only [val_main_v77_apply, val_main_v76_apply, val_main_v75_apply, val_main_v74_apply, val_main_v73_apply, val_main_v72_apply, val_main_v71_apply, val_main_v70_apply, val_main_v69_apply, val_main_v68_apply, val_main_v13_apply, val_main_c_13_apply, val_main_c_14_apply, val_main_c_15_apply, val_main_c_16_apply]
  refine (congrArg (fun z : ℤ => ((z : ℝ) : EReal)) (h s)).trans ?_
  unfold inside
  norm_cast

theorem slice8 (b : Fin 8) (s : Fin 4096) (e : Fin 256) : val_main_v79 (F := Ideal) X n (ix3 b s e) = nrm X n b ⟨512 + e.val, by omega⟩ s := by
  rw [val_main_v79_apply, show idx_main_v79 (ix3 b s e) = ix3 b s ⟨512 + e.val, by omega⟩ from by idx_ext, norm]

theorem pads8 (b : Fin 8) (p : Fin 4103) (e : Fin 256) (s : Fin 4096) (k : ℕ) (hp : p.val + k = s.val + 7) :
    val_main_v80 (F := Ideal) X n (ix3 b p e) = back (nrm X n b ⟨512 + e.val, by omega⟩) s k := by
  unfold val_main_v80 back
  by_cases h : k ≤ s.val
  · rw [dif_pos h]
    refine (pad_apply_of_inside _ _ _ _ _ _ _ _ (ix3 b ⟨s.val - k, by omega⟩ e) ?_).trans (slice8 X n b _ e)
    intro a
    match a with
    | ⟨0, _⟩ => show b.val = 0 + b.val * (0 + 1); omega
    | ⟨1, _⟩ => show p.val = 7 + (s.val - k) * (0 + 1); omega
    | ⟨2, _⟩ => show e.val = 0 + e.val * (0 + 1); omega
  · rw [dif_neg h]
    refine (pad_apply_of_not_inside _ _ _ _ _ _ _ _ ⟨1, by decide⟩ ?_).trans ?_
    · intro hh
      have : 7 ≤ p.val := hh.1
      omega
    · show val_main_call2_v0 (F := Ideal) _ = 0
      pointwise [val_main_call2_v0, val_main_c_17]
      show (((0#32 : BitVec 32).toInt : ℝ) : EReal) = 0
      simp

theorem sum8 (b : Fin 8) (s : Fin 4096) (e : Fin 256) : val_main_v97 (F := Ideal) X n (ix3 b s e) = total (nrm X n b ⟨512 + e.val, by omega⟩) 8 s := by
  rw [val_main_v97_apply, val_main_v95_apply, val_main_v93_apply, val_main_v91_apply, val_main_v89_apply, val_main_v87_apply, val_main_v85_apply, val_main_v83_apply, val_main_v82_apply, val_main_cst_18_apply]
  rw [val_main_v81_apply, val_main_v84_apply, val_main_v86_apply, val_main_v88_apply, val_main_v90_apply, val_main_v92_apply, val_main_v94_apply, val_main_v96_apply]
  rw [show idx_main_v81 (ix3 b s e) = ix3 b ⟨s.val + 0, by omega⟩ e from by idx_ext, pads8 X n b _ e s 7 (by dsimp only <;> omega)]
  rw [show idx_main_v84 (ix3 b s e) = ix3 b ⟨s.val + 1, by omega⟩ e from by idx_ext, pads8 X n b _ e s 6 (by dsimp only <;> omega)]
  rw [show idx_main_v86 (ix3 b s e) = ix3 b ⟨s.val + 2, by omega⟩ e from by idx_ext, pads8 X n b _ e s 5 (by dsimp only <;> omega)]
  rw [show idx_main_v88 (ix3 b s e) = ix3 b ⟨s.val + 3, by omega⟩ e from by idx_ext, pads8 X n b _ e s 4 (by dsimp only <;> omega)]
  rw [show idx_main_v90 (ix3 b s e) = ix3 b ⟨s.val + 4, by omega⟩ e from by idx_ext, pads8 X n b _ e s 3 (by dsimp only <;> omega)]
  rw [show idx_main_v92 (ix3 b s e) = ix3 b ⟨s.val + 5, by omega⟩ e from by idx_ext, pads8 X n b _ e s 2 (by dsimp only <;> omega)]
  rw [show idx_main_v94 (ix3 b s e) = ix3 b ⟨s.val + 6, by omega⟩ e from by idx_ext, pads8 X n b _ e s 1 (by dsimp only <;> omega)]
  rw [show idx_main_v96 (ix3 b s e) = ix3 b ⟨s.val + 7, by omega⟩ e from by idx_ext, pads8 X n b _ e s 0 (by dsimp only <;> omega)]
  rw [show (FloatOps.ofBits (F := Ideal) .f32 0x00000000#32 : EReal) = 0 from by pointwise []]
  exact down8 (back (nrm X n b ⟨512 + e.val, by omega⟩) s)

theorem excess8 (b : Fin 8) (s : Fin 4096) (e : Fin 256) : val_main_v101 (F := Ideal) X n (ix3 b s e) = excess (nrm X n b ⟨512 + e.val, by omega⟩) 8 s := by
  rw [val_main_v101_apply, val_main_v100_apply, val_main_v99_apply, val_main_v98_apply, val_main_v78_apply, sum8,
    show idx_main_v78 (idx_main_v98 (ix3 b s e)) = ix1 s from by idx_ext, cnt8,
    show idx_main_v100 (ix3 b s e) = ix3 b s ⟨512 + e.val, by omega⟩ from by idx_ext, norm]
  rfl

theorem proj8 (b : Fin 8) (s : Fin 4096) (j : Fin 256) : val_main_v104 (F := Ideal) X n W (ix3 b s j)
    = ∑ e : Fin 256, excess (nrm X n b ⟨512 + e.val, by omega⟩) 8 s * W (ix3 2 e j) := by
  rw [val_main_v104_apply]
  refine Finset.sum_congr rfl fun e _ => ?_
  rw [show lidx_main_v104 (ix3 b s j) e = ix3 b s e from by idx_ext, show ridx_main_v104 (ix3 b s j) e = ix2 e j from by idx_ext, excess8,
    val_main_v103_apply, val_main_v102_apply]
  exact congrArg (_ * W ·) (by idx_ext)

/-! ## The group of 16 -/

theorem cnt16 (s : Fin 4096) : val_main_v114 (F := Ideal) (ix1 s) = inside 16 s := by
  have h : ∀ s : Fin 4096, (IntOp.subi (IntOp.addi (BitVec.ofNat 32 s.val) 1#32)
      (IntOp.maxsi (IntOp.subi (IntOp.addi (BitVec.ofNat 32 s.val) 1#32) 16#32) 0#32)).toInt = ((min (s.val + 1) 16 : ℕ) : ℤ) := by decide +kernel
  simp only [val_main_v114_apply, val_main_v113_apply, val_main_v112_apply, val_main_v111_apply, val_main_v110_apply, val_main_v109_apply, val_main_v108_apply, val_main_v107_apply, val_main_v106_apply, val_main_v105_apply, val_main_v13_apply, val_main_c_19_apply, val_main_c_20_apply, val_main_c_21_apply, val_main_c_22_apply]
  refine (congrArg (fun z : ℤ => ((z : ℝ) : EReal)) (h s)).trans ?_
  unfold inside
  norm_cast

theorem slice16 (b : Fin 8) (s : Fin 4096) (e : Fin 256) : val_main_v116 (F := Ideal) X n (ix3 b s e) = nrm X n b ⟨768 + e.val, by omega⟩ s := by
  rw [val_main_v116_apply, show idx_main_v116 (ix3 b s e) = ix3 b s ⟨768 + e.val, by omega⟩ from by idx_ext, norm]

theorem pads16 (b : Fin 8) (p : Fin 4111) (e : Fin 256) (s : Fin 4096) (k : ℕ) (hp : p.val + k = s.val + 15) :
    val_main_v117 (F := Ideal) X n (ix3 b p e) = back (nrm X n b ⟨768 + e.val, by omega⟩) s k := by
  unfold val_main_v117 back
  by_cases h : k ≤ s.val
  · rw [dif_pos h]
    refine (pad_apply_of_inside _ _ _ _ _ _ _ _ (ix3 b ⟨s.val - k, by omega⟩ e) ?_).trans (slice16 X n b _ e)
    intro a
    match a with
    | ⟨0, _⟩ => show b.val = 0 + b.val * (0 + 1); omega
    | ⟨1, _⟩ => show p.val = 15 + (s.val - k) * (0 + 1); omega
    | ⟨2, _⟩ => show e.val = 0 + e.val * (0 + 1); omega
  · rw [dif_neg h]
    refine (pad_apply_of_not_inside _ _ _ _ _ _ _ _ ⟨1, by decide⟩ ?_).trans ?_
    · intro hh
      have : 15 ≤ p.val := hh.1
      omega
    · show val_main_call3_v0 (F := Ideal) _ = 0
      pointwise [val_main_call3_v0, val_main_c_23]
      show (((0#32 : BitVec 32).toInt : ℝ) : EReal) = 0
      simp

theorem sum16 (b : Fin 8) (s : Fin 4096) (e : Fin 256) : val_main_v150 (F := Ideal) X n (ix3 b s e) = total (nrm X n b ⟨768 + e.val, by omega⟩) 16 s := by
  rw [val_main_v150_apply, val_main_v148_apply, val_main_v146_apply, val_main_v144_apply, val_main_v142_apply, val_main_v140_apply, val_main_v138_apply, val_main_v136_apply, val_main_v134_apply, val_main_v132_apply, val_main_v130_apply, val_main_v128_apply, val_main_v126_apply, val_main_v124_apply, val_main_v122_apply, val_main_v120_apply, val_main_v119_apply, val_main_cst_24_apply]
  rw [val_main_v118_apply, val_main_v121_apply, val_main_v123_apply, val_main_v125_apply, val_main_v127_apply, val_main_v129_apply, val_main_v131_apply, val_main_v133_apply, val_main_v135_apply, val_main_v137_apply, val_main_v139_apply, val_main_v141_apply, val_main_v143_apply, val_main_v145_apply, val_main_v147_apply, val_main_v149_apply]
  rw [show idx_main_v118 (ix3 b s e) = ix3 b ⟨s.val + 0, by omega⟩ e from by idx_ext, pads16 X n b _ e s 15 (by dsimp only <;> omega)]
  rw [show idx_main_v121 (ix3 b s e) = ix3 b ⟨s.val + 1, by omega⟩ e from by idx_ext, pads16 X n b _ e s 14 (by dsimp only <;> omega)]
  rw [show idx_main_v123 (ix3 b s e) = ix3 b ⟨s.val + 2, by omega⟩ e from by idx_ext, pads16 X n b _ e s 13 (by dsimp only <;> omega)]
  rw [show idx_main_v125 (ix3 b s e) = ix3 b ⟨s.val + 3, by omega⟩ e from by idx_ext, pads16 X n b _ e s 12 (by dsimp only <;> omega)]
  rw [show idx_main_v127 (ix3 b s e) = ix3 b ⟨s.val + 4, by omega⟩ e from by idx_ext, pads16 X n b _ e s 11 (by dsimp only <;> omega)]
  rw [show idx_main_v129 (ix3 b s e) = ix3 b ⟨s.val + 5, by omega⟩ e from by idx_ext, pads16 X n b _ e s 10 (by dsimp only <;> omega)]
  rw [show idx_main_v131 (ix3 b s e) = ix3 b ⟨s.val + 6, by omega⟩ e from by idx_ext, pads16 X n b _ e s 9 (by dsimp only <;> omega)]
  rw [show idx_main_v133 (ix3 b s e) = ix3 b ⟨s.val + 7, by omega⟩ e from by idx_ext, pads16 X n b _ e s 8 (by dsimp only <;> omega)]
  rw [show idx_main_v135 (ix3 b s e) = ix3 b ⟨s.val + 8, by omega⟩ e from by idx_ext, pads16 X n b _ e s 7 (by dsimp only <;> omega)]
  rw [show idx_main_v137 (ix3 b s e) = ix3 b ⟨s.val + 9, by omega⟩ e from by idx_ext, pads16 X n b _ e s 6 (by dsimp only <;> omega)]
  rw [show idx_main_v139 (ix3 b s e) = ix3 b ⟨s.val + 10, by omega⟩ e from by idx_ext, pads16 X n b _ e s 5 (by dsimp only <;> omega)]
  rw [show idx_main_v141 (ix3 b s e) = ix3 b ⟨s.val + 11, by omega⟩ e from by idx_ext, pads16 X n b _ e s 4 (by dsimp only <;> omega)]
  rw [show idx_main_v143 (ix3 b s e) = ix3 b ⟨s.val + 12, by omega⟩ e from by idx_ext, pads16 X n b _ e s 3 (by dsimp only <;> omega)]
  rw [show idx_main_v145 (ix3 b s e) = ix3 b ⟨s.val + 13, by omega⟩ e from by idx_ext, pads16 X n b _ e s 2 (by dsimp only <;> omega)]
  rw [show idx_main_v147 (ix3 b s e) = ix3 b ⟨s.val + 14, by omega⟩ e from by idx_ext, pads16 X n b _ e s 1 (by dsimp only <;> omega)]
  rw [show idx_main_v149 (ix3 b s e) = ix3 b ⟨s.val + 15, by omega⟩ e from by idx_ext, pads16 X n b _ e s 0 (by dsimp only <;> omega)]
  rw [show (FloatOps.ofBits (F := Ideal) .f32 0x00000000#32 : EReal) = 0 from by pointwise []]
  exact down16 (back (nrm X n b ⟨768 + e.val, by omega⟩) s)

theorem excess16 (b : Fin 8) (s : Fin 4096) (e : Fin 256) : val_main_v154 (F := Ideal) X n (ix3 b s e) = excess (nrm X n b ⟨768 + e.val, by omega⟩) 16 s := by
  rw [val_main_v154_apply, val_main_v153_apply, val_main_v152_apply, val_main_v151_apply, val_main_v115_apply, sum16,
    show idx_main_v115 (idx_main_v151 (ix3 b s e)) = ix1 s from by idx_ext, cnt16,
    show idx_main_v153 (ix3 b s e) = ix3 b s ⟨768 + e.val, by omega⟩ from by idx_ext, norm]
  rfl

theorem proj16 (b : Fin 8) (s : Fin 4096) (j : Fin 256) : val_main_v157 (F := Ideal) X n W (ix3 b s j)
    = ∑ e : Fin 256, excess (nrm X n b ⟨768 + e.val, by omega⟩) 16 s * W (ix3 3 e j) := by
  rw [val_main_v157_apply]
  refine Finset.sum_congr rfl fun e _ => ?_
  rw [show lidx_main_v157 (ix3 b s j) e = ix3 b s e from by idx_ext, show ridx_main_v157 (ix3 b s j) e = ix2 e j from by idx_ext, excess16,
    val_main_v156_apply, val_main_v155_apply]
  exact congrArg (_ * W ·) (by idx_ext)

/-! ## The result -/

theorem ref2 (b : Fin 8) (s : Fin 4096) (j : Fin 256) : val_main_v162 (F := Ideal) X n W sc (ix3 b s ⟨0 + j.val, by omega⟩)
    = outRow (X (ix3 b s ⟨0 + j.val, by omega⟩)) (fun e => excess (nrm X n b ⟨0 + e.val, by omega⟩) 2 s) (fun e j => W (ix3 0 e j)) (sc (ix1 ⟨0 + j.val, by omega⟩)) j := by
  rw [val_main_v162_apply, val_main_v161_apply, val_main_v160_apply, val_main_v159_apply,
    show idx_main_v159 (idx_main_v160 (ix3 b s ⟨0 + j.val, by omega⟩)) = ix1 ⟨0 + j.val, by omega⟩ from by idx_ext]
  refine congrArg (fun p : EReal => X (ix3 b s ⟨0 + j.val, by omega⟩) + p * sc (ix1 ⟨0 + j.val, by omega⟩)) ?_
  refine Eq.trans ?_ (proj2 X n W b s j)
  unfold val_main_v158
  refine concatenate_apply_piece (t := S8x4096x1024) 2 [⟨S8x4096x256, val_main_v38 (F := Ideal) X n W⟩, ⟨S8x4096x256, val_main_v67 (F := Ideal) X n W⟩,
    ⟨S8x4096x256, val_main_v104 (F := Ideal) X n W⟩, ⟨S8x4096x256, val_main_v157 (F := Ideal) X n W⟩]
    _ (ix3 b s ⟨0 + j.val, by omega⟩) 0 (show 0 < 4 from by decide) S8x4096x256 (val_main_v38 (F := Ideal) X n W) rfl rfl 0 (by rfl) (ix3 b s j) ?_ ?_
  · intro c hc
    match c with
    | ⟨0, _⟩ => rfl
    | ⟨1, _⟩ => rfl
    | ⟨2, _⟩ => exact absurd rfl hc
  · show 0 + j.val = _
    rfl

theorem ref4 (b : Fin 8) (s : Fin 4096) (j : Fin 256) : val_main_v162 (F := Ideal) X n W sc (ix3 b s ⟨256 + j.val, by omega⟩)
    = outRow (X (ix3 b s ⟨256 + j.val, by omega⟩)) (fun e => excess (nrm X n b ⟨256 + e.val, by omega⟩) 4 s) (fun e j => W (ix3 1 e j)) (sc (ix1 ⟨256 + j.val, by omega⟩)) j := by
  rw [val_main_v162_apply, val_main_v161_apply, val_main_v160_apply, val_main_v159_apply,
    show idx_main_v159 (idx_main_v160 (ix3 b s ⟨256 + j.val, by omega⟩)) = ix1 ⟨256 + j.val, by omega⟩ from by idx_ext]
  refine congrArg (fun p : EReal => X (ix3 b s ⟨256 + j.val, by omega⟩) + p * sc (ix1 ⟨256 + j.val, by omega⟩)) ?_
  refine Eq.trans ?_ (proj4 X n W b s j)
  unfold val_main_v158
  refine concatenate_apply_piece (t := S8x4096x1024) 2 [⟨S8x4096x256, val_main_v38 (F := Ideal) X n W⟩, ⟨S8x4096x256, val_main_v67 (F := Ideal) X n W⟩,
    ⟨S8x4096x256, val_main_v104 (F := Ideal) X n W⟩, ⟨S8x4096x256, val_main_v157 (F := Ideal) X n W⟩]
    _ (ix3 b s ⟨256 + j.val, by omega⟩) 1 (show 1 < 4 from by decide) S8x4096x256 (val_main_v67 (F := Ideal) X n W) rfl rfl 256 (by rfl) (ix3 b s j) ?_ ?_
  · intro c hc
    match c with
    | ⟨0, _⟩ => rfl
    | ⟨1, _⟩ => rfl
    | ⟨2, _⟩ => exact absurd rfl hc
  · show 256 + j.val = _
    rfl

theorem ref8 (b : Fin 8) (s : Fin 4096) (j : Fin 256) : val_main_v162 (F := Ideal) X n W sc (ix3 b s ⟨512 + j.val, by omega⟩)
    = outRow (X (ix3 b s ⟨512 + j.val, by omega⟩)) (fun e => excess (nrm X n b ⟨512 + e.val, by omega⟩) 8 s) (fun e j => W (ix3 2 e j)) (sc (ix1 ⟨512 + j.val, by omega⟩)) j := by
  rw [val_main_v162_apply, val_main_v161_apply, val_main_v160_apply, val_main_v159_apply,
    show idx_main_v159 (idx_main_v160 (ix3 b s ⟨512 + j.val, by omega⟩)) = ix1 ⟨512 + j.val, by omega⟩ from by idx_ext]
  refine congrArg (fun p : EReal => X (ix3 b s ⟨512 + j.val, by omega⟩) + p * sc (ix1 ⟨512 + j.val, by omega⟩)) ?_
  refine Eq.trans ?_ (proj8 X n W b s j)
  unfold val_main_v158
  refine concatenate_apply_piece (t := S8x4096x1024) 2 [⟨S8x4096x256, val_main_v38 (F := Ideal) X n W⟩, ⟨S8x4096x256, val_main_v67 (F := Ideal) X n W⟩,
    ⟨S8x4096x256, val_main_v104 (F := Ideal) X n W⟩, ⟨S8x4096x256, val_main_v157 (F := Ideal) X n W⟩]
    _ (ix3 b s ⟨512 + j.val, by omega⟩) 2 (show 2 < 4 from by decide) S8x4096x256 (val_main_v104 (F := Ideal) X n W) rfl rfl 512 (by rfl) (ix3 b s j) ?_ ?_
  · intro c hc
    match c with
    | ⟨0, _⟩ => rfl
    | ⟨1, _⟩ => rfl
    | ⟨2, _⟩ => exact absurd rfl hc
  · show 512 + j.val = _
    rfl

theorem ref16 (b : Fin 8) (s : Fin 4096) (j : Fin 256) : val_main_v162 (F := Ideal) X n W sc (ix3 b s ⟨768 + j.val, by omega⟩)
    = outRow (X (ix3 b s ⟨768 + j.val, by omega⟩)) (fun e => excess (nrm X n b ⟨768 + e.val, by omega⟩) 16 s) (fun e j => W (ix3 3 e j)) (sc (ix1 ⟨768 + j.val, by omega⟩)) j := by
  rw [val_main_v162_apply, val_main_v161_apply, val_main_v160_apply, val_main_v159_apply,
    show idx_main_v159 (idx_main_v160 (ix3 b s ⟨768 + j.val, by omega⟩)) = ix1 ⟨768 + j.val, by omega⟩ from by idx_ext]
  refine congrArg (fun p : EReal => X (ix3 b s ⟨768 + j.val, by omega⟩) + p * sc (ix1 ⟨768 + j.val, by omega⟩)) ?_
  refine Eq.trans ?_ (proj16 X n W b s j)
  unfold val_main_v158
  refine concatenate_apply_piece (t := S8x4096x1024) 2 [⟨S8x4096x256, val_main_v38 (F := Ideal) X n W⟩, ⟨S8x4096x256, val_main_v67 (F := Ideal) X n W⟩,
    ⟨S8x4096x256, val_main_v104 (F := Ideal) X n W⟩, ⟨S8x4096x256, val_main_v157 (F := Ideal) X n W⟩]
    _ (ix3 b s ⟨768 + j.val, by omega⟩) 3 (show 3 < 4 from by decide) S8x4096x256 (val_main_v157 (F := Ideal) X n W) rfl rfl 768 (by rfl) (ix3 b s j) ?_ ?_
  · intro c hc
    match c with
    | ⟨0, _⟩ => rfl
    | ⟨1, _⟩ => rfl
    | ⟨2, _⟩ => exact absurd rfl hc
  · show 768 + j.val = _
    rfl

end Cert.PoolRefIdeal.Hand

end
-- ==== Proof.PoolValue.lean ====
/-
  The pooling layer's kernel computes the reference: the blocks at a grid point, the rows the scratch carries, and the result array.
-/
module

public import proofs.«01_k».proof.Proof.PoolPointB
public import proofs.«01_k».proof.Proof.PoolRef

@[expose] public section

set_option maxRecDepth 16384

noncomputable section

namespace Cert.PoolIdeal.Hand

open Cert.PoolIdeal Cert.PoolIdeal.Gen Idealize.ShloMosaic Idealize.ShloMosaic.TcCoe Idealize.SL.Sem
open Cert.FfnIdeal.Hand (normRow)
open Cert.PoolRefIdeal.Hand (nrm)

variable (m : (ℓ : Loc nD τ sig) → Buf (Elt Ideal) ℓ) (c : Dev nD) (t : Fin cfg0.N)

theorem idx_facts : ∀ t : Fin cfg0.N, win0_0.index t = ![t.val / 8, t.val % 8, 0] ∧ win0_1.index t = ![0, 0] ∧ win0_2.index t = ![0, 0, 0]
    ∧ win0_3.index t = ![0, 0] ∧ win0_4.index t = ![t.val / 8, t.val % 8, 0] :=
  (by decide +kernel : ∀ t : Fin grid0.N, _)

/-! ## The arguments and their blocks -/

abbrev aX : FVec Ideal S8x4096x1024 .f32 := m ((c : Thread nD τ).loc main_arg0)
abbrev aN : FVec Ideal S1024 .f32 := m ((c : Thread nD τ).loc main_arg1)
abbrev aW : FVec Ideal S4x256x256 .f32 := m ((c : Thread nD τ).loc main_arg2)
abbrev aS : FVec Ideal S1024 .f32 := m ((c : Thread nD τ).loc main_arg3)

theorem x_in (r : Fin 512) (k : Fin 1024) (b : Fin 8) (s : Fin 4096) (hb : b.val = t.val / 8) (hs : s.val = t.val % 8 * 512 + r.val) :
    (iblk m c 0 t : FVec Ideal S1x512x1024 .f32) (ix3 0 r k) = aX m c (ix3 b s k) := by
  blk_ext! [iblk, V, idx_facts t]

theorem n_in (k : Fin 1024) : (iblk m c 1 t : FVec Ideal S1x1024 .f32) (ix2 0 k) = aN m c (ix1 k) := by
  blk_ext! [iblk, V, idx_facts t]

theorem w_in (g : Fin 4) (e j : Fin 256) : (iblk m c 2 t : FVec Ideal S4x256x256 .bf16) (ix3 g e j) = aW m c (ix3 g e j) := by
  blk_ext! [iblk, V, idx_facts t]

theorem s_in (k : Fin 1024) : (iblk m c 3 t : FVec Ideal S1x1024 .f32) (ix2 0 k) = aS m c (ix1 k) := by
  blk_ext! [iblk, V, idx_facts t]

/-! ## What the scratch holds -/

/-- The reference's normed column, on the arguments. -/
abbrev col (b : Fin 8) (k : Fin 1024) : Fin 4096 → EReal := nrm (aX m c) (aN m c) b k

theorem own_eq (r : Fin 512) (k : Fin 1024) (b : Fin 8) (s : Fin 4096) (hb : b.val = t.val / 8) (hs : s.val = t.val % 8 * 512 + r.val) :
    own m c t (ix2 r k) = col m c b k s := by
  refine (pay5_apply _ _ r k).trans ?_
  have hx : (fun k => (iblk m c 0 t : FVec Ideal S1x512x1024 .f32) (ix3 0 r k)) = fun k => aX m c (ix3 b s k) := funext fun k => x_in m c t r k b s hb hs
  have hn : (fun k => (iblk m c 1 t : FVec Ideal S1x1024 .f32) (ix2 0 k)) = fun k => aN m c (ix1 k) := funext fun k => n_in m c t k
  rw [hx, hn]
  rfl

/-- The scratch after a point. -/
def scr : S528x1024.Idx → EReal := ((outsAt0 m c t.val t.isLt).2 : FVec Ideal S528x1024 .f32)

theorem scr_A (h0 : t.val % 8 = 0) : scr m c t = stack (own m c t) (k0_pay2 (F := Ideal)) := by
  have h1 : ¬1 ≤ t.val % 8 := by omega
  funext y
  show (outsAt0 m c t.val t.isLt).2 y = _
  rw [outsAt0_A m c t h0 h1]
  dsimp only
  rw [scratch_A m c t h0 h1 y]

theorem scr_B (h0 : ¬t.val % 8 = 0) : scr m c t = stack (own m c t) (kept ((outsAt0 m c (t.val - 1) (Nat.lt_of_le_of_lt (Nat.sub_le _ _) t.isLt)).2)) := by
  have h1 : 1 ≤ t.val % 8 := by omega
  funext y
  show (outsAt0 m c t.val t.isLt).2 y = _
  rw [outsAt0_B m c t h0 h1]
  dsimp only
  rw [scratch_B m c t h0 h1 _ y]

theorem scr_own (r : Fin 512) (e : Fin 1024) (y : S528x1024.Idx) (hy0 : (y 0).val = 16 + r.val) (hy1 : (y 1).val = e.val) : scr m c t y = own m c t (ix2 r e) := by
  by_cases h0 : t.val % 8 = 0
  · rw [scr_A m c t h0]; exact stack_top _ _ y (ix2 r e) hy0 hy1
  · rw [scr_B m c t h0]; exact stack_top _ _ y (ix2 r e) hy0 hy1

/-- The value `k` rows above row `r` of the point's own rows is the normed column `k` steps before. -/
theorem up_eq (g : Fin 4) (r : Fin 512) (e : Fin 256) (k : ℕ) (hk : k < 16) (b : Fin 8) (s : Fin 4096) (hb : b.val = t.val / 8) (hs : s.val = t.val % 8 * 512 + r.val) :
    up (scr m c t) g r e k = back (col m c b ⟨256 * g.val + e.val, by omega⟩) s k := by
  have ht : t.val < 64 := t.isLt
  unfold up back
  by_cases hp : k ≤ r.val
  · rw [dif_pos (by omega)]
    rw [scr_own m c t ⟨r.val - k, by omega⟩ ⟨256 * g.val + e.val, by omega⟩ _ (by show 16 - k + r.val = 16 + (r.val - k); omega) rfl]
    exact own_eq m c t _ _ b _ hb (by show s.val - k = t.val % 8 * 512 + (r.val - k); omega)
  · by_cases h0 : t.val % 8 = 0
    · rw [dif_neg (by omega), scr_A m c t h0]
      exact (stack_low _ _ _ (ix2 ⟨16 - k + r.val, by omega⟩ ⟨256 * g.val + e.val, by omega⟩) rfl rfl).trans (pay2_apply _)
    · rw [dif_pos (by omega), scr_B m c t h0]
      refine (stack_low _ _ _ (ix2 ⟨16 - k + r.val, by omega⟩ ⟨256 * g.val + e.val, by omega⟩) rfl rfl).trans ?_
      refine (pay3_apply _ _ _).trans ?_
      refine (scr_own m c ⟨t.val - 1, Nat.lt_of_le_of_lt (Nat.sub_le _ _) t.isLt⟩ ⟨512 - k + r.val, by omega⟩ ⟨256 * g.val + e.val, by omega⟩ _ ?_ ?_).trans ?_
      · show 512 + 1 * (16 - k + r.val) = 16 + (512 - k + r.val); omega
      · show 0 + 1 * (256 * g.val + e.val) = 256 * g.val + e.val; omega
      · exact own_eq m c _ _ _ b _ (by show b.val = (t.val - 1) / 8; omega) (by show s.val - k = (t.val - 1) % 8 * 512 + (512 - k + r.val); omega)

/-! ## The result -/

theorem out_eq (y : S1x512x1024.Idx) : ((outsAt0 m c t.val t.isLt).1 : FVec Ideal S1x512x1024 .f32) y = pointRow m c t (scr m c t) y := by
  by_cases h0 : t.val % 8 = 0
  · have h1 : ¬1 ≤ t.val % 8 := by omega
    rw [scr_A m c t h0]
    rw [outsAt0_A m c t h0 h1]
    dsimp only
    rw [out_A m c t h0 h1 y]
  · have h1 : 1 ≤ t.val % 8 := by omega
    rw [scr_B m c t h0]
    rw [outsAt0_B m c t h0 h1]
    dsimp only
    rw [out_B m c t h0 h1 _ y]

theorem tile_eq (g : Fin 4) (r : Fin 512) (j : Fin 256) (b : Fin 8) (s : Fin 4096) (hb : b.val = t.val / 8) (hs : s.val = t.val % 8 * 512 + r.val) :
    tileRow m c t (scr m c t) g r j = outRow (aX m c (ix3 b s ⟨256 * g.val + j.val, by omega⟩))
      (fun e => excess (col m c b ⟨256 * g.val + e.val, by omega⟩) (2 ^ (g.val + 1)) s) (fun e j => aW m c (ix3 g e j)) (aS m c (ix1 ⟨256 * g.val + j.val, by omega⟩)) j := by
  have hw : 2 ^ (g.val + 1) ≤ 16 := by
    match g with
    | 0 => decide
    | 1 => decide
    | 2 => decide
    | 3 => decide
  have hn : rows (2 ^ (g.val + 1)) (t.val % 8) r = inside (2 ^ (g.val + 1)) s := by
    unfold rows inside
    rw [hs]
  unfold tileRow
  rw [x_in m c t r _ b s hb hs, s_in m c t, funext fun e => funext fun j => w_in m c t g e j, hn]
  refine congrArg (fun f => outRow _ f _ _ _) (funext fun e => ?_)
  unfold excess total
  rw [up_eq m c t g r e 0 (by decide) b s hb hs, back_zero,
    Finset.sum_congr rfl fun k hk => up_eq m c t g r e k (Nat.lt_of_lt_of_le (Finset.mem_range.mp hk) hw) b s hb hs]

theorem point (g : Fin 4) (r : Fin 512) (j : Fin 256) (b : Fin 8) (s : Fin 4096) (hb : b.val = t.val / 8) (hs : s.val = t.val % 8 * 512 + r.val) :
    tileRow m c t (scr m c t) g r j
      = Cert.PoolRefIdeal.Read.val_main_v162 (F := Ideal) (aX m c) (aN m c) (aW m c) (aS m c) (ix3 b s ⟨256 * g.val + j.val, by omega⟩) := by
  refine (tile_eq m c t g r j b s hb hs).trans ?_
  match g with
  | 0 => exact (Cert.PoolRefIdeal.Hand.ref2 _ _ _ _ b s j).symm
  | 1 => exact (Cert.PoolRefIdeal.Hand.ref4 _ _ _ _ b s j).symm
  | 2 => exact (Cert.PoolRefIdeal.Hand.ref8 _ _ _ _ b s j).symm
  | 3 => exact (Cert.PoolRefIdeal.Hand.ref16 _ _ _ _ b s j).symm

theorem block (r : Fin 512) (cc : Fin 1024) (i : S8x4096x1024.Idx) (hi0 : (i 0).val = t.val / 8) (hi1 : (i 1).val = t.val % 8 * 512 + r.val)
    (hi2 : (i 2).val = cc.val) : ((outsAt0 m c t.val t.isLt).1 : FVec Ideal S1x512x1024 .f32) (ix3 0 r cc)
      = Cert.PoolRefIdeal.Read.val_main_v162 (F := Ideal) (aX m c) (aN m c) (aW m c) (aS m c) i := by
  obtain ⟨b, s, cc', rfl⟩ : ∃ (b : Fin 8) (s : Fin 4096) (cc' : Fin 1024), i = ix3 b s cc' := ⟨i 0, i 1, i 2, by idx_ext⟩
  have hlt : ∀ (g : Fin 4) (j : Fin 256), 256 * g.val + j.val < 1024 := fun g j => by omega
  obtain ⟨g, j, hcc⟩ : ∃ (g : Fin 4) (j : Fin 256), cc' = ⟨256 * g.val + j.val, hlt g j⟩ :=
    ⟨⟨cc'.val / 256, by omega⟩, ⟨cc'.val % 256, by omega⟩, Fin.ext (by show cc'.val = 256 * (cc'.val / 256) + cc'.val % 256; omega)⟩
  have h2 : cc.val = 256 * g.val + j.val := hi2.symm.trans (congrArg Fin.val hcc)
  subst hcc
  exact (out_eq m c t _).trans ((pointRow_eq m c t _ _ g r j rfl h2).trans (point m c t g r j b s hi0 hi1))

theorem final : (dats m 0 c).arrAt 4 (cfgs 0).N
    = Cert.PoolRefIdeal.Read.val_main_v162 (F := Ideal) (aX m c) (aN m c) (aW m c) (aS m c) := by
  refine (dats m 0 c).arrAt_eq_of_covers 4 _ (by decide +kernel) fun t _ y => ?_
  blk_simp
  rw [after0_4]
  obtain ⟨r, cc, rfl⟩ : ∃ (r : Fin 512) (cc : Fin 1024), y = ix3 0 r cc := ⟨y 1, y 2, by idx_ext⟩
  have ht : t.val < 64 := t.isLt
  refine block m c t r cc _ ?_ ?_ ?_
  all_goals blk_simp [idx_facts t]
  exact Nat.add_zero _

end Cert.PoolIdeal.Hand

end
-- ==== Proof.PoolClaim.lean ====
/-
  The pooling layer's claims: the three programs' frames, and that kernel and reference end with the same array.
  The array the kernel leaves is `Cert.PoolIdeal.Hand.final`; the reference's run gives the same function of the arguments.
-/
module

public import proofs.«01_k».proof.Defs
public import proofs.«01_k».proof.Proof.PoolValue
public import proofs.«01_k».proof.Proof.Gen.PoolRefIdeal.Run
public import proofs.«01_k».proof.Proof.Gen.Pool.Frame
public import proofs.«01_k».proof.Proof.Gen.Pool
public import proofs.«01_k».proof.Proof.Gen.PoolIdeal
public import proofs.«01_k».proof.Proof.Gen.PoolRefIdeal
public import Idealize.ShloMosaic.Lib.Quiescent

@[expose] public section

set_option maxRecDepth 16384

noncomputable section

open Idealize.ShloMosaic Idealize.ShloMosaic.TcCoe Idealize.SL.Sem

namespace Cert.Proof.PoolClaim

theorem frame_kernel : Cert.quiescent_Pool := fun m ρ _ => Cert.Pool.Gen.frame (F := Bits) m ρ

theorem frame_ideal : Cert.quiescent_PoolIdeal := fun m ρ _ => Cert.PoolIdeal.Gen.frame (F := Ideal) m ρ

theorem frame_ref : Cert.quiescent_PoolRefIdeal := fun m ρ _ =>
  (θ_run Cert.PoolRefIdeal.defs _ _).mono (fun r h => ⟨fun c => (h c).2, sem_eq_zero_of_no_sems (by decide) r.2⟩)
    (Cert.PoolRefIdeal.Value.run (F := Ideal) m ρ)

/-- Both runs end with the rows plus the scaled projections of the window means' excesses. -/
theorem algebraic : Cert.algebraic_PoolIdeal_PoolRefIdeal := by
  intro m ρ m' ρ' _ hagree
  refine ⟨fun c => (Cert.PoolIdeal.Gen.dats m 0 c).arrAt 4 Cert.PoolIdeal.cfg0.N, Cert.PoolIdeal.Value.run_blocks (F := Ideal) m ρ, ?_⟩
  refine (θ_run Cert.PoolRefIdeal.defs _ _).mono (fun _ h c => ⟨(h c).1.trans ?_, (h c).2⟩) (Cert.PoolRefIdeal.Value.run (F := Ideal) m' ρ')
  obtain ⟨e0, e1, e2, e3⟩ := hagree c
  refine (Cert.PoolRefIdeal.Read.val_main_v162_eq (F := Ideal) _).trans ?_
  refine Eq.trans ?_ (Cert.PoolIdeal.Hand.final m c).symm
  exact congr (congr (congr (congrArg (Cert.PoolRefIdeal.Read.val_main_v162 (F := Ideal)) e0) e1) e2) e3

end Cert.Proof.PoolClaim

end
-- ==== Proof.Softmax.lean ====
/-
  Softmax weights over the extended reals. The weights are non-negative reals and their sum a positive real, so a weighted
  mean may be scaled, and divided before or after the sum, whatever the values averaged are (infinite ones too).
-/
module

public import Idealize.ShloMosaic.PureOps.Ideal.Laws
public import Idealize.ShloMosaic.Lib.Pointwise

@[expose] public section

noncomputable section

namespace Cert.Softmax

open Idealize.ShloMosaic

/-- A non-negative real factor goes into a finite sum of extended reals. -/
theorem mul_sum {ι : Type} (s : Finset ι) (a : ℝ) (ha : 0 ≤ a) (f : ι → EReal) : (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (EReal.coe_nonneg.2 ha) (EReal.coe_ne_top a), ih]

/-- The coercion goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A quotient is unchanged when both sides are scaled by one positive real. -/
theorem div_scale (a d : ℝ) (ha : 0 < a) (hd : 0 < d) (n : EReal) : Ideal.div ((a : EReal) * n) ((a : EReal) * (d : EReal)) = Ideal.div n d := by
  rw [← EReal.coe_mul, Ideal.div_coe (mul_pos ha hd).ne', Ideal.div_coe hd.ne', mul_comm (a : EReal) n, mul_assoc, ← EReal.coe_mul]
  congr 2
  field_simp

/-- Each weight divided by the sum of the weights first, or their mean divided last. -/
theorem sum_div {ι : Type} (s : Finset ι) (d : ℝ) (hd : 0 < d) (w : ι → ℝ) (v : ι → EReal) :
    ∑ k ∈ s, Ideal.div (w k : EReal) d * v k = Ideal.div (∑ k ∈ s, (w k : EReal) * v k) d := by
  rw [Ideal.div_coe hd.ne', mul_comm (∑ k ∈ s, (w k : EReal) * v k), mul_sum _ _ (by positivity)]
  refine Finset.sum_congr rfl fun k _ => ?_
  rw [Ideal.div_coe hd.ne']
  ac_rfl

theorem real_of {x : EReal} (h : ⊥ < x) (h' : x < ⊤) : ∃ r : ℝ, x = r := ⟨x.toReal, (EReal.coe_toReal h'.ne h.ne').symm⟩

/-- The greatest of finitely many scores, none `⊤` and one not `⊥`, is a real number. -/
theorem max_real {ι : Type} (s : Finset ι) (x : ι → EReal) (h : ∀ k ∈ s, x k < ⊤) (h' : ∃ k ∈ s, ⊥ < x k) : ∃ M : ℝ, s.fold max ⊥ x = M :=
  real_of ((Finset.lt_fold_max _).2 (.inr h')) ((Finset.fold_max_lt _).2 ⟨bot_lt_top, h⟩)

/-- A score: a real one, or `⊥` where it is masked. -/
def score (p : Prop) [Decidable p] (t : ℝ) : EReal := if p then (t : EReal) else ⊥

theorem score_lt_top (p : Prop) [Decidable p] (t : ℝ) : score p t < ⊤ := by
  unfold score; split
  · exact EReal.coe_lt_top t
  · exact bot_lt_top

theorem score_pos (p : Prop) [Decidable p] (t : ℝ) (hp : p) : ⊥ < score p t := by
  rw [score, if_pos hp]; exact EReal.bot_lt_coe t

/-- The weight of a score: its exponential, or zero where it is masked. -/
def weight (p : Prop) [Decidable p] (t : ℝ) : ℝ := if p then Real.exp t else 0

theorem weight_nonneg (p : Prop) [Decidable p] (t : ℝ) : 0 ≤ weight p t := by
  unfold weight; split
  · exact (Real.exp_pos t).le
  · exact le_rfl

theorem exp_score (p : Prop) [Decidable p] (t M : ℝ) : Ideal.exp (score p t - (M : EReal)) = ((Real.exp (-M) * weight p t : ℝ) : EReal) := by
  unfold score weight; split
  · rw [← EReal.coe_sub, Ideal.exp_coe, ← Real.exp_add]; congr 2; ring
  · rw [EReal.bot_sub, Ideal.exp_bot, mul_zero, EReal.coe_zero]

theorem exp2_score (p : Prop) [Decidable p] (t M : ℝ) :
    Ideal.exp2 (score p (t / Real.log 2) - (M : EReal)) = ((Real.exp (-M * Real.log 2) * weight p t : ℝ) : EReal) := by
  have h2 : Real.log 2 ≠ 0 := (Real.log_pos one_lt_two).ne'
  unfold score weight; split
  · rw [← EReal.coe_sub, Ideal.exp2_coe]
    congr 1
    show (2 : ℝ) ^ (t / Real.log 2 - M) = _
    rw [Real.rpow_def_of_pos two_pos, ← Real.exp_add]; congr 1; field_simp; ring
  · rw [EReal.bot_sub, Ideal.exp2_bot, mul_zero, EReal.coe_zero]

/-- The weighted mean of values `v` under masked scores `t`. -/
def mean {ι : Type} [Fintype ι] (p : ι → Prop) [DecidablePred p] (t : ι → ℝ) (v : ι → EReal) : EReal :=
  Ideal.div (∑ k, (weight (p k) (t k) : EReal) * v k) ((∑ k, weight (p k) (t k) : ℝ) : EReal)

theorem sum_weight_pos {ι : Type} [Fintype ι] (p : ι → Prop) [DecidablePred p] (t : ι → ℝ) (h : ∃ k, p k) : 0 < ∑ k, weight (p k) (t k) := by
  obtain ⟨k, hk⟩ := h
  exact Finset.sum_pos' (fun _ _ => weight_nonneg _ _) ⟨k, Finset.mem_univ k, by rw [weight, if_pos hk]; exact Real.exp_pos _⟩

/-- A softmax normalised before the values are averaged, each weight multiplied by its mask once more. -/
theorem mean_of_softmax {ι : Type} [Fintype ι] (p : ι → Prop) [DecidablePred p] (t : ι → ℝ) (v : ι → EReal) (h : ∃ k, p k) (M : EReal)
    (hM : M = Finset.univ.fold max ⊥ fun k => score (p k) (t k)) :
    ∑ k, Ideal.div (Ideal.exp (score (p k) (t k) - M)) (∑ k, Ideal.exp (score (p k) (t k) - M)) * (if p k then 1 else 0) * v k = mean p t v := by
  obtain ⟨r, hr⟩ := max_real Finset.univ (fun k => score (p k) (t k)) (fun k _ => score_lt_top _ _)
    (by obtain ⟨k, hk⟩ := h; exact ⟨k, Finset.mem_univ k, score_pos _ _ hk⟩)
  rw [hM, hr]
  have hs := sum_weight_pos p t h
  have ha := Real.exp_pos (-r)
  have e : ∀ k, Ideal.exp (score (p k) (t k) - (r : EReal)) = ((Real.exp (-r) * weight (p k) (t k) : ℝ) : EReal) := fun k => exp_score _ _ _
  simp only [e]
  rw [← coe_sum, ← Finset.mul_sum, mean]
  have e1 : ∀ k, Ideal.div ((Real.exp (-r) * weight (p k) (t k) : ℝ) : EReal) ((Real.exp (-r) * ∑ k, weight (p k) (t k) : ℝ) : EReal) * (if p k then 1 else 0) * v k
      = Ideal.div (weight (p k) (t k) : EReal) ((∑ k, weight (p k) (t k) : ℝ) : EReal) * v k := by
    intro k
    rw [EReal.coe_mul, EReal.coe_mul, div_scale _ _ ha hs]
    by_cases hk : p k
    · rw [if_pos hk, mul_one]
    · rw [if_neg hk, mul_zero, weight, if_neg hk, EReal.coe_zero, Ideal.div_coe hs.ne', zero_mul, zero_mul, zero_mul]
  simp only [e1]
  exact sum_div _ _ hs _ _

/-! ## Keys in blocks of 256: a query block sees its own block of keys and the two before it -/

/-- The key `l` of the block `j` before block `q` (of block 0 where there is none). -/
def key (q : Fin 16) (j : ℕ) (l : Fin 256) : Fin 4096 := ⟨(q.val - j) * 256 + l.val, by omega⟩

theorem sum_blocks {M : Type} [AddCommMonoid M] (q : Fin 16) (f : Fin 4096 → M)
    (h : ∀ k : Fin 4096, k.val / 256 ≠ q.val → k.val / 256 + 1 ≠ q.val → k.val / 256 + 2 ≠ q.val → f k = 0) :
    ∑ k, f k = (∑ l, if 2 ≤ q.val then f (key q 2 l) else 0) + (∑ l, if 1 ≤ q.val then f (key q 1 l) else 0) + ∑ l, f (key q 0 l) := by
  have one : ∀ (j : ℕ) (g : Fin 16 → M), (∑ J : Fin 16, if J.val + j = q.val then g J else 0) = if h : j ≤ q.val then g ⟨q.val - j, by omega⟩ else 0 := by
    intro j g
    split
    · rename_i hj
      rw [Finset.sum_eq_single (⟨q.val - j, by omega⟩ : Fin 16)]
      · rw [if_pos (by show q.val - j + j = q.val; omega)]
      · intro J _ hJ
        exact if_neg fun e => hJ (Fin.ext (by show J.val = q.val - j; omega))
      · intro hn; exact absurd (Finset.mem_univ _) hn
    · rename_i hj
      exact Finset.sum_eq_zero fun J _ => if_neg (by omega)
  have split3 : ∀ J : Fin 16, (∑ l : Fin 256, f ⟨J.val * 256 + l.val, by omega⟩)
      = (if J.val + 2 = q.val then ∑ l : Fin 256, f ⟨J.val * 256 + l.val, by omega⟩ else 0)
        + (if J.val + 1 = q.val then ∑ l : Fin 256, f ⟨J.val * 256 + l.val, by omega⟩ else 0)
        + (if J.val + 0 = q.val then ∑ l : Fin 256, f ⟨J.val * 256 + l.val, by omega⟩ else 0) := by
    intro J
    by_cases h2 : J.val + 2 = q.val
    · rw [if_pos h2, if_neg (by omega), if_neg (by omega), add_zero, add_zero]
    by_cases h1 : J.val + 1 = q.val
    · rw [if_neg h2, if_pos h1, if_neg (by omega), zero_add, add_zero]
    by_cases h0 : J.val + 0 = q.val
    · rw [if_neg h2, if_neg h1, if_pos h0, zero_add, zero_add]
    · rw [if_neg h2, if_neg h1, if_neg h0, zero_add, zero_add]
      refine Finset.sum_eq_zero fun l _ => h _ ?_ ?_ ?_ <;> (dsimp only; omega)
  rw [Fin.sum_univ_tiles 16 256 rfl f]
  refine (Finset.sum_congr rfl fun J _ => split3 J).trans ?_
  rw [Finset.sum_add_distrib, Finset.sum_add_distrib, one 2, one 1, one 0]
  congr 1
  congr 1
  · split
    · rfl
    · exact Finset.sum_const_zero.symm
  · split
    · rfl
    · exact Finset.sum_const_zero.symm

/-- The greatest of the three blocks' scores. -/
def max3 (P0 P1 P2 : Fin 256 → EReal) : EReal :=
  max (max (Finset.univ.fold max ⊥ P0) (Finset.univ.fold max ⊥ P1)) (Finset.univ.fold max ⊥ P2)

/-- The three blocks' exponentials (base 2) averaging `V`, over the same sum of `O`. -/
def blocks (P0 P1 P2 V0 V1 V2 O0 O1 O2 : Fin 256 → EReal) : EReal :=
  Ideal.div ((∑ l, Ideal.exp2 (P0 l - max3 P0 P1 P2) * V0 l) + (∑ l, Ideal.exp2 (P1 l - max3 P0 P1 P2) * V1 l) + ∑ l, Ideal.exp2 (P2 l - max3 P0 P1 P2) * V2 l)
    ((∑ l, Ideal.exp2 (P0 l - max3 P0 P1 P2) * O0 l) + (∑ l, Ideal.exp2 (P1 l - max3 P0 P1 P2) * O1 l) + ∑ l, Ideal.exp2 (P2 l - max3 P0 P1 P2) * O2 l)

theorem weight_and (p q : Prop) [Decidable p] [Decidable q] (t : ℝ) : weight (p ∧ q) t = if p then weight q t else 0 := by
  unfold weight; by_cases hp : p <;> by_cases hq : q <;> simp [hp, hq]

theorem blocks_eq_mean (q : Fin 16) (p : Fin 4096 → Prop) [DecidablePred p] (t : Fin 4096 → ℝ) (v : Fin 4096 → EReal)
    (P0 P1 P2 V0 V1 V2 O0 O1 O2 : Fin 256 → EReal)
    (h0 : ∀ l, P0 l = score (2 ≤ q.val ∧ p (key q 2 l)) (t (key q 2 l) / Real.log 2))
    (h1 : ∀ l, P1 l = score (1 ≤ q.val ∧ p (key q 1 l)) (t (key q 1 l) / Real.log 2))
    (h2 : ∀ l, P2 l = score (p (key q 0 l)) (t (key q 0 l) / Real.log 2))
    (v0 : ∀ l, V0 l = v (key q 2 l)) (v1 : ∀ l, V1 l = v (key q 1 l)) (v2 : ∀ l, V2 l = v (key q 0 l))
    (o0 : ∀ l, O0 l = 1) (o1 : ∀ l, O1 l = 1) (o2 : ∀ l, O2 l = 1)
    (hp : ∀ k : Fin 4096, k.val / 256 ≠ q.val → k.val / 256 + 1 ≠ q.val → k.val / 256 + 2 ≠ q.val → ¬ p k)
    (hl : ∃ l, p (key q 0 l)) : blocks P0 P1 P2 V0 V1 V2 O0 O1 O2 = mean p t v := by
  obtain ⟨M, hM⟩ : ∃ M : ℝ, max3 P0 P1 P2 = M := by
    obtain ⟨l, hl⟩ := hl
    have top : ∀ P : Fin 256 → EReal, (∀ l, P l < ⊤) → Finset.univ.fold max ⊥ P < ⊤ := fun P h =>
      (Finset.fold_max_lt _).2 ⟨bot_lt_top, fun k _ => h k⟩
    refine real_of (lt_max_of_lt_right ((Finset.lt_fold_max _).2 (.inr ⟨l, Finset.mem_univ l, ?_⟩))) (max_lt (max_lt (top _ fun l => ?_) (top _ fun l => ?_)) (top _ fun l => ?_))
    · rw [h2]; exact score_pos _ _ hl
    · rw [h0]; exact score_lt_top _ _
    · rw [h1]; exact score_lt_top _ _
    · rw [h2]; exact score_lt_top _ _
  have ha := Real.exp_pos (-M * Real.log 2)
  generalize hA : Real.exp (-M * Real.log 2) = A at ha
  unfold blocks
  rw [hM]
  have e0 : ∀ l, Ideal.exp2 (P0 l - (M : EReal)) = (A : EReal) * ((weight (2 ≤ q.val ∧ p (key q 2 l)) (t (key q 2 l)) : ℝ) : EReal) := fun l => by
    rw [h0, exp2_score, hA, EReal.coe_mul]
  have e1 : ∀ l, Ideal.exp2 (P1 l - (M : EReal)) = (A : EReal) * ((weight (1 ≤ q.val ∧ p (key q 1 l)) (t (key q 1 l)) : ℝ) : EReal) := fun l => by
    rw [h1, exp2_score, hA, EReal.coe_mul]
  have e2 : ∀ l, Ideal.exp2 (P2 l - (M : EReal)) = (A : EReal) * ((weight (p (key q 0 l)) (t (key q 0 l)) : ℝ) : EReal) := fun l => by
    rw [h2, exp2_score, hA, EReal.coe_mul]
  simp only [e0, e1, e2, v0, v1, v2, o0, o1, o2, mul_one, mul_assoc]
  simp only [← mul_sum _ A ha.le]
  have dist : ∀ x y : EReal, (A : EReal) * x + (A : EReal) * y = (A : EReal) * (x + y) := fun x y =>
    (EReal.left_distrib_of_nonneg_of_ne_top (EReal.coe_nonneg.2 ha.le) (EReal.coe_ne_top A) x y).symm
  simp only [dist]
  have num := sum_blocks q (fun k => (weight (p k) (t k) : EReal) * v k) fun k a b c => by rw [weight, if_neg (hp k a b c), EReal.coe_zero, zero_mul]
  have den := sum_blocks q (fun k => (weight (p k) (t k) : EReal)) fun k a b c => by rw [weight, if_neg (hp k a b c), EReal.coe_zero]
  have w0 : ∀ l, ((weight (2 ≤ q.val ∧ p (key q 2 l)) (t (key q 2 l)) : ℝ) : EReal) = if 2 ≤ q.val then (weight (p (key q 2 l)) (t (key q 2 l)) : EReal) else 0 := fun l => by
    rw [weight_and]; split <;> rfl
  have w1 : ∀ l, ((weight (1 ≤ q.val ∧ p (key q 1 l)) (t (key q 1 l)) : ℝ) : EReal) = if 1 ≤ q.val then (weight (p (key q 1 l)) (t (key q 1 l)) : EReal) else 0 := fun l => by
    rw [weight_and]; split <;> rfl
  simp only [w0, w1, ite_mul, zero_mul]
  rw [← num, ← den, ← coe_sum]
  exact div_scale A _ ha (sum_weight_pos p t (by obtain ⟨l, hl⟩ := hl; exact ⟨_, hl⟩)) _

end Cert.Softmax

end
-- ==== Proof.WinKernel.lean ====
module

public import proofs.«01_k».proof.Proof.Gen.WinIdeal.Value
public import proofs.«01_k».proof.Proof.Softmax
public import Idealize.ShloMosaic.Lib.Pipeline.ValueKit
public import Idealize.ShloMosaic.Lib.Pointwise

@[expose] public section

set_option maxRecDepth 16384

noncomputable section

/-! The window kernel's four heads, each read at an index: the three blocks of masked scores, their
    exponentials against the greatest, and the average of the values over the column of ones. -/

namespace Cert.WinIdeal.Hand

open Cert.WinIdeal Cert.WinIdeal.Gen Idealize.ShloMosaic Idealize.ShloMosaic.TcCoe Cert.Softmax

theorem mask_bot : (Named.named (F := Ideal) κ "mask" 0xF149F2CA#32 : Ideal .f32) = (⊥ : EReal) := rfl

theorem scale_eq : (Named.named (F := Ideal) κ "scale" 0x3E38AA3B#32 : Ideal .f32) = (((8 * Real.log 2)⁻¹ : ℝ) : EReal) := rfl

theorem neg_inf : (Ideal.ofBits .f32 4286578688#32 : EReal) = ⊥ := by
  simp [Ideal.ofBits, Ideal.ieee]

/-- The masked score of a key in the furthest of the three blocks. -/
def far (g : BitVec 32) (r l : Fin 256) (s : EReal) : EReal :=
  Scalar.select (IntOp.cmpi .slt (IntOp.addi (IntOp.subi (BitVec.ofNat 32 r.val) (BitVec.ofNat 32 l.val)) 512#32)
    (Scalar.select (Scalar.cmpi .sge g 2#32) 512#32 3221225472#32)) s ⊥

/-- The masked score of a key in the block before the query's. -/
def near (g : BitVec 32) (s : EReal) : EReal := s + Scalar.select (Scalar.cmpi .sge g 1#32) (0 : EReal) ⊥

/-- The masked score of a key in the query's own block. -/
def own (r l : Fin 256) (s : EReal) : EReal := Scalar.select (IntOp.cmpi .sle (BitVec.ofNat 32 l.val) (BitVec.ofNat 32 r.val)) s ⊥

/-- Head `h`'s entry at row `r`, column `d`, from the three blocks' scores and values. -/
def headOut (h : Fin 4) (g : BitVec 32) (s0 s1 s2 : FVec Ideal S1024x256 .f32) (w0 w1 w2 : Vec Ideal S1x1x256x128 .bf16) (r : Fin 256) (d : Fin 64) : EReal :=
  blocks (fun l => far g r l (s0 (ix2 ⟨256 * h.val + r.val, by omega⟩ l))) (fun l => near g (s1 (ix2 ⟨256 * h.val + r.val, by omega⟩ l)))
    (fun l => own r l (s2 (ix2 ⟨256 * h.val + r.val, by omega⟩ l)))
    (fun l => w0 (ix4 0 0 l ⟨d.val, by omega⟩)) (fun l => w1 (ix4 0 0 l ⟨d.val, by omega⟩)) (fun l => w2 (ix4 0 0 l ⟨d.val, by omega⟩))
    (fun l => w0 (ix4 0 0 l 64)) (fun l => w1 (ix4 0 0 l 64)) (fun l => w2 (ix4 0 0 l 64))

abbrev rows : IVec S256x1 32 := iota .tc S256x1 32 [0] iota_S256x1_d0_w32
abbrev cols : IVec S1x256 32 := iota .tc S1x256 32 [1] iota_S1x256_d1_w32

set_option maxHeartbeats 4000000 in
theorem head0 (g : BitVec 32) (s0 s1 s2 : FVec Ideal S1024x256 .f32) (w0 w1 w2 : Vec Ideal S1x1x256x128 .bf16) (r : Fin 256) (d : Fin 64)
    (v20 : FVec Ideal S256x256 .f32) (h20 : ∀ r l : Fin 256, v20 (ix2 r l) = s0 (ix2 ⟨r.val, by omega⟩ l)) :
    k0_pay14 (F := Ideal) (k0_pay11 g rows cols s1 s2 v20 (Scalar.select (Scalar.cmpi .sge g 2#32) 512#32 3221225472#32))
      (k0_pay12 g rows cols s1 s2 v20 (Scalar.select (Scalar.cmpi .sge g 2#32) 512#32 3221225472#32) w0)
      (k0_pay13 g rows cols s1 s2 v20 (Scalar.select (Scalar.cmpi .sge g 2#32) 512#32 3221225472#32)) w1 w2 (ix2 r d)
    = headOut 0 g s0 s1 s2 w0 w1 w2 r d := by
  pointwise [k0_pay14, k0_pay12, k0_pay13, k0_pay11, k0_pay7, k0_pay8, k0_pay9, k0_pay10, mask_bot]
  have e : (⟨256 * (0 : Fin 4).val + r.val, by show 256 * 0 + r.val < 1024; omega⟩ : Fin 1024) = ⟨r.val, by omega⟩ := Fin.ext (by show 256 * 0 + r.val = r.val; omega)
  simp only [neg_inf, h20, headOut, blocks, max3, far, near, own, e]
  rfl

set_option maxHeartbeats 4000000 in
theorem head1 (g : BitVec 32) (s0 s1 s2 : FVec Ideal S1024x256 .f32) (w0 w1 w2 : Vec Ideal S1x1x256x128 .bf16) (r : Fin 256) (d : Fin 64) :
    k0_pay21 (F := Ideal) (k0_pay15 g rows cols s0) (k0_pay16 g s1) (k0_pay17 rows cols s2) (k0_pay18 g rows cols s0) (k0_pay19 g s1) (k0_pay20 rows cols s2) w0 w1 w2 (ix2 r d)
    = headOut 1 g s0 s1 s2 w0 w1 w2 r d := by
  pointwise [k0_pay21, k0_pay15, k0_pay17, k0_pay18, k0_pay19, k0_pay20, k0_pay16, mask_bot]
  simp only [neg_inf, headOut, blocks, max3, far, near, own]
  rfl

set_option maxHeartbeats 4000000 in
theorem head2 (g : BitVec 32) (s0 s1 s2 : FVec Ideal S1024x256 .f32) (w0 w1 w2 : Vec Ideal S1x1x256x128 .bf16) (r : Fin 256) (d : Fin 64) :
    k0_pay32 (F := Ideal) (k0_pay29 g rows cols s1 s2 (k0_pay22 s0) (k0_pay23 g rows cols) k0_pay24 w0)
      (k0_pay30 g rows cols s1 s2 (k0_pay22 s0) (k0_pay23 g rows cols) k0_pay24 w1)
      (k0_pay31 g rows cols s1 s2 (k0_pay22 s0) (k0_pay23 g rows cols) k0_pay24) w2 (ix2 r d)
    = headOut 2 g s0 s1 s2 w0 w1 w2 r d := by
  pointwise [k0_pay32, k0_pay29, k0_pay30, k0_pay31, k0_pay28, k0_pay27, k0_pay26, k0_pay22, k0_pay23, k0_pay24, k0_pay25, mask_bot]
  simp only [neg_inf, headOut, blocks, max3, far, near, own]
  rfl

/-- The scores of one block of keys: row `256·h + r` is head `h`'s query `r`. -/
def scores (q : FVec Ideal S1x256x256 .f32) (k : FVec Ideal S1x1x256x64 .bf16) : FVec Ideal S1024x256 .f32 := fun y =>
  ∑ x : Fin 64, q (ix3 0 ⟨(y 0).val % 256, by omega⟩ ⟨64 * ((y 0).val / 256) + x.val, by have : (y 0).val < 1024 := (y 0).isLt; omega⟩) * (((8 * Real.log 2)⁻¹ : ℝ) : EReal) * k (ix4 0 0 (y 1) x)

variable (i : grid0.Coords) (x0 : Vec Ideal S1x256x256 .f32) (x1 x2 x3 : Vec Ideal S1x1x256x64 .bf16) (x4 x5 x6 : Vec Ideal S1x1x256x128 .bf16)

theorem stacked (x0 : Vec Ideal S1x256x256 .f32) (r : Fin 1024) (x : Fin 64) :
    (if h : r.val < 256 then x0 (ix3 0 ⟨r.val, h⟩ ⟨x.val, by omega⟩)
      else if h : r.val - 256 < 256 then x0 (ix3 0 ⟨r.val - 256, h⟩ ⟨64 + x.val, by omega⟩)
      else if h : r.val - 256 - 256 < 256 then x0 (ix3 0 ⟨r.val - 256 - 256, h⟩ ⟨128 + x.val, by omega⟩)
      else x0 (ix3 0 ⟨r.val - 256 - 256 - 256, by omega⟩ ⟨192 + x.val, by omega⟩))
    = x0 (ix3 0 ⟨r.val % 256, by omega⟩ ⟨64 * (r.val / 256) + x.val, by omega⟩) := by
  split_ifs <;> exact congrArg x0 (by idx_ext)

theorem pay42 : k0_pay42 (F := Ideal) i x0 x1 x2 x3 x4 x5 x6 = scores x0 x1 := by
  funext y
  obtain ⟨r, l, rfl⟩ : ∃ (r : Fin 1024) (l : Fin 256), y = ix2 r l := ⟨y 0, y 1, by idx_ext⟩
  unfold k0_pay42
  pointwise [k0_pay3, k0_pay2, scores, scale_eq]
  refine Finset.sum_congr rfl fun x _ => congrArg (· * (((8 * Real.log 2)⁻¹ : ℝ) : EReal) * x1 (ix4 0 0 l x)) ?_
  exact stacked x0 r x

theorem pay43 : k0_pay43 (F := Ideal) i x0 x1 x2 x3 x4 x5 x6 = scores x0 x2 := by
  funext y
  obtain ⟨r, l, rfl⟩ : ∃ (r : Fin 1024) (l : Fin 256), y = ix2 r l := ⟨y 0, y 1, by idx_ext⟩
  unfold k0_pay43
  pointwise [k0_pay4, k0_pay2, scores, scale_eq]
  refine Finset.sum_congr rfl fun x _ => congrArg (· * (((8 * Real.log 2)⁻¹ : ℝ) : EReal) * x2 (ix4 0 0 l x)) ?_
  exact stacked x0 r x

theorem pay44 : k0_pay44 (F := Ideal) i x0 x1 x2 x3 x4 x5 x6 = scores x0 x3 := by
  funext y
  obtain ⟨r, l, rfl⟩ : ∃ (r : Fin 1024) (l : Fin 256), y = ix2 r l := ⟨y 0, y 1, by idx_ext⟩
  unfold k0_pay44
  pointwise [k0_pay5, k0_pay2, scores, scale_eq]
  refine Finset.sum_congr rfl fun x _ => congrArg (· * (((8 * Real.log 2)⁻¹ : ℝ) : EReal) * x3 (ix4 0 0 l x)) ?_
  exact stacked x0 r x

theorem first (r l : Fin 256) : k0_pay45 (F := Ideal) i x0 x1 x2 x3 x4 x5 x6 (ix2 r l) = scores x0 x1 (ix2 ⟨r.val, by omega⟩ l) := by
  rw [← pay42 i x0 x1 x2 x3 x4 x5 x6]
  unfold k0_pay45 k0_pay42
  pointwise [k0_pay6]

/-! ## The four heads side by side -/

section
variable (a0 a1 a2 : FVec Ideal S256x64 .f32) (p0 p1 p2 : FVec Ideal S256x256 .f32) (r : Fin 256) (d : Fin 64)

theorem col0 : k0_pay1 (F := Ideal) a0 a1 a2 p0 p1 p2 x4 x5 x6 (ix3 0 r ⟨d.val, by omega⟩) = a0 (ix2 r d) := by
  pointwise [k0_pay1]

theorem col1 : k0_pay1 (F := Ideal) a0 a1 a2 p0 p1 p2 x4 x5 x6 (ix3 0 r ⟨64 + d.val, by omega⟩) = a1 (ix2 r d) := by
  pointwise [k0_pay1]

theorem col2 : k0_pay1 (F := Ideal) a0 a1 a2 p0 p1 p2 x4 x5 x6 (ix3 0 r ⟨128 + d.val, by omega⟩) = a2 (ix2 r d) := by
  pointwise [k0_pay1]
  rw [dif_neg (by omega), dif_neg (by omega), dif_pos (by omega)]
  exact congrArg a2 (by idx_ext)

theorem col3 : k0_pay1 (F := Ideal) a0 a1 a2 p0 p1 p2 x4 x5 x6 (ix3 0 r ⟨192 + d.val, by omega⟩)
    = Ideal.div ((∑ l, p0 (ix2 r l) * x4 (ix4 0 0 l ⟨d.val, by omega⟩)) + (∑ l, p1 (ix2 r l) * x5 (ix4 0 0 l ⟨d.val, by omega⟩)) + ∑ l, Ideal.exp2 (p2 (ix2 r l)) * x6 (ix4 0 0 l ⟨d.val, by omega⟩))
      ((∑ l, p0 (ix2 r l) * x4 (ix4 0 0 l 64)) + (∑ l, p1 (ix2 r l) * x5 (ix4 0 0 l 64)) + ∑ l, Ideal.exp2 (p2 (ix2 r l)) * x6 (ix4 0 0 l 64)) := by
  pointwise [k0_pay1]
  rw [dif_neg (by omega), dif_neg (by omega), dif_neg (by omega)]
  have e : (⟨192 + d.val - 64 - 64 - 64, by omega⟩ : Fin 128) = ⟨d.val, by omega⟩ := Fin.ext (by show 192 + d.val - 64 - 64 - 64 = d.val; omega)
  simp only [e]
  rfl
end

set_option maxHeartbeats 4000000 in
theorem head3 (g : BitVec 32) (s0 s1 s2 : FVec Ideal S1024x256 .f32) (a0 a1 a2 : FVec Ideal S256x64 .f32) (r : Fin 256) (d : Fin 64) :
    k0_pay1 (F := Ideal) a0 a1 a2 (k0_pay37 g rows cols s0 s1 s2) (k0_pay38 g rows cols s0 s1 s2) (k0_pay39 g rows cols s0 s1 s2) x4 x5 x6 (ix3 0 r ⟨192 + d.val, by omega⟩)
    = headOut 3 g s0 s1 s2 x4 x5 x6 r d := by
  rw [col3]
  pointwise [k0_pay37, k0_pay38, k0_pay39, k0_pay36, k0_pay33, k0_pay34, k0_pay35, mask_bot]
  simp only [neg_inf, headOut, blocks, max3, far, near, own]
  rfl

theorem out0 (r : Fin 256) (d : Fin 64) : out0_7 (F := Ideal) i x0 x1 x2 x3 x4 x5 x6 (ix3 0 r ⟨d.val, by omega⟩)
    = headOut 0 (BitVec.ofNat 32 (i 2).val) (scores x0 x1) (scores x0 x2) (scores x0 x3) x4 x5 x6 r d := by
  unfold out0_7
  simp only [pay42, pay43, pay44, k0_pay40, k0_pay41, k0_pay46, k0_pay47, k0_pay48]
  frame_out
  exact (col0 x4 x5 x6 _ _ _ _ _ _ r d).trans (head0 (BitVec.ofNat 32 (i 2).val) (scores x0 x1) (scores x0 x2) (scores x0 x3) x4 x5 x6 r d _ (first i x0 x1 x2 x3 x4 x5 x6))

theorem out1 (r : Fin 256) (d : Fin 64) : out0_7 (F := Ideal) i x0 x1 x2 x3 x4 x5 x6 (ix3 0 r ⟨64 + d.val, by omega⟩)
    = headOut 1 (BitVec.ofNat 32 (i 2).val) (scores x0 x1) (scores x0 x2) (scores x0 x3) x4 x5 x6 r d := by
  unfold out0_7
  simp only [pay42, pay43, pay44, k0_pay40, k0_pay41, k0_pay46, k0_pay47, k0_pay48]
  frame_out
  exact (col1 x4 x5 x6 _ _ _ _ _ _ r d).trans (head1 (BitVec.ofNat 32 (i 2).val) (scores x0 x1) (scores x0 x2) (scores x0 x3) x4 x5 x6 r d)

theorem out2 (r : Fin 256) (d : Fin 64) : out0_7 (F := Ideal) i x0 x1 x2 x3 x4 x5 x6 (ix3 0 r ⟨128 + d.val, by omega⟩)
    = headOut 2 (BitVec.ofNat 32 (i 2).val) (scores x0 x1) (scores x0 x2) (scores x0 x3) x4 x5 x6 r d := by
  unfold out0_7
  simp only [pay42, pay43, pay44, k0_pay40, k0_pay41, k0_pay46, k0_pay47, k0_pay48]
  frame_out
  exact (col2 x4 x5 x6 _ _ _ _ _ _ r d).trans (head2 (BitVec.ofNat 32 (i 2).val) (scores x0 x1) (scores x0 x2) (scores x0 x3) x4 x5 x6 r d)

theorem out3 (r : Fin 256) (d : Fin 64) : out0_7 (F := Ideal) i x0 x1 x2 x3 x4 x5 x6 (ix3 0 r ⟨192 + d.val, by omega⟩)
    = headOut 3 (BitVec.ofNat 32 (i 2).val) (scores x0 x1) (scores x0 x2) (scores x0 x3) x4 x5 x6 r d := by
  unfold out0_7
  simp only [pay42, pay43, pay44, k0_pay40, k0_pay41, k0_pay46, k0_pay47, k0_pay48]
  frame_out
  exact head3 x4 x5 x6 (BitVec.ofNat 32 (i 2).val) (scores x0 x1) (scores x0 x2) (scores x0 x3) _ _ _ r d

/-- What the body leaves at row `r`, column `64·h + d`: head `h`'s entry. -/
theorem out_at (h : Fin 4) (r : Fin 256) (d : Fin 64) : out0_7 (F := Ideal) i x0 x1 x2 x3 x4 x5 x6 (ix3 0 r ⟨64 * h.val + d.val, by omega⟩)
    = headOut h (BitVec.ofNat 32 (i 2).val) (scores x0 x1) (scores x0 x2) (scores x0 x3) x4 x5 x6 r d := by
  have e : ∀ (a b : Fin 256), a = b → out0_7 (F := Ideal) i x0 x1 x2 x3 x4 x5 x6 (ix3 0 r a) = out0_7 (F := Ideal) i x0 x1 x2 x3 x4 x5 x6 (ix3 0 r b) := fun a b h => h ▸ rfl
  match h with
  | ⟨0, _⟩ => exact (e _ _ (Fin.ext (by show 64 * 0 + d.val = d.val; omega))).trans (out0 i x0 x1 x2 x3 x4 x5 x6 r d)
  | ⟨1, _⟩ => exact out1 i x0 x1 x2 x3 x4 x5 x6 r d
  | ⟨2, _⟩ => exact out2 i x0 x1 x2 x3 x4 x5 x6 r d
  | ⟨3, _⟩ => exact out3 i x0 x1 x2 x3 x4 x5 x6 r d

end Cert.WinIdeal.Hand
-- ==== Proof.WinRefRead.lean ====
module

public import proofs.«01_k».proof.Proof.Gen.WinRefIdeal.Read
public import proofs.«01_k».proof.Proof.Softmax
public import Idealize.ShloMosaic.Lib.Pipeline.ValueKit
public import Idealize.ShloMosaic.Lib.Pointwise
public import Idealize.ShloMosaic.Lib.WordCmp

@[expose] public section

set_option maxRecDepth 16384

noncomputable section

/-! The window reference read at an index: the mean of the values the query's last 512 positions hold,
    weighted by the exponentials of the scaled products. -/

namespace Cert.WinRefIdeal.Hand

open Cert.WinRefIdeal Cert.WinRefIdeal.Read Idealize.ShloMosaic Idealize.ShloMosaic.WordCmp Idealize.ShloMosaic.TcCoe Cert.Softmax

/-- Position `s` sees key `k`: not later than it, and fewer than 512 positions before it. -/
def vis (s k : Fin 4096) : Prop := k.val ≤ s.val ∧ s.val < k.val + 512

instance (s : Fin 4096) : DecidablePred (vis s) := fun k => inferInstanceAs (Decidable (_ ∧ _))

variable (Q : FVec Ideal S8x4096x1024 .f32) (K V : FVec Ideal S8x4x4096x64 .f32)

theorem neg_inf : (Ideal.ofBits .f32 4286578688#32 : EReal) = ⊥ := by
  simp [Ideal.ofBits, Ideal.ieee]

theorem eighth : (Ideal.ofBits .f32 0x3E000000#32 : EReal) = ((1 / 8 : ℝ) : EReal) := by
  simp [Ideal.ofBits, Ideal.ieee, -EReal.coe_mul]; norm_num

theorem mask_at (s k : Fin 4096) : val_main_v12 (F := Ideal) (ix2 s k) = BitVec.ofBool (decide (vis s k)) := by
  simp only [val_main_v12_apply, val_main_v11_apply, val_main_v10_apply, val_main_v9_apply, val_main_v8_apply, val_main_v7_apply, val_main_v6_apply,
    val_main_v5_apply, val_main_v4_apply, val_main_v3_apply, val_main_v2_apply, val_main_c_apply, val_main_c_0_apply]
  pointwise []
  have e : (IntOp.subi (BitVec.ofNat 32 s.val) (BitVec.ofNat 32 k.val)).toInt = (s.val : Int) - (k.val : Int) := by
    show (BitVec.ofNat 32 s.val - BitVec.ofNat 32 k.val).toInt = _
    rw [BitVec.toInt_sub, toInt_ofNat_of_lt (by omega), toInt_ofNat_of_lt (by omega)]
    exact Int.bmod_eq_of_le (by omega) (by omega)
  rw [cmpi_sge_eq, cmpi_slt_eq, e, show (0#32).toInt = 0 from by decide, show (512#32).toInt = 512 from by decide, andi_ofBool, ← Bool.decide_and]
  refine congrArg BitVec.ofBool (decide_eq_decide.mpr ?_)
  show _ ↔ k.val ≤ s.val ∧ s.val < k.val + 512
  omega

variable (b : Fin 8) (g h : Fin 4) (s : Fin 4096)

theorem dot_at (k : Fin 4096) : val_main_v13 (F := Ideal) Q K (ix5 b g h s k)
    = ∑ x : Fin 64, Q (ix3 b s ⟨256 * g.val + 64 * h.val + x.val, by omega⟩) * K (ix4 b g k x) := by
  rw [val_main_v13_apply]
  refine Finset.sum_congr rfl fun x _ => ?_
  rw [val_main_v1_apply, val_main_v0_apply]
  exact congrArg₂ (· * ·) (congrArg Q (by idx_ext)) (congrArg K (by idx_ext))

theorem score_at (S : ℝ) (k : Fin 4096) (hS : ∑ x : Fin 64, Q (ix3 b s ⟨256 * g.val + 64 * h.val + x.val, by omega⟩) * K (ix4 b g k x) = (S : EReal)) :
    val_main_v16 (F := Ideal) Q K (ix5 b g h s k) = score (vis s k) (S / 8) := by
  have e : idx_main_call0_v1 (ix5 b g h s k) = ix2 s k := by idx_ext
  simp only [val_main_v16_apply, val_main_call0_v2_apply, val_main_call0_v1_apply, val_main_call0_v0_apply, val_main_cst_1_apply, val_main_v15_apply, val_main_v14_apply, val_main_cst_apply, dot_at, hS, e, mask_at]
  pointwise []
  rw [eighth, neg_inf]
  show _ = if vis s k then ((S / 8 : ℝ) : EReal) else ⊥
  rw [← EReal.coe_mul, mul_one_div]

theorem max_at : val_main_v19 (F := Ideal) Q K (ix4 b g h s) = Finset.univ.fold max ⊥ fun k => val_main_v16 (F := Ideal) Q K (ix5 b g h s k) := by
  rw [val_main_v19_apply]
  simp only [val_main_v18_apply, val_main_cst_3_apply]
  pointwise [val_main_v17, val_main_cst_2]
  rw [neg_inf, max_eq_right bot_le]

theorem mean_at (S : Fin 4096 → ℝ) (d : Fin 64)
    (hS : ∀ k, ∑ x : Fin 64, Q (ix3 b s ⟨256 * g.val + 64 * h.val + x.val, by omega⟩) * K (ix4 b g k x) = (S k : EReal)) :
    val_main_v32 (F := Ideal) Q K V (ix5 b g h s d) = mean (vis s) (fun k => S k / 8) (fun k => V (ix4 b g k d)) := by
  rw [val_main_v32_apply]
  have e1 : ∀ k, lidx_main_v32 (ix5 b g h s d) k = ix5 b g h s k := fun k => by idx_ext
  have e2 : ∀ k, ridx_main_v32 (ix5 b g h s d) k = ix4 b g k d := fun k => by idx_ext
  have e3 : ∀ k, idx_main_v20 (idx_main_v21 (ix5 b g h s k)) = ix4 b g h s := fun k => by idx_ext
  have e4 : ∀ k, idx_main_v25 (idx_main_v26 (ix5 b g h s k)) = ix4 b g h s := fun k => by idx_ext
  have e5 : ∀ k, idx_main_v29 (idx_main_v30 (ix5 b g h s k)) = ix2 s k := fun k => by idx_ext
  have e6 : ∀ k, idx_main_v24 (ix4 b g h s) k = ix5 b g h s k := fun k => by idx_ext
  simp only [e1, e2, val_main_v31_apply, val_main_v30_apply, val_main_v29_apply, val_main_v28_apply, val_main_v27_apply, val_main_v26_apply, val_main_v25_apply,
    val_main_v24_apply, val_main_v23_apply, val_main_v22_apply, val_main_v21_apply, val_main_v20_apply, val_main_cst_4_apply, e3, e4, e5, e6, max_at, mask_at]
  simp only [fun k => score_at Q K b g h s (S k) k (hS k)]
  pointwise []
  have u : ∀ k : Fin 4096, (FloatOps.uitofp .f32 (BitVec.ofBool (decide (vis s k))) : Ideal .f32) = ((if vis s k then 1 else 0 : EReal)) := by
    intro k
    by_cases h : vis s k
    · rw [if_pos h, decide_eq_true h]
      show (((1#1).toNat : ℝ) : EReal) = 1
      simp
    · rw [if_neg h, decide_eq_false h]
      show (((0#1).toNat : ℝ) : EReal) = 0
      simp
  simp only [u]
  exact mean_of_softmax (vis s) (fun k => S k / 8) (fun k => V (ix4 b g k d)) ⟨s, le_refl _, by omega⟩ _ rfl

/-- Result entry `(b, s, 256·g + 64·h + d)`. -/
theorem ref_at (S : Fin 4096 → ℝ) (d : Fin 64)
    (hS : ∀ k, ∑ x : Fin 64, Q (ix3 b s ⟨256 * g.val + 64 * h.val + x.val, by omega⟩) * K (ix4 b g k x) = (S k : EReal)) :
    val_main_v35 (F := Ideal) Q K V (ix3 b s ⟨256 * g.val + 64 * h.val + d.val, by omega⟩) = mean (vis s) (fun k => S k / 8) (fun k => V (ix4 b g k d)) := by
  rw [val_main_v35_apply, val_main_v34_apply, val_main_v33_apply, ← mean_at Q K V b g h s S d hS]
  exact congrArg (val_main_v32 (F := Ideal) Q K V) (by idx_ext)

end Cert.WinRefIdeal.Hand
-- ==== Proof.WinValue.lean ====
module

public import proofs.«01_k».proof.Proof.WinKernel
public import proofs.«01_k».proof.Proof.WinRefRead
public import Idealize.ShloMosaic.Lib.Pipeline.ReadBack

@[expose] public section

set_option maxRecDepth 16384

noncomputable section

/-! The window kernel's result array is the reference's: the blocks each grid point reads, the masks as
    conditions on positions, and the equality of the two means. -/

namespace Cert.WinIdeal.Hand

open Cert.WinIdeal Cert.WinIdeal.Gen Idealize.ShloMosaic Idealize.ShloMosaic.TcCoe Idealize.SL.Sem Cert.Softmax
open Idealize.ShloMosaic.Pipeline (Dat)
open Idealize.ShloMosaic.WordCmp
open Cert.WinRefIdeal.Hand (vis)

variable (m : (ℓ : Loc nD τ sig) → Buf (Elt Ideal) ℓ)

/-! ## The masks -/

theorem far_eq (q : Fin 16) (r l : Fin 256) (s : Fin 4096) (hs : s.val = 256 * q.val + r.val) (t : ℝ) :
    far (BitVec.ofNat 32 q.val) r l (t : EReal) = score (2 ≤ q.val ∧ vis s (key q 2 l)) t := by
  have e : IntOp.addi (IntOp.subi (BitVec.ofNat 32 r.val) (BitVec.ofNat 32 l.val)) 512#32 = BitVec.ofNat 32 (r.val + 512 - l.val) := by
    apply BitVec.eq_of_toNat_eq
    simp [IntOp.addi, IntOp.subi]
    omega
  unfold far score
  rw [e, show Scalar.cmpi .sge (BitVec.ofNat 32 q.val) 2#32 = BitVec.ofBool (decide (2 ≤ q.val)) from cmpi_sge_ofNat (by omega) (by omega)]
  by_cases h : 2 ≤ q.val
  · rw [decide_eq_true h]
    show Scalar.select (IntOp.cmpi .slt _ (BitVec.ofNat 32 512)) _ _ = _
    rw [cmpi_slt_ofNat (by omega) (by omega), select_decide]
    refine if_congr ?_ rfl rfl
    show _ ↔ _ ∧ ((q.val - 2) * 256 + l.val ≤ s.val ∧ s.val < (q.val - 2) * 256 + l.val + 512)
    omega
  · rw [decide_eq_false h, if_neg (fun c => h c.1)]
    refine select_of_eq_zero ?_ _ _
    show IntOp.cmpi .slt _ 3221225472#32 = 0#1
    rw [cmpi_slt_eq, toInt_ofNat_of_lt (by omega), show (3221225472#32).toInt = -1073741824 from by decide, ofBool_decide_eq_zero_iff]
    omega

theorem near_eq (q : Fin 16) (r l : Fin 256) (s : Fin 4096) (hs : s.val = 256 * q.val + r.val) (t : ℝ) :
    near (BitVec.ofNat 32 q.val) (t : EReal) = score (1 ≤ q.val ∧ vis s (key q 1 l)) t := by
  unfold near score
  rw [show Scalar.cmpi .sge (BitVec.ofNat 32 q.val) 1#32 = BitVec.ofBool (decide (1 ≤ q.val)) from cmpi_sge_ofNat (by omega) (by omega), select_decide]
  by_cases h : 1 ≤ q.val
  · have hv : vis s (key q 1 l) := by
      show (q.val - 1) * 256 + l.val ≤ s.val ∧ s.val < (q.val - 1) * 256 + l.val + 512
      omega
    rw [if_pos h, if_pos ⟨h, hv⟩, add_zero]
  · rw [if_neg h, if_neg (fun c => h c.1)]
    exact EReal.add_bot _

theorem own_eq (q : Fin 16) (r l : Fin 256) (s : Fin 4096) (hs : s.val = 256 * q.val + r.val) (t : ℝ) :
    own r l (t : EReal) = score (vis s (key q 0 l)) t := by
  unfold own score
  rw [cmpi_sle_ofNat (by omega) (by omega), select_decide]
  refine if_congr ?_ rfl rfl
  show _ ↔ ((q.val - 0) * 256 + l.val ≤ s.val ∧ s.val < (q.val - 0) * 256 + l.val + 512)
  omega

/-! ## The blocks a grid point reads -/

theorem idx_facts : ∀ t : Fin cfg0.N, win0_0.index t = ![t.val / 64, t.val % 16, t.val / 16 % 4]
    ∧ win0_1.index t = ![t.val / 64, t.val / 16 % 4, t.val % 16 - 2, 0] ∧ win0_2.index t = ![t.val / 64, t.val / 16 % 4, t.val % 16 - 1, 0]
    ∧ win0_3.index t = ![t.val / 64, t.val / 16 % 4, t.val % 16, 0] ∧ win0_4.index t = ![t.val / 64, t.val / 16 % 4, t.val % 16 - 2, 0]
    ∧ win0_5.index t = ![t.val / 64, t.val / 16 % 4, t.val % 16 - 1, 0] ∧ win0_6.index t = ![t.val / 64, t.val / 16 % 4, t.val % 16, 0]
    ∧ win0_7.index t = ![t.val / 64, t.val % 16, t.val / 16 % 4] :=
  (by decide +kernel : ∀ t : Fin grid0.N, _)

theorem coord2 : ∀ t : Fin cfg0.N, (grid0.coords t 2).val = t.val % 16 := (by decide +kernel : ∀ t : Fin grid0.N, _)

variable (c : Dev nD) (t : Fin cfg0.N)

theorem q_in (r x : Fin 256) (b : Fin 8) (g : Fin 4) (q : Fin 16) (hb : b.val = t.val / 64) (hg : g.val = t.val / 16 % 4) (hq : q.val = t.val % 16) :
    (iblk m c 0 t : FVec Ideal S1x256x256 .f32) (ix3 0 r x)
    = (m ((c : Thread nD τ).loc main_arg0) : FVec Ideal S8x4096x1024 .f32) (ix3 b ⟨256 * q.val + r.val, by omega⟩ ⟨256 * g.val + x.val, by omega⟩) := by
  blk_ext! [iblk, V, idx_facts t]

theorem k0_in (l : Fin 256) (x : Fin 64) (b : Fin 8) (g : Fin 4) (q : Fin 16) (hb : b.val = t.val / 64) (hg : g.val = t.val / 16 % 4) (hq : q.val = t.val % 16) :
    (iblk m c 1 t : FVec Ideal S1x1x256x64 .bf16) (ix4 0 0 l x)
    = (m ((c : Thread nD τ).loc main_arg1) : FVec Ideal S8x4x4096x64 .f32) (ix4 b g (key q 2 l) x) := by
  blk_ext! [iblk, V, idx_facts t, key]

theorem k1_in (l : Fin 256) (x : Fin 64) (b : Fin 8) (g : Fin 4) (q : Fin 16) (hb : b.val = t.val / 64) (hg : g.val = t.val / 16 % 4) (hq : q.val = t.val % 16) :
    (iblk m c 2 t : FVec Ideal S1x1x256x64 .bf16) (ix4 0 0 l x)
    = (m ((c : Thread nD τ).loc main_arg1) : FVec Ideal S8x4x4096x64 .f32) (ix4 b g (key q 1 l) x) := by
  blk_ext! [iblk, V, idx_facts t, key]

theorem one_word : (FloatOps.uitofp .f32 (IntOp.cmpi .eq (BitVec.ofNat 32 ((64 : Fin 128).val - 64)) 0#32) : Ideal .f32) = (1 : EReal) := by
  rw [show IntOp.cmpi .eq (BitVec.ofNat 32 ((64 : Fin 128).val - 64)) 0#32 = 1#1 from by decide]
  show (((1#1).toNat : ℝ) : EReal) = 1
  simp

/-- The padded values: a column of the values, and the column of ones. -/
theorem pad_val (b : Fin 8) (g : Fin 4) (k : Fin 4096) (d : Fin 64) :
    (StableHlo.after hostOps0 (fun b => m (c, b)) (Proc.tc.devRef main_v5) : FVec Ideal S8x4x4096x128 .bf16) (ix4 b g k ⟨d.val, by omega⟩)
    = (m ((c : Thread nD τ).loc main_arg2) : FVec Ideal S8x4x4096x64 .f32) (ix4 b g k d) := by
  entry_read
  pointwise

theorem pad_one (b : Fin 8) (g : Fin 4) (k : Fin 4096) :
    (StableHlo.after hostOps0 (fun b => m (c, b)) (Proc.tc.devRef main_v5) : FVec Ideal S8x4x4096x128 .bf16) (ix4 b g k 64) = (1 : EReal) := by
  entry_read
  pointwise
  exact one_word

theorem k2_in (l : Fin 256) (x : Fin 64) (b : Fin 8) (g : Fin 4) (q : Fin 16) (hb : b.val = t.val / 64) (hg : g.val = t.val / 16 % 4) (hq : q.val = t.val % 16) :
    (iblk m c 3 t : FVec Ideal S1x1x256x64 .bf16) (ix4 0 0 l x)
    = (m ((c : Thread nD τ).loc main_arg1) : FVec Ideal S8x4x4096x64 .f32) (ix4 b g (key q 0 l) x) := by
  blk_ext! [iblk, V, idx_facts t, key]

theorem v0_in (l : Fin 256) (d : Fin 64) (b : Fin 8) (g : Fin 4) (q : Fin 16) (hb : b.val = t.val / 64) (hg : g.val = t.val / 16 % 4) (hq : q.val = t.val % 16) :
    (iblk m c 4 t : FVec Ideal S1x1x256x128 .bf16) (ix4 0 0 l ⟨d.val, by omega⟩)
    = (m ((c : Thread nD τ).loc main_arg2) : FVec Ideal S8x4x4096x64 .f32) (ix4 b g (key q 2 l) d) := by
  blk_simp [iblk, V]
  refine (congrArg _ ?_).trans (pad_val m c b g (key q 2 l) d)
  blk_ext [idx_facts t, key]

theorem o0_in (l : Fin 256) : (iblk m c 4 t : FVec Ideal S1x1x256x128 .bf16) (ix4 0 0 l 64) = (1 : EReal) := by
  blk_simp [iblk, V]
  obtain ⟨b, hb⟩ : ∃ b : Fin 8, b.val = t.val / 64 := ⟨⟨t.val / 64, by have : t.val < 512 := t.isLt; omega⟩, rfl⟩
  obtain ⟨g, hg⟩ : ∃ g : Fin 4, g.val = t.val / 16 % 4 := ⟨⟨t.val / 16 % 4, by omega⟩, rfl⟩
  obtain ⟨q, hq⟩ : ∃ q : Fin 16, q.val = t.val % 16 := ⟨⟨t.val % 16, by omega⟩, rfl⟩
  refine (congrArg _ ?_).trans (pad_one m c b g (key q 2 l))
  blk_ext [idx_facts t, key]

theorem v1_in (l : Fin 256) (d : Fin 64) (b : Fin 8) (g : Fin 4) (q : Fin 16) (hb : b.val = t.val / 64) (hg : g.val = t.val / 16 % 4) (hq : q.val = t.val % 16) :
    (iblk m c 5 t : FVec Ideal S1x1x256x128 .bf16) (ix4 0 0 l ⟨d.val, by omega⟩)
    = (m ((c : Thread nD τ).loc main_arg2) : FVec Ideal S8x4x4096x64 .f32) (ix4 b g (key q 1 l) d) := by
  blk_simp [iblk, V]
  refine (congrArg _ ?_).trans (pad_val m c b g (key q 1 l) d)
  blk_ext [idx_facts t, key]

theorem o1_in (l : Fin 256) : (iblk m c 5 t : FVec Ideal S1x1x256x128 .bf16) (ix4 0 0 l 64) = (1 : EReal) := by
  blk_simp [iblk, V]
  obtain ⟨b, hb⟩ : ∃ b : Fin 8, b.val = t.val / 64 := ⟨⟨t.val / 64, by have : t.val < 512 := t.isLt; omega⟩, rfl⟩
  obtain ⟨g, hg⟩ : ∃ g : Fin 4, g.val = t.val / 16 % 4 := ⟨⟨t.val / 16 % 4, by omega⟩, rfl⟩
  obtain ⟨q, hq⟩ : ∃ q : Fin 16, q.val = t.val % 16 := ⟨⟨t.val % 16, by omega⟩, rfl⟩
  refine (congrArg _ ?_).trans (pad_one m c b g (key q 1 l))
  blk_ext [idx_facts t, key]

theorem v2_in (l : Fin 256) (d : Fin 64) (b : Fin 8) (g : Fin 4) (q : Fin 16) (hb : b.val = t.val / 64) (hg : g.val = t.val / 16 % 4) (hq : q.val = t.val % 16) :
    (iblk m c 6 t : FVec Ideal S1x1x256x128 .bf16) (ix4 0 0 l ⟨d.val, by omega⟩)
    = (m ((c : Thread nD τ).loc main_arg2) : FVec Ideal S8x4x4096x64 .f32) (ix4 b g (key q 0 l) d) := by
  blk_simp [iblk, V]
  refine (congrArg _ ?_).trans (pad_val m c b g (key q 0 l) d)
  blk_ext [idx_facts t, key]

theorem o2_in (l : Fin 256) : (iblk m c 6 t : FVec Ideal S1x1x256x128 .bf16) (ix4 0 0 l 64) = (1 : EReal) := by
  blk_simp [iblk, V]
  obtain ⟨b, hb⟩ : ∃ b : Fin 8, b.val = t.val / 64 := ⟨⟨t.val / 64, by have : t.val < 512 := t.isLt; omega⟩, rfl⟩
  obtain ⟨g, hg⟩ : ∃ g : Fin 4, g.val = t.val / 16 % 4 := ⟨⟨t.val / 16 % 4, by omega⟩, rfl⟩
  obtain ⟨q, hq⟩ : ∃ q : Fin 16, q.val = t.val % 16 := ⟨⟨t.val % 16, by omega⟩, rfl⟩
  refine (congrArg _ ?_).trans (pad_one m c b g (key q 0 l))
  blk_ext [idx_facts t, key]

/-! ## The scores as real numbers -/

theorem scores_real (x0 : FVec Ideal S1x256x256 .f32) (x1 : FVec Ideal S1x1x256x64 .bf16) (h : Fin 4) (r l : Fin 256) (a b : Fin 64 → ℝ)
    (ha : ∀ x : Fin 64, x0 (ix3 0 r ⟨64 * h.val + x.val, by omega⟩) = (a x : EReal)) (hb : ∀ x : Fin 64, x1 (ix4 0 0 l x) = (b x : EReal)) :
    scores x0 x1 (ix2 ⟨256 * h.val + r.val, by omega⟩ l) = (((∑ x, a x * b x) / 8 / Real.log 2 : ℝ) : EReal) := by
  have e : (∑ x, a x * b x) / 8 / Real.log 2 = ∑ x, a x * (8 * Real.log 2)⁻¹ * b x := by
    rw [div_div, div_eq_mul_inv, Finset.sum_mul]
    exact Finset.sum_congr rfl fun x _ => by ring
  rw [e, coe_sum]
  refine Finset.sum_congr rfl fun x _ => ?_
  rw [EReal.coe_mul, EReal.coe_mul, ← ha, ← hb]
  refine congrArg₂ (· * ·) (congrArg (· * (((8 * Real.log 2)⁻¹ : ℝ) : EReal)) (congrArg x0 ?_)) rfl
  have e1 : (256 * h.val + r.val) % 256 = r.val := by omega
  have e2 : (256 * h.val + r.val) / 256 = h.val := by omega
  exact congrArg₂ (ix3 (0 : Fin 1)) (Fin.ext e1) (Fin.ext (by show 64 * ((256 * h.val + r.val) / 256) + x.val = _; rw [e2]))

variable (Q : FVec Ideal S8x4096x1024 .f32) (K : FVec Ideal S8x4x4096x64 .f32)

/-- The product of query `s` of head `64·(4g + h)` with key `k`, a real number. -/
def prod (b : Fin 8) (g h : Fin 4) (s k : Fin 4096) : ℝ :=
  ∑ x : Fin 64, (Q (ix3 b s ⟨256 * g.val + 64 * h.val + x.val, by omega⟩) : EReal).toReal * (K (ix4 b g k x) : EReal).toReal

theorem prod_eq (hQ : ∀ i, Q i = ((Q i : EReal).toReal : EReal)) (hK : ∀ i, K i = ((K i : EReal).toReal : EReal)) (b : Fin 8) (g h : Fin 4) (s k : Fin 4096) :
    ∑ x : Fin 64, Q (ix3 b s ⟨256 * g.val + 64 * h.val + x.val, by omega⟩) * K (ix4 b g k x) = (prod Q K b g h s k : EReal) := by
  unfold prod
  rw [coe_sum]
  refine Finset.sum_congr rfl fun x _ => ?_
  rw [EReal.coe_mul, ← hQ, ← hK]

/-! ## One grid point, and the array -/

abbrev argQ : FVec Ideal S8x4096x1024 .f32 := m ((c : Thread nD τ).loc main_arg0)
abbrev argK : FVec Ideal S8x4x4096x64 .f32 := m ((c : Thread nD τ).loc main_arg1)
abbrev argV : FVec Ideal S8x4x4096x64 .f32 := m ((c : Thread nD τ).loc main_arg2)

theorem point_at (hQ : ∀ i, argQ m c i = ((argQ m c i : EReal).toReal : EReal)) (hK : ∀ i, argK m c i = ((argK m c i : EReal).toReal : EReal))
    (h : Fin 4) (r : Fin 256) (d : Fin 64) (b : Fin 8) (g : Fin 4) (q : Fin 16) (s : Fin 4096) (hb : b.val = t.val / 64) (hg : g.val = t.val / 16 % 4) (hq : q.val = t.val % 16)
    (hs : s.val = 256 * q.val + r.val) :
    headOut h (BitVec.ofNat 32 (grid0.coords t 2).val) (scores (iblk m c 0 t) (iblk m c 1 t)) (scores (iblk m c 0 t) (iblk m c 2 t)) (scores (iblk m c 0 t) (iblk m c 3 t))
      (iblk m c 4 t) (iblk m c 5 t) (iblk m c 6 t) r d
    = mean (vis s) (fun k => prod (argQ m c) (argK m c) b g h s k / 8) (fun k => argV m c (ix4 b g k d)) := by
  have hs' : (⟨256 * q.val + r.val, by omega⟩ : Fin 4096) = s := Fin.ext hs.symm
  have qr : ∀ x : Fin 64, (iblk m c 0 t : FVec Ideal S1x256x256 .f32) (ix3 0 r ⟨64 * h.val + x.val, by omega⟩)
      = ((argQ m c (ix3 b s ⟨256 * g.val + 64 * h.val + x.val, by omega⟩) : EReal).toReal : EReal) := fun x => by
    rw [q_in m c t r _ b g q hb hg hq, ← hQ, hs']
    exact congrArg (argQ m c) (congrArg (ix3 b s) (Fin.ext (by show 256 * g.val + (64 * h.val + x.val) = 256 * g.val + 64 * h.val + x.val; omega)))
  rw [coord2, ← hq]
  unfold headOut
  refine blocks_eq_mean q (vis s) (fun k => prod (argQ m c) (argK m c) b g h s k / 8) (fun k => argV m c (ix4 b g k d)) _ _ _ _ _ _ _ _ _
    (fun l => ?_) (fun l => ?_) (fun l => ?_) (fun l => v0_in m c t l d b g q hb hg hq) (fun l => v1_in m c t l d b g q hb hg hq) (fun l => v2_in m c t l d b g q hb hg hq)
    (fun l => o0_in m c t l) (fun l => o1_in m c t l) (fun l => o2_in m c t l) (fun k h0 h1 h2 hk => ?_) ⟨r, ?_⟩
  · rw [scores_real _ _ h r l _ (fun x => (argK m c (ix4 b g (key q 2 l) x) : EReal).toReal) qr (fun x => (k0_in m c t l x b g q hb hg hq).trans (hK _))]
    exact far_eq q r l s hs _
  · rw [scores_real _ _ h r l _ (fun x => (argK m c (ix4 b g (key q 1 l) x) : EReal).toReal) qr (fun x => (k1_in m c t l x b g q hb hg hq).trans (hK _))]
    exact near_eq q r l s hs _
  · rw [scores_real _ _ h r l _ (fun x => (argK m c (ix4 b g (key q 0 l) x) : EReal).toReal) qr (fun x => (k2_in m c t l x b g q hb hg hq).trans (hK _))]
    exact own_eq q r l s hs _
  · have hk' : k.val ≤ s.val ∧ s.val < k.val + 512 := hk
    omega
  · show (q.val - 0) * 256 + r.val ≤ s.val ∧ s.val < (q.val - 0) * 256 + r.val + 512
    omega

theorem point (hQ : ∀ i, argQ m c i = ((argQ m c i : EReal).toReal : EReal)) (hK : ∀ i, argK m c i = ((argK m c i : EReal).toReal : EReal))
    (y : S1x256x256.Idx) (i : S8x4096x1024.Idx) (h0 : (i 0).val = t.val / 64) (h1 : (i 1).val = t.val % 16 * 256 + (y 1).val) (h2 : (i 2).val = t.val / 16 % 4 * 256 + (y 2).val) :
    out0_7 (F := Ideal) (grid0.coords t) (iblk m c 0 t) (iblk m c 1 t) (iblk m c 2 t) (iblk m c 3 t) (iblk m c 4 t) (iblk m c 5 t) (iblk m c 6 t) y
    = Cert.WinRefIdeal.Read.val_main_v35 (F := Ideal) (argQ m c) (argK m c) (argV m c) i := by
  have ht : t.val < 512 := t.isLt
  have y1 : (y 1).val < 256 := (y 1).isLt
  have y2 : (y 2).val < 256 := (y 2).isLt
  obtain ⟨h, hh⟩ : ∃ h : Fin 4, h.val = (y 2).val / 64 := ⟨⟨(y 2).val / 64, by omega⟩, rfl⟩
  obtain ⟨d, hd⟩ : ∃ d : Fin 64, d.val = (y 2).val % 64 := ⟨⟨(y 2).val % 64, by omega⟩, rfl⟩
  obtain ⟨r, hr⟩ : ∃ r : Fin 256, r.val = (y 1).val := ⟨⟨(y 1).val, y1⟩, rfl⟩
  obtain ⟨b, hb⟩ : ∃ b : Fin 8, b.val = t.val / 64 := ⟨⟨t.val / 64, by omega⟩, rfl⟩
  obtain ⟨g, hg⟩ : ∃ g : Fin 4, g.val = t.val / 16 % 4 := ⟨⟨t.val / 16 % 4, by omega⟩, rfl⟩
  obtain ⟨q, hq⟩ : ∃ q : Fin 16, q.val = t.val % 16 := ⟨⟨t.val % 16, by omega⟩, rfl⟩
  obtain ⟨s, hs⟩ : ∃ s : Fin 4096, s.val = 256 * q.val + r.val := ⟨⟨256 * q.val + r.val, by omega⟩, rfl⟩
  have hy : y = ix3 0 r ⟨64 * h.val + d.val, by omega⟩ := by
    funext a
    refine Fin.ext ?_
    match a with
    | ⟨0, _⟩ => have : (y 0).val < 1 := (y 0).isLt
                show (y 0).val = 0
                omega
    | ⟨1, _⟩ => exact hr.symm
    | ⟨2, _⟩ => show (y 2).val = 64 * h.val + d.val
                omega
  have hi : i = ix3 b s ⟨256 * g.val + 64 * h.val + d.val, by omega⟩ := by
    funext a
    refine Fin.ext ?_
    match a with
    | ⟨0, _⟩ => exact h0.trans hb.symm
    | ⟨1, _⟩ => show (i 1).val = s.val
                omega
    | ⟨2, _⟩ => show (i 2).val = 256 * g.val + 64 * h.val + d.val
                omega
  rw [hy, hi, out_at, point_at m c t hQ hK h r d b g q s hb hg hq hs]
  exact (Cert.WinRefIdeal.Hand.ref_at (argQ m c) (argK m c) (argV m c) b g h s (prod (argQ m c) (argK m c) b g h s) d fun k => prod_eq _ _ hQ hK b g h s k).symm

theorem final (hQ : ∀ i, argQ m c i = ((argQ m c i : EReal).toReal : EReal)) (hK : ∀ i, argK m c i = ((argK m c i : EReal).toReal : EReal)) :
    (dats m 0 c).arrAt 7 (cfgs 0).N = Cert.WinRefIdeal.Read.val_main_v35 (F := Ideal) (argQ m c) (argK m c) (argV m c) := by
  refine (dats m 0 c).arrAt_eq_of_covers 7 _ (by decide +kernel) fun t _ y => ?_
  blk_simp
  rw [after0_7]
  refine point m c t hQ hK y _ ?_ ?_ ?_ <;> blk_simp [idx_facts t]

end Cert.WinIdeal.Hand
-- ==== Proof.WinClaim.lean ====
/-
  The sliding-window attention's claims: both programs' frames, the named constants, and that kernel and reference
  end with the same array where no query or key is infinite. The array the kernel leaves is `Cert.WinIdeal.Hand.final`.
-/
module

public import proofs.«01_k».proof.Defs
public import proofs.«01_k».proof.Proof.WinValue
public import proofs.«01_k».proof.Proof.Gen.WinRefIdeal.Run
public import proofs.«01_k».proof.Proof.Gen.Win.Frame
public import proofs.«01_k».proof.Proof.Gen.Win
public import proofs.«01_k».proof.Proof.Gen.WinIdeal
public import proofs.«01_k».proof.Proof.Gen.WinRefIdeal
public import Idealize.ShloMosaic.Lib.Quiescent

@[expose] public section

set_option maxRecDepth 16384

noncomputable section

open Idealize.ShloMosaic Idealize.ShloMosaic.TcCoe Idealize.SL.Sem

namespace Cert.Proof.WinClaim

theorem finite_facts : Cert.Pre_finite_window.Facts := by
  first | exact ⟨⟩ | constructor <;> decide

theorem frame_kernel : Cert.quiescent_Win := fun m ρ _ => Cert.Win.Gen.frame (F := Bits) m ρ

theorem frame_ideal : Cert.quiescent_WinIdeal := fun m ρ _ => Cert.WinIdeal.Gen.frame (F := Ideal) m ρ

theorem frame_ref : Cert.quiescent_WinRefIdeal := fun m ρ _ =>
  (θ_run Cert.WinRefIdeal.defs _ _).mono (fun r h => ⟨fun c => (h c).2, sem_eq_zero_of_no_sems (by decide) r.2⟩) (Cert.WinRefIdeal.Value.run (F := Ideal) m ρ)

section
variable [Cert.Pre_finite_window.Facts]

theorem frame_ideal_pre : Cert.quiescent_WinIdeal_pre_finite_window := fun m ρ _ => Cert.WinIdeal.Gen.frame (F := Ideal) m ρ

theorem frame_ref_pre : Cert.quiescent_WinRefIdeal_pre_finite_window := fun m ρ _ => frame_ref m ρ trivial

/-- A value whose absolute value compares below the word of `+∞` is a real number. -/
theorem real_of_finite (x : Ideal .f32) (h : FloatOps.cmpf .olt (FloatOps.hostAbsf x) (FloatOps.ofBits (F := Ideal) .f32 0x7F800000#32) = 1#1) :
    (x : EReal) = ((x : EReal).toReal : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  have hlt : max (x : EReal) (-(x : EReal)) < ⊤ := by
    by_contra hn
    unfold Ideal.cmp at h
    simp [hn] at h
  rw [max_lt_iff] at hlt
  refine (EReal.coe_toReal hlt.1.ne fun hb => ?_).symm
  rw [hb] at hlt
  exact absurd hlt.2 (by simp)

theorem algebraic : Cert.algebraic_WinIdeal_WinRefIdeal_pre_finite_window := by
  intro m ρ m' ρ' hpre hagree
  refine ⟨fun c => (Cert.WinIdeal.Gen.dats m 0 c).arrAt 7 Cert.WinIdeal.cfg0.N, Cert.WinIdeal.Value.run_blocks (F := Ideal) m ρ, ?_⟩
  refine (θ_run Cert.WinRefIdeal.defs _ _).mono (fun _ h c => ⟨(h c).1.trans ?_, (h c).2⟩) (Cert.WinRefIdeal.Value.run (F := Ideal) m' ρ')
  obtain ⟨e0, e1, e2⟩ := hagree c
  obtain ⟨hq, hk⟩ := hpre c
  refine (Cert.WinRefIdeal.Read.val_main_v35_eq (F := Ideal) m' c).trans ?_
  rw [e0, e1, e2]
  exact (Cert.WinIdeal.Hand.final m c (fun i => real_of_finite _ (congrFun hq i)) (fun i => real_of_finite _ (congrFun hk i))).symm

end

theorem preserves : Cert.preserves_Win_WinIdeal :=
  ⟨IdealRules.named_const.statement Cert.WinIdeal.κ "scale" .f32 0x3E38AA3B#32 (((8 * (Real.log 2))⁻¹ : ℝ) : EReal) rfl,
   IdealRules.named_const.statement Cert.WinIdeal.κ "mask" .f32 0xF149F2CA#32 ⊥ rfl⟩

end Cert.Proof.WinClaim

end
-- ==== Proof.lean ====
module

public import proofs.«01_k».proof.Defs
public import proofs.«01_k».proof.Proof.FfnClaim
public import proofs.«01_k».proof.Proof.ConvClaim
public import proofs.«01_k».proof.Proof.GluClaim
public import proofs.«01_k».proof.Proof.PoolClaim
public import proofs.«01_k».proof.Proof.WinClaim

@[expose] public section

noncomputable section

namespace Cert.Proof

theorem claim : Cert.Claim :=
  haveI := WinClaim.finite_facts
  ⟨Cert.Ffn.Gen.facts, Cert.FfnIdeal.Gen.facts, Cert.FfnRefIdeal.Gen.facts,
  Cert.Conv.Gen.facts, Cert.ConvIdeal.Gen.facts, Cert.ConvRefIdeal.Gen.facts,
  Cert.Glu.Gen.facts, Cert.GluIdeal.Gen.facts, Cert.GluRefIdeal.Gen.facts,
  Cert.Pool.Gen.facts, Cert.PoolIdeal.Gen.facts, Cert.PoolRefIdeal.Gen.facts,
  Cert.Win.Gen.facts, Cert.WinIdeal.Gen.facts, Cert.WinRefIdeal.Gen.facts, WinClaim.finite_facts,
  FfnClaim.frame_kernel, FfnClaim.frame_ideal, FfnClaim.frame_ref,
  ConvClaim.frame_kernel, ConvClaim.frame_ideal, ConvClaim.frame_ref,
  GluClaim.frame_kernel, GluClaim.frame_ideal, GluClaim.frame_ref,
  PoolClaim.frame_kernel, PoolClaim.frame_ideal, PoolClaim.frame_ref,
  WinClaim.frame_kernel, WinClaim.frame_ideal, WinClaim.frame_ideal_pre, WinClaim.frame_ref, WinClaim.frame_ref_pre,
  trivial, FfnClaim.algebraic, trivial, ConvClaim.algebraic, trivial, GluClaim.algebraic, trivial, PoolClaim.algebraic, WinClaim.preserves, WinClaim.algebraic⟩

end Cert.Proof

end
